-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_inputs [hPre_proper_inputs : Cert.Pre_proper_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_proper_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_proper_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_proper_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_proper_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_proper_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_proper_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_inputs [hPre_proper_inputs : Cert.Pre_proper_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_proper_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_proper_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_proper_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_proper_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_proper_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_proper_inputs [hKernelIdeal : Cert.KernelIdeal.Facts] [hPre_proper_inputs : Cert.Pre_proper_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_proper_inputs [hReferenceIdeal : Cert.ReferenceIdeal.Facts] [hPre_proper_inputs : Cert.Pre_proper_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_proper_inputs [hKernelIdeal : Cert.KernelIdeal.Facts] [hReferenceIdeal : Cert.ReferenceIdeal.Facts] [hPre_proper_inputs : Cert.Pre_proper_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v532) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_proper_inputs : Cert.Pre_proper_inputs.Facts),
    quiescent_Kernel (hKernel := hKernel)
    ∧ quiescent_KernelIdeal (hKernelIdeal := hKernelIdeal)
    ∧ quiescent_KernelIdeal_pre_proper_inputs (hKernelIdeal := hKernelIdeal) (hPre_proper_inputs := hPre_proper_inputs)
    ∧ quiescent_ReferenceIdeal (hReferenceIdeal := hReferenceIdeal)
    ∧ quiescent_ReferenceIdeal_pre_proper_inputs (hReferenceIdeal := hReferenceIdeal) (hPre_proper_inputs := hPre_proper_inputs)
    ∧ preserves_Kernel_KernelIdeal
    ∧ algebraic_KernelIdeal_ReferenceIdeal_pre_proper_inputs (hKernelIdeal := hKernelIdeal) (hReferenceIdeal := hReferenceIdeal) (hPre_proper_inputs := hPre_proper_inputs)
-- ==== Pre_proper_inputs.lean ====
abbrev S4x4096x80 : Shape := ⟨3, ![4, 4096, 80]⟩
abbrev S4x4096x4 : Shape := ⟨3, ![4, 4096, 4]⟩
abbrev S4x4096x784 : Shape := ⟨3, ![4, 4096, 784]⟩
abbrev S4x128 : Shape := ⟨2, ![4, 128]⟩
abbrev S4x128x4 : Shape := ⟨3, ![4, 128, 4]⟩
abbrev S4x128x784 : Shape := ⟨3, ![4, 128, 784]⟩
abbrev S_ : Shape := ⟨0, ![]⟩
abbrev S4x4096x2 : Shape := ⟨3, ![4, 4096, 2]⟩
abbrev S4x128x2 : Shape := ⟨3, ![4, 128, 2]⟩

class Facts : Prop where
  bcast_S_S4x4096x4 : S_.BroadcastsInDim S4x4096x4 (![] : Fin 0 → Fin S4x4096x4.rank)
  slices_S4x4096x4_S4x4096x2_0_0_0 : S4x4096x4.Slices ![0, 0, 0] S4x4096x2
  slices_S4x4096x4_S4x4096x2_0_0_2 : S4x4096x4.Slices ![0, 0, 2] S4x4096x2
  bcast_S_S4x128x4 : S_.BroadcastsInDim S4x128x4 (![] : Fin 0 → Fin S4x128x4.rank)
  slices_S4x128x4_S4x128x2_0_0_0 : S4x128x4.Slices ![0, 0, 0] S4x128x2
  slices_S4x128x4_S4x128x2_0_0_2 : S4x128x4.Slices ![0, 0, 2] S4x128x2
  bcast_S_S4x128 : S_.BroadcastsInDim S4x128 (![] : Fin 0 → Fin S4x128.rank)
  bcast_S_S4x128x784 : S_.BroadcastsInDim S4x128x784 (![] : Fin 0 → Fin S4x128x784.rank)

variable [Facts]

def fn_part1 {F : FTy → Type} [FloatOps F] (main_arg3 : IVec S4x128 32) (main_arg5 : FVec F S4x128x784 .f32) (main_v4 : IVec S4x4096x4 1) (main_v7 : IVec S4x4096x2 1) (main_v12 : IVec S4x128x4 1) (main_v15 : IVec S4x128x2 1) (main_v17 : IVec S4x128 1) (main_c_3 : IVec S_ 32) : IVec S4x4096x4 1 × IVec S4x4096x2 1 × IVec S4x128x4 1 × IVec S4x128x2 1 × IVec S4x128 1 × IVec S4x128x784 1 :=
  let main_v18 : IVec S4x128 32 := broadcastInDim S4x128 ![] bcast_S_S4x128 main_c_3
  let main_v19 : IVec S4x128 1 := cmpi .slt main_arg3 main_v18
  let main_v20 : IVec S4x128 1 := andi main_v17 main_v19
  let main_cst_4 : FVec F S_ .f32 := constant S_ .f32 0x00000000#32
  let main_v21 : FVec F S4x128x784 .f32 := broadcastInDim S4x128x784 ![] bcast_S_S4x128x784 main_cst_4
  let main_v22 : IVec S4x128x784 1 := cmpf .oge main_arg5 main_v21
  (main_v4, main_v7, main_v12, main_v15, main_v20, main_v22)

def fn {F : FTy → Type} [FloatOps F] (main_arg0 : FVec F S4x4096x80 .f32) (main_arg1 : FVec F S4x4096x4 .f32) (main_arg2 : FVec F S4x4096x784 .f32) (main_arg3 : IVec S4x128 32) (main_arg4 : FVec F S4x128x4 .f32) (main_arg5 : FVec F S4x128x784 .f32) : IVec S4x4096x4 1 × IVec S4x4096x2 1 × IVec S4x128x4 1 × IVec S4x128x2 1 × IVec S4x128 1 × IVec S4x128x784 1 :=
  let main_cst : FVec F S_ .f32 := constant S_ .f32 0xFF800000#32
  let main_v0 : FVec F S4x4096x4 .f32 := broadcastInDim S4x4096x4 ![] bcast_S_S4x4096x4 main_cst
  let main_v1 : IVec S4x4096x4 1 := cmpf .ogt main_arg1 main_v0
  let main_cst_0 : FVec F S_ .f32 := constant S_ .f32 0x7F800000#32
  let main_v2 : FVec F S4x4096x4 .f32 := broadcastInDim S4x4096x4 ![] bcast_S_S4x4096x4 main_cst_0
  let main_v3 : IVec S4x4096x4 1 := cmpf .olt main_arg1 main_v2
  let main_v4 : IVec S4x4096x4 1 := andi main_v1 main_v3
  let main_v5 : FVec F S4x4096x2 .f32 := (extractStridedSlice S4x4096x2 ![0, 0, 0] · slices_S4x4096x4_S4x4096x2_0_0_0) main_arg1
  let main_v6 : FVec F S4x4096x2 .f32 := (extractStridedSlice S4x4096x2 ![0, 0, 2] · slices_S4x4096x4_S4x4096x2_0_0_2) main_arg1
  let main_v7 : IVec S4x4096x2 1 := cmpf .ole main_v5 main_v6
  let main_cst_1 : FVec F S_ .f32 := constant S_ .f32 0xFF800000#32
  let main_v8 : FVec F S4x128x4 .f32 := broadcastInDim S4x128x4 ![] bcast_S_S4x128x4 main_cst_1
  let main_v9 : IVec S4x128x4 1 := cmpf .ogt main_arg4 main_v8
  let main_cst_2 : FVec F S_ .f32 := constant S_ .f32 0x7F800000#32
  let main_v10 : FVec F S4x128x4 .f32 := broadcastInDim S4x128x4 ![] bcast_S_S4x128x4 main_cst_2
  let main_v11 : IVec S4x128x4 1 := cmpf .olt main_arg4 main_v10
  let main_v12 : IVec S4x128x4 1 := andi main_v9 main_v11
  let main_v13 : FVec F S4x128x2 .f32 := (extractStridedSlice S4x128x2 ![0, 0, 0] · slices_S4x128x4_S4x128x2_0_0_0) main_arg4
  let main_v14 : FVec F S4x128x2 .f32 := (extractStridedSlice S4x128x2 ![0, 0, 2] · slices_S4x128x4_S4x128x2_0_0_2) main_arg4
  let main_v15 : IVec S4x128x2 1 := cmpf .ole main_v13 main_v14
  let main_c : IVec S_ 32 := constantI S_ 32 0#32
  let main_v16 : IVec S4x128 32 := broadcastInDim S4x128 ![] bcast_S_S4x128 main_c
  let main_v17 : IVec S4x128 1 := cmpi .sge main_arg3 main_v16
  let main_c_3 : IVec S_ 32 := constantI S_ 32 80#32
  fn_part1 (F := F) main_arg3 main_arg5 main_v4 main_v7 main_v12 main_v15 main_v17 main_c_3
-- ==== Kernel.lean ====
abbrev S4x4096x80 : Shape := ⟨3, ![4, 4096, 80]⟩
abbrev S4x4096x4 : Shape := ⟨3, ![4, 4096, 4]⟩
abbrev S4x4096x784 : Shape := ⟨3, ![4, 4096, 784]⟩
abbrev S4x128 : Shape := ⟨2, ![4, 128]⟩
abbrev S4x128x4 : Shape := ⟨3, ![4, 128, 4]⟩
abbrev S4x128x784 : Shape := ⟨3, ![4, 128, 784]⟩
abbrev S4x128x1 : Shape := ⟨3, ![4, 128, 1]⟩
abbrev S1x1x80 : Shape := ⟨3, ![1, 1, 80]⟩
abbrev S4x128x80 : Shape := ⟨3, ![4, 128, 80]⟩
abbrev S4x80x128 : Shape := ⟨3, ![4, 80, 128]⟩
abbrev S4x4x128 : Shape := ⟨3, ![4, 4, 128]⟩
abbrev S4x784x128 : Shape := ⟨3, ![4, 784, 128]⟩
abbrev S4x1x128 : Shape := ⟨3, ![4, 1, 128]⟩
abbrev S4x4096x128 : Shape := ⟨3, ![4, 4096, 128]⟩
abbrev S1x4096x80 : Shape := ⟨3, ![1, 4096, 80]⟩
abbrev S1x4096x4 : Shape := ⟨3, ![1, 4096, 4]⟩
abbrev S1x4x128 : Shape := ⟨3, ![1, 4, 128]⟩
abbrev S1x80x128 : Shape := ⟨3, ![1, 80, 128]⟩
abbrev S1x128x80 : Shape := ⟨3, ![1, 128, 80]⟩
abbrev S1x1x128 : Shape := ⟨3, ![1, 1, 128]⟩
abbrev S1x4096x128 : Shape := ⟨3, ![1, 4096, 128]⟩
abbrev S4096x80 : Shape := ⟨2, ![4096, 80]⟩
abbrev S4096x4 : Shape := ⟨2, ![4096, 4]⟩
abbrev S80x128 : Shape := ⟨2, ![80, 128]⟩
abbrev S128x80 : Shape := ⟨2, ![128, 80]⟩
abbrev S4096x1 : Shape := ⟨2, ![4096, 1]⟩
abbrev S1x128 : Shape := ⟨2, ![1, 128]⟩
abbrev S4096x128 : Shape := ⟨2, ![4096, 128]⟩
abbrev S4096 : Shape := ⟨1, ![4096]⟩
abbrev S128 : Shape := ⟨1, ![128]⟩
abbrev S1 : Shape := ⟨1, ![1]⟩
abbrev S1x1x1 : Shape := ⟨3, ![1, 1, 1]⟩
abbrev S1x4096x1 : Shape := ⟨3, ![1, 4096, 1]⟩
abbrev S1x1024x784 : Shape := ⟨3, ![1, 1024, 784]⟩
abbrev S1x1024x128 : Shape := ⟨3, ![1, 1024, 128]⟩
abbrev S1x784x128 : Shape := ⟨3, ![1, 784, 128]⟩
abbrev S1024x784 : Shape := ⟨2, ![1024, 784]⟩
abbrev S784x128 : Shape := ⟨2, ![784, 128]⟩
abbrev S1024x128 : Shape := ⟨2, ![1024, 128]⟩
abbrev S1024 : Shape := ⟨1, ![1024]⟩
abbrev S1024x1 : Shape := ⟨2, ![1024, 1]⟩
abbrev S1x784 : Shape := ⟨2, ![1, 784]⟩
abbrev S1x1024x1 : Shape := ⟨3, ![1, 1024, 1]⟩
abbrev S4x1x5 : Shape := ⟨3, ![4, 1, 5]⟩
abbrev S4x5 : Shape := ⟨2, ![4, 5]⟩
abbrev S_ : Shape := ⟨0, ![]⟩
abbrev S5 : Shape := ⟨1, ![5]⟩
abbrev S4 : Shape := ⟨1, ![4]⟩

abbrev nBuf : Space → Nat
  | .hbm => 61
  | .vmem => 22
  | .smem => 0
  | _ => 0

abbrev bufTy : (tb : Table) → Fin (tcTables nBuf tb) → BufTy
  | .hbm, ⟨0, _⟩ => ⟨S4x4096x80, .f32⟩
  | .hbm, ⟨1, _⟩ => ⟨S4x4096x4, .f32⟩
  | .hbm, ⟨2, _⟩ => ⟨S4x4096x784, .f32⟩
  | .hbm, ⟨3, _⟩ => ⟨S4x128, .i32⟩
  | .hbm, ⟨4, _⟩ => ⟨S4x128x4, .f32⟩
  | .hbm, ⟨5, _⟩ => ⟨S4x128x784, .f32⟩
  | .hbm, ⟨6, _⟩ => ⟨S4x128x1, .i32⟩
  | .hbm, ⟨7, _⟩ => ⟨S1x1x80, .i32⟩
  | .hbm, ⟨8, _⟩ => ⟨S4x128x80, .i32⟩
  | .hbm, ⟨9, _⟩ => ⟨S4x128x80, .i32⟩
  | .hbm, ⟨10, _⟩ => ⟨S4x128x80, .i1⟩
  | .hbm, ⟨11, _⟩ => ⟨S4x128x80, .f32⟩
  | .hbm, ⟨12, _⟩ => ⟨S4x80x128, .f32⟩
  | .hbm, ⟨13, _⟩ => ⟨S4x4x128, .f32⟩
  | .hbm, ⟨14, _⟩ => ⟨S4x784x128, .f32⟩
  | .hbm, ⟨15, _⟩ => ⟨S4x1x128, .f32⟩
  | .hbm, ⟨16, _⟩ => ⟨S4x4096x128, .f32⟩
  | .hbm, ⟨17, _⟩ => ⟨S4x1x128, .f32⟩
  | .hbm, ⟨18, _⟩ => ⟨S4x1x5, .f32⟩
  | .hbm, ⟨19, _⟩ => ⟨S4x5, .f32⟩
  | .hbm, ⟨20, _⟩ => ⟨S_, .f32⟩
  | .hbm, ⟨21, _⟩ => ⟨S5, .f32⟩
  | .hbm, ⟨22, _⟩ => ⟨S4x1x5, .f32⟩
  | .hbm, ⟨23, _⟩ => ⟨S4x5, .f32⟩
  | .hbm, ⟨24, _⟩ => ⟨S_, .f32⟩
  | .hbm, ⟨25, _⟩ => ⟨S5, .f32⟩
  | .hbm, ⟨26, _⟩ => ⟨S5, .f32⟩
  | .hbm, ⟨27, _⟩ => ⟨S1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1, .f32⟩
  | .hbm, ⟨57, _⟩ => ⟨S1, .f32⟩
  | .hbm, ⟨58, _⟩ => ⟨S1, .f32⟩
  | .hbm, ⟨59, _⟩ => ⟨S1, .f32⟩
  | .hbm, ⟨60, _⟩ => ⟨S4, .f32⟩
  | .local _ .vmem, ⟨0, _⟩ => ⟨S1x4096x80, .f32⟩
  | .local _ .vmem, ⟨1, _⟩ => ⟨S1x4096x80, .f32⟩
  | .local _ .vmem, ⟨2, _⟩ => ⟨S1x4096x4, .f32⟩
  | .local _ .vmem, ⟨3, _⟩ => ⟨S1x4096x4, .f32⟩
  | .local _ .vmem, ⟨4, _⟩ => ⟨S1x4x128, .f32⟩
  | .local _ .vmem, ⟨5, _⟩ => ⟨S1x4x128, .f32⟩
  | .local _ .vmem, ⟨6, _⟩ => ⟨S1x80x128, .f32⟩
  | .local _ .vmem, ⟨7, _⟩ => ⟨S1x80x128, .f32⟩
  | .local _ .vmem, ⟨8, _⟩ => ⟨S1x128x80, .f32⟩
  | .local _ .vmem, ⟨9, _⟩ => ⟨S1x128x80, .f32⟩
  | .local _ .vmem, ⟨10, _⟩ => ⟨S1x1x128, .f32⟩
  | .local _ .vmem, ⟨11, _⟩ => ⟨S1x1x128, .f32⟩
  | .local _ .vmem, ⟨12, _⟩ => ⟨S1x4096x128, .f32⟩
  | .local _ .vmem, ⟨13, _⟩ => ⟨S1x4096x128, .f32⟩
  | .local _ .vmem, ⟨14, _⟩ => ⟨S1x1024x784, .f32⟩
  | .local _ .vmem, ⟨15, _⟩ => ⟨S1x1024x784, .f32⟩
  | .local _ .vmem, ⟨16, _⟩ => ⟨S1x1024x128, .f32⟩
  | .local _ .vmem, ⟨17, _⟩ => ⟨S1x1024x128, .f32⟩
  | .local _ .vmem, ⟨18, _⟩ => ⟨S1x784x128, .f32⟩
  | .local _ .vmem, ⟨19, _⟩ => ⟨S1x784x128, .f32⟩
  | .local _ .vmem, ⟨20, _⟩ => ⟨S1x1x128, .f32⟩
  | .local _ .vmem, ⟨21, _⟩ => ⟨S1x1x128, .f32⟩
  | _, _ => ⟨S4x4096x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x80x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x784 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x784x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]
-- ==== ReferenceIdeal.lean ====
abbrev S4x4096x80 : Shape := ⟨3, ![4, 4096, 80]⟩
abbrev S4x4096x4 : Shape := ⟨3, ![4, 4096, 4]⟩
abbrev S4x4096x784 : Shape := ⟨3, ![4, 4096, 784]⟩
abbrev S4x128 : Shape := ⟨2, ![4, 128]⟩
abbrev S4x128x4 : Shape := ⟨3, ![4, 128, 4]⟩
abbrev S4x128x784 : Shape := ⟨3, ![4, 128, 784]⟩
abbrev S4x4096x1 : Shape := ⟨3, ![4, 4096, 1]⟩
abbrev S4x4096 : Shape := ⟨2, ![4, 4096]⟩
abbrev S_ : Shape := ⟨0, ![]⟩
abbrev S4x128x1 : Shape := ⟨3, ![4, 128, 1]⟩
abbrev S4x1x128 : Shape := ⟨3, ![4, 1, 128]⟩
abbrev S4x4096x128 : Shape := ⟨3, ![4, 4096, 128]⟩
abbrev S4x4096x1x4 : Shape := ⟨4, ![4, 4096, 1, 4]⟩
abbrev S4x1x128x4 : Shape := ⟨4, ![4, 1, 128, 4]⟩
abbrev S4x4096x128x4 : Shape := ⟨4, ![4, 4096, 128, 4]⟩
abbrev S4x4096x2 : Shape := ⟨3, ![4, 4096, 2]⟩
abbrev S4x4096x1x2 : Shape := ⟨4, ![4, 4096, 1, 2]⟩
abbrev S4x128x2 : Shape := ⟨3, ![4, 128, 2]⟩
abbrev S4x1x128x2 : Shape := ⟨4, ![4, 1, 128, 2]⟩
abbrev S4x4096x128x2 : Shape := ⟨4, ![4, 4096, 128, 2]⟩
abbrev S4x4096x128x1 : Shape := ⟨4, ![4, 4096, 128, 1]⟩
abbrev S4x128x4096 : Shape := ⟨3, ![4, 128, 4096]⟩
abbrev S4x128x10 : Shape := ⟨3, ![4, 128, 10]⟩
abbrev S4096x128 : Shape := ⟨2, ![4096, 128]⟩
abbrev S1x128 : Shape := ⟨2, ![1, 128]⟩
abbrev S1x1x128 : Shape := ⟨3, ![1, 1, 128]⟩
abbrev S1x80 : Shape := ⟨2, ![1, 80]⟩
abbrev S1x1x80 : Shape := ⟨3, ![1, 1, 80]⟩
abbrev S4x128x80 : Shape := ⟨3, ![4, 128, 80]⟩
abbrev S4 : Shape := ⟨1, ![4]⟩
abbrev S1 : Shape := ⟨1, ![1]⟩

abbrev nBuf : Space → Nat
  | .hbm => 682
  | .vmem => 0
  | .smem => 0
  | _ => 0

abbrev hbmTy0_0 (i : Nat) : BufTy := match i % 128 with
  | 0 => ⟨S4x4096x80, .f32⟩
  | 1 => ⟨S4x4096x4, .f32⟩
  | 2 => ⟨S4x4096x784, .f32⟩
  | 3 => ⟨S4x128, .i32⟩
  | 4 => ⟨S4x128x4, .f32⟩
  | 5 => ⟨S4x128x784, .f32⟩
  | 6 => ⟨S4x4096x1, .f32⟩
  | 7 => ⟨S4x4096, .f32⟩
  | 8 => ⟨S4x4096x1, .f32⟩
  | 9 => ⟨S4x4096, .f32⟩
  | 10 => ⟨S4x4096, .f32⟩
  | 11 => ⟨S_, .f32⟩
  | 12 => ⟨S4x4096, .f32⟩
  | 13 => ⟨S4x4096, .f32⟩
  | 14 => ⟨S4x4096x1, .f32⟩
  | 15 => ⟨S4x4096, .f32⟩
  | 16 => ⟨S4x4096x1, .f32⟩
  | 17 => ⟨S4x4096, .f32⟩
  | 18 => ⟨S4x4096, .f32⟩
  | 19 => ⟨S_, .f32⟩
  | 20 => ⟨S4x4096, .f32⟩
  | 21 => ⟨S4x4096, .f32⟩
  | 22 => ⟨S4x4096x1, .f32⟩
  | 23 => ⟨S4x4096, .f32⟩
  | 24 => ⟨S4x4096x1, .f32⟩
  | 25 => ⟨S4x4096, .f32⟩
  | 26 => ⟨S4x4096, .f32⟩
  | 27 => ⟨S_, .f32⟩
  | 28 => ⟨S4x4096, .f32⟩
  | 29 => ⟨S4x4096, .f32⟩
  | 30 => ⟨S4x4096x1, .f32⟩
  | 31 => ⟨S4x4096, .f32⟩
  | 32 => ⟨S4x4096x1, .f32⟩
  | 33 => ⟨S4x4096, .f32⟩
  | 34 => ⟨S4x4096, .f32⟩
  | 35 => ⟨S_, .f32⟩
  | 36 => ⟨S4x4096, .f32⟩
  | 37 => ⟨S4x4096, .f32⟩
  | 38 => ⟨S4x4096x1, .f32⟩
  | 39 => ⟨S4x128x1, .f32⟩
  | 40 => ⟨S4x128, .f32⟩
  | 41 => ⟨S4x1x128, .f32⟩
  | 42 => ⟨S4x4096x128, .f32⟩
  | 43 => ⟨S4x4096x128, .f32⟩
  | 44 => ⟨S4x4096x128, .i1⟩
  | 45 => ⟨S4x4096x1, .f32⟩
  | 46 => ⟨S4x128x1, .f32⟩
  | 47 => ⟨S4x128, .f32⟩
  | 48 => ⟨S4x1x128, .f32⟩
  | 49 => ⟨S4x4096x128, .f32⟩
  | 50 => ⟨S4x4096x128, .f32⟩
  | 51 => ⟨S4x4096x128, .i1⟩
  | 52 => ⟨S4x4096x128, .i1⟩
  | 53 => ⟨S4x4096x1, .f32⟩
  | 54 => ⟨S4x128x1, .f32⟩
  | 55 => ⟨S4x128, .f32⟩
  | 56 => ⟨S4x1x128, .f32⟩
  | 57 => ⟨S4x4096x128, .f32⟩
  | 58 => ⟨S4x4096x128, .f32⟩
  | 59 => ⟨S4x4096x128, .i1⟩
  | 60 => ⟨S4x4096x128, .i1⟩
  | 61 => ⟨S4x4096x1, .f32⟩
  | 62 => ⟨S4x128x1, .f32⟩
  | 63 => ⟨S4x128, .f32⟩
  | 64 => ⟨S4x1x128, .f32⟩
  | 65 => ⟨S4x4096x128, .f32⟩
  | 66 => ⟨S4x4096x128, .f32⟩
  | 67 => ⟨S4x4096x128, .i1⟩
  | 68 => ⟨S4x4096x128, .i1⟩
  | 69 => ⟨S4x128x1, .f32⟩
  | 70 => ⟨S4x128, .f32⟩
  | 71 => ⟨S4x128x1, .f32⟩
  | 72 => ⟨S4x128, .f32⟩
  | 73 => ⟨S4x128, .f32⟩
  | 74 => ⟨S_, .f32⟩
  | 75 => ⟨S4x128, .f32⟩
  | 76 => ⟨S4x128, .f32⟩
  | 77 => ⟨S4x128x1, .f32⟩
  | 78 => ⟨S4x128, .f32⟩
  | 79 => ⟨S4x128x1, .f32⟩
  | 80 => ⟨S4x128, .f32⟩
  | 81 => ⟨S4x128, .f32⟩
  | 82 => ⟨S_, .f32⟩
  | 83 => ⟨S4x128, .f32⟩
  | 84 => ⟨S4x128, .f32⟩
  | 85 => ⟨S4x4096x1, .f32⟩
  | 86 => ⟨S4x1x128, .f32⟩
  | 87 => ⟨S4x4096x1, .f32⟩
  | 88 => ⟨S_, .f32⟩
  | 89 => ⟨S4x4096x1, .f32⟩
  | 90 => ⟨S4x4096x1, .f32⟩
  | 91 => ⟨S4x4096x128, .f32⟩
  | 92 => ⟨S4x4096x128, .f32⟩
  | 93 => ⟨S4x4096x128, .f32⟩
  | 94 => ⟨S4x4096x128, .f32⟩
  | 95 => ⟨S4x4096x128, .i1⟩
  | 96 => ⟨S4x4096x1, .f32⟩
  | 97 => ⟨S4x1x128, .f32⟩
  | 98 => ⟨S4x4096x1, .f32⟩
  | 99 => ⟨S_, .f32⟩
  | 100 => ⟨S4x4096x1, .f32⟩
  | 101 => ⟨S4x4096x1, .f32⟩
  | 102 => ⟨S4x4096x128, .f32⟩
  | 103 => ⟨S4x4096x128, .f32⟩
  | 104 => ⟨S4x4096x128, .f32⟩
  | 105 => ⟨S4x4096x128, .f32⟩
  | 106 => ⟨S4x4096x128, .i1⟩
  | 107 => ⟨S4x4096x128, .i1⟩
  | 108 => ⟨S4x4096x1, .f32⟩
  | 109 => ⟨S4x1x128, .f32⟩
  | 110 => ⟨S4x4096x1, .f32⟩
  | 111 => ⟨S_, .f32⟩
  | 112 => ⟨S4x4096x1, .f32⟩
  | 113 => ⟨S4x4096x1, .f32⟩
  | 114 => ⟨S4x4096x128, .f32⟩
  | 115 => ⟨S4x4096x128, .f32⟩
  | 116 => ⟨S4x4096x128, .f32⟩
  | 117 => ⟨S4x4096x128, .f32⟩
  | 118 => ⟨S4x4096x128, .i1⟩
  | 119 => ⟨S4x4096x128, .i1⟩
  | 120 => ⟨S4x4096x1, .f32⟩
  | 121 => ⟨S4x1x128, .f32⟩
  | 122 => ⟨S4x4096x1, .f32⟩
  | 123 => ⟨S_, .f32⟩
  | 124 => ⟨S4x4096x1, .f32⟩
  | 125 => ⟨S4x4096x1, .f32⟩
  | 126 => ⟨S4x4096x128, .f32⟩
  | 127 => ⟨S4x4096x128, .f32⟩
  | _ => ⟨S4x4096x80, .f32⟩

abbrev hbmTy0_1 (i : Nat) : BufTy := match i % 128 with
  | 0 => ⟨S4x4096x128, .f32⟩
  | 1 => ⟨S4x4096x128, .f32⟩
  | 2 => ⟨S4x4096x128, .i1⟩
  | 3 => ⟨S4x4096x128, .i1⟩
  | 4 => ⟨S_, .i1⟩
  | 5 => ⟨S4x4096, .i1⟩
  | 6 => ⟨S_, .i1⟩
  | 7 => ⟨S4x4096, .i1⟩
  | 8 => ⟨S4x4096, .i1⟩
  | 9 => ⟨S4x4096x128, .i1⟩
  | 10 => ⟨S4x4096x80, .f32⟩
  | 11 => ⟨S4x4096x80, .f32⟩
  | 12 => ⟨S_, .f32⟩
  | 13 => ⟨S4x4096x80, .f32⟩
  | 14 => ⟨S4x4096x80, .f32⟩
  | 15 => ⟨S_, .f32⟩
  | 16 => ⟨S4x4096x80, .f32⟩
  | 17 => ⟨S4x4096x80, .f32⟩
  | 18 => ⟨S_, .f32⟩
  | 19 => ⟨S4x4096x80, .f32⟩
  | 20 => ⟨S4x4096x80, .f32⟩
  | 21 => ⟨S_, .f32⟩
  | 22 => ⟨S4x4096x80, .f32⟩
  | 23 => ⟨S4x4096x80, .f32⟩
  | 24 => ⟨S4x4096x80, .f32⟩
  | 25 => ⟨S4x4096x80, .f32⟩
  | 26 => ⟨S_, .f32⟩
  | 27 => ⟨S4x4096x80, .f32⟩
  | 28 => ⟨S4x4096x80, .f32⟩
  | 29 => ⟨S_, .f32⟩
  | 30 => ⟨S4x4096x80, .f32⟩
  | 31 => ⟨S4x4096x80, .f32⟩
  | 32 => ⟨S4x4096x80, .f32⟩
  | 33 => ⟨S_, .f32⟩
  | 34 => ⟨S4x4096x80, .f32⟩
  | 35 => ⟨S4x4096x80, .f32⟩
  | 36 => ⟨S4x4096x80, .f32⟩
  | 37 => ⟨S4x4096x80, .f32⟩
  | 38 => ⟨S_, .f32⟩
  | 39 => ⟨S4x4096x80, .f32⟩
  | 40 => ⟨S4x4096x80, .f32⟩
  | 41 => ⟨S_, .f32⟩
  | 42 => ⟨S4x4096x80, .f32⟩
  | 43 => ⟨S4x4096x80, .f32⟩
  | 44 => ⟨S_, .f32⟩
  | 45 => ⟨S4x4096x80, .f32⟩
  | 46 => ⟨S4x4096x80, .f32⟩
  | 47 => ⟨S4x4096x80, .f32⟩
  | 48 => ⟨S_, .i32⟩
  | 49 => ⟨S4x128, .i32⟩
  | 50 => ⟨S4x128, .i1⟩
  | 51 => ⟨S_, .i32⟩
  | 52 => ⟨S4x128, .i32⟩
  | 53 => ⟨S4x128, .i32⟩
  | 54 => ⟨S4x128, .i32⟩
  | 55 => ⟨S4x128x1, .i32⟩
  | 56 => ⟨S4x4096x128, .f32⟩
  | 57 => ⟨S_, .i32⟩
  | 58 => ⟨S4x128, .i32⟩
  | 59 => ⟨S4x128, .i1⟩
  | 60 => ⟨S_, .i32⟩
  | 61 => ⟨S4x128, .i32⟩
  | 62 => ⟨S4x128, .i32⟩
  | 63 => ⟨S4x128, .i32⟩
  | 64 => ⟨S4x128x1, .i32⟩
  | 65 => ⟨S4x4096x128, .f32⟩
  | 66 => ⟨S4x4096x128, .f32⟩
  | 67 => ⟨S_, .f32⟩
  | 68 => ⟨S4x4096x128, .f32⟩
  | 69 => ⟨S4x4096x128, .f32⟩
  | 70 => ⟨S_, .f32⟩
  | 71 => ⟨S4x4096x4, .f32⟩
  | 72 => ⟨S4x4096x4, .f32⟩
  | 73 => ⟨S_, .f32⟩
  | 74 => ⟨S4x128x4, .f32⟩
  | 75 => ⟨S4x128x4, .f32⟩
  | 76 => ⟨S4x4096x1x4, .f32⟩
  | 77 => ⟨S4x1x128x4, .f32⟩
  | 78 => ⟨S4x4096x128x4, .f32⟩
  | 79 => ⟨S4x4096x128x4, .f32⟩
  | 80 => ⟨S4x4096x128x4, .f32⟩
  | 81 => ⟨S4x4096x128x4, .f32⟩
  | 82 => ⟨S_, .f32⟩
  | 83 => ⟨S4x4096x128, .f32⟩
  | 84 => ⟨S_, .f32⟩
  | 85 => ⟨S4x4096x128, .f32⟩
  | 86 => ⟨S4x4096x128, .f32⟩
  | 87 => ⟨S4x4096x1, .f32⟩
  | 88 => ⟨S4x4096, .f32⟩
  | 89 => ⟨S4x4096x1, .f32⟩
  | 90 => ⟨S4x4096, .f32⟩
  | 91 => ⟨S4x4096, .f32⟩
  | 92 => ⟨S4x4096x1, .f32⟩
  | 93 => ⟨S4x4096, .f32⟩
  | 94 => ⟨S4x4096x1, .f32⟩
  | 95 => ⟨S4x4096, .f32⟩
  | 96 => ⟨S4x4096, .f32⟩
  | 97 => ⟨S4x4096, .f32⟩
  | 98 => ⟨S4x128x1, .f32⟩
  | 99 => ⟨S4x128, .f32⟩
  | 100 => ⟨S4x128x1, .f32⟩
  | 101 => ⟨S4x128, .f32⟩
  | 102 => ⟨S4x128, .f32⟩
  | 103 => ⟨S4x128x1, .f32⟩
  | 104 => ⟨S4x128, .f32⟩
  | 105 => ⟨S4x128x1, .f32⟩
  | 106 => ⟨S4x128, .f32⟩
  | 107 => ⟨S4x128, .f32⟩
  | 108 => ⟨S4x128, .f32⟩
  | 109 => ⟨S4x4096x2, .f32⟩
  | 110 => ⟨S4x4096x1x2, .f32⟩
  | 111 => ⟨S4x128x2, .f32⟩
  | 112 => ⟨S4x1x128x2, .f32⟩
  | 113 => ⟨S4x4096x128x2, .f32⟩
  | 114 => ⟨S4x4096x128x2, .f32⟩
  | 115 => ⟨S4x4096x128x2, .f32⟩
  | 116 => ⟨S4x4096x2, .f32⟩
  | 117 => ⟨S4x4096x1x2, .f32⟩
  | 118 => ⟨S4x128x2, .f32⟩
  | 119 => ⟨S4x1x128x2, .f32⟩
  | 120 => ⟨S4x4096x128x2, .f32⟩
  | 121 => ⟨S4x4096x128x2, .f32⟩
  | 122 => ⟨S4x4096x128x2, .f32⟩
  | 123 => ⟨S4x4096x128x2, .f32⟩
  | 124 => ⟨S_, .f32⟩
  | 125 => ⟨S_, .f32⟩
  | 126 => ⟨S4x4096x128x2, .f32⟩
  | 127 => ⟨S4x4096x128x2, .f32⟩
  | _ => ⟨S4x4096x80, .f32⟩

abbrev hbmTy0_2 (i : Nat) : BufTy := match i % 128 with
  | 0 => ⟨S4x4096x128x1, .f32⟩
  | 1 => ⟨S4x4096x128, .f32⟩
  | 2 => ⟨S4x4096x128x1, .f32⟩
  | 3 => ⟨S4x4096x128, .f32⟩
  | 4 => ⟨S4x4096x128, .f32⟩
  | 5 => ⟨S4x4096x1, .f32⟩
  | 6 => ⟨S4x1x128, .f32⟩
  | 7 => ⟨S4x4096x128, .f32⟩
  | 8 => ⟨S4x4096x128, .f32⟩
  | 9 => ⟨S4x4096x128, .f32⟩
  | 10 => ⟨S4x4096x128, .f32⟩
  | 11 => ⟨S_, .f32⟩
  | 12 => ⟨S4x4096x128, .f32⟩
  | 13 => ⟨S4x4096x128, .f32⟩
  | 14 => ⟨S4x4096x128, .f32⟩
  | 15 => ⟨S4x4096x2, .f32⟩
  | 16 => ⟨S4x4096x1x2, .f32⟩
  | 17 => ⟨S4x128x2, .f32⟩
  | 18 => ⟨S4x1x128x2, .f32⟩
  | 19 => ⟨S4x4096x128x2, .f32⟩
  | 20 => ⟨S4x4096x128x2, .f32⟩
  | 21 => ⟨S4x4096x128x2, .f32⟩
  | 22 => ⟨S4x4096x2, .f32⟩
  | 23 => ⟨S4x4096x1x2, .f32⟩
  | 24 => ⟨S4x128x2, .f32⟩
  | 25 => ⟨S4x1x128x2, .f32⟩
  | 26 => ⟨S4x4096x128x2, .f32⟩
  | 27 => ⟨S4x4096x128x2, .f32⟩
  | 28 => ⟨S4x4096x128x2, .f32⟩
  | 29 => ⟨S4x4096x128x2, .f32⟩
  | 30 => ⟨S_, .f32⟩
  | 31 => ⟨S_, .f32⟩
  | 32 => ⟨S4x4096x128x2, .f32⟩
  | 33 => ⟨S4x4096x128x2, .f32⟩
  | 34 => ⟨S4x4096x128x1, .f32⟩
  | 35 => ⟨S4x4096x128, .f32⟩
  | 36 => ⟨S4x4096x128x1, .f32⟩
  | 37 => ⟨S4x4096x128, .f32⟩
  | 38 => ⟨S4x4096x128, .f32⟩
  | 39 => ⟨S4x4096x128, .f32⟩
  | 40 => ⟨S_, .f32⟩
  | 41 => ⟨S4x4096x128, .f32⟩
  | 42 => ⟨S4x4096x128, .f32⟩
  | 43 => ⟨S4x4096x128, .f32⟩
  | 44 => ⟨S4x4096x128, .f32⟩
  | 45 => ⟨S_, .f32⟩
  | 46 => ⟨S4x4096x128, .f32⟩
  | 47 => ⟨S4x4096x128, .f32⟩
  | 48 => ⟨S_, .f32⟩
  | 49 => ⟨S4x4096x128, .f32⟩
  | 50 => ⟨S4x4096x128, .f32⟩
  | 51 => ⟨S4x4096x128, .f32⟩
  | 52 => ⟨S4x4096x128, .f32⟩
  | 53 => ⟨S4x4096x128, .i1⟩
  | 54 => ⟨S4x4096x128, .f32⟩
  | 55 => ⟨S_, .f32⟩
  | 56 => ⟨S4x4096x128, .f32⟩
  | 57 => ⟨S4x4096x128, .f32⟩
  | 58 => ⟨S4x4096x128, .f32⟩
  | 59 => ⟨S4x4096x128, .f32⟩
  | 60 => ⟨S4x4096, .i1⟩
  | 61 => ⟨S4x4096x1, .i1⟩
  | 62 => ⟨S4x4096x1, .f32⟩
  | 63 => ⟨S_, .f32⟩
  | 64 => ⟨S4x4096x1, .f32⟩
  | 65 => ⟨S4x4096x1, .f32⟩
  | 66 => ⟨S4x4096x1, .f32⟩
  | 67 => ⟨S4x4096x128, .f32⟩
  | 68 => ⟨S4x4096x128, .f32⟩
  | 69 => ⟨S4x4096x1, .f32⟩
  | 70 => ⟨S4x4096, .f32⟩
  | 71 => ⟨S4x4096x1, .f32⟩
  | 72 => ⟨S4x4096, .f32⟩
  | 73 => ⟨S4x4096, .f32⟩
  | 74 => ⟨S4x4096x1, .f32⟩
  | 75 => ⟨S4x4096, .f32⟩
  | 76 => ⟨S4x4096x1, .f32⟩
  | 77 => ⟨S4x4096, .f32⟩
  | 78 => ⟨S4x4096, .f32⟩
  | 79 => ⟨S4x4096, .f32⟩
  | 80 => ⟨S4x128x1, .f32⟩
  | 81 => ⟨S4x128, .f32⟩
  | 82 => ⟨S4x128x1, .f32⟩
  | 83 => ⟨S4x128, .f32⟩
  | 84 => ⟨S4x128, .f32⟩
  | 85 => ⟨S4x128x1, .f32⟩
  | 86 => ⟨S4x128, .f32⟩
  | 87 => ⟨S4x128x1, .f32⟩
  | 88 => ⟨S4x128, .f32⟩
  | 89 => ⟨S4x128, .f32⟩
  | 90 => ⟨S4x128, .f32⟩
  | 91 => ⟨S4x4096x2, .f32⟩
  | 92 => ⟨S4x4096x1x2, .f32⟩
  | 93 => ⟨S4x128x2, .f32⟩
  | 94 => ⟨S4x1x128x2, .f32⟩
  | 95 => ⟨S4x4096x128x2, .f32⟩
  | 96 => ⟨S4x4096x128x2, .f32⟩
  | 97 => ⟨S4x4096x128x2, .f32⟩
  | 98 => ⟨S4x4096x2, .f32⟩
  | 99 => ⟨S4x4096x1x2, .f32⟩
  | 100 => ⟨S4x128x2, .f32⟩
  | 101 => ⟨S4x1x128x2, .f32⟩
  | 102 => ⟨S4x4096x128x2, .f32⟩
  | 103 => ⟨S4x4096x128x2, .f32⟩
  | 104 => ⟨S4x4096x128x2, .f32⟩
  | 105 => ⟨S4x4096x128x2, .f32⟩
  | 106 => ⟨S_, .f32⟩
  | 107 => ⟨S_, .f32⟩
  | 108 => ⟨S4x4096x128x2, .f32⟩
  | 109 => ⟨S4x4096x128x2, .f32⟩
  | 110 => ⟨S4x4096x128x1, .f32⟩
  | 111 => ⟨S4x4096x128, .f32⟩
  | 112 => ⟨S4x4096x128x1, .f32⟩
  | 113 => ⟨S4x4096x128, .f32⟩
  | 114 => ⟨S4x4096x128, .f32⟩
  | 115 => ⟨S4x4096x1, .f32⟩
  | 116 => ⟨S4x1x128, .f32⟩
  | 117 => ⟨S4x4096x128, .f32⟩
  | 118 => ⟨S4x4096x128, .f32⟩
  | 119 => ⟨S4x4096x128, .f32⟩
  | 120 => ⟨S4x4096x128, .f32⟩
  | 121 => ⟨S_, .f32⟩
  | 122 => ⟨S4x4096x128, .f32⟩
  | 123 => ⟨S4x4096x128, .f32⟩
  | 124 => ⟨S4x4096x128, .f32⟩
  | 125 => ⟨S4x4096x1, .i1⟩
  | 126 => ⟨S4x4096x1, .f32⟩
  | 127 => ⟨S4x4096x128, .f32⟩
  | _ => ⟨S4x4096x80, .f32⟩

abbrev hbmTy0_3 (i : Nat) : BufTy := match i % 128 with
  | 0 => ⟨S4x4096x128, .f32⟩
  | 1 => ⟨S4x128x4096, .f32⟩
  | 2 => ⟨S4x128x10, .f32⟩
  | 3 => ⟨S4x128x10, .i32⟩
  | 4 => ⟨S_, .f32⟩
  | 5 => ⟨S4x128, .f32⟩
  | 6 => ⟨S4x128, .i32⟩
  | 7 => ⟨S_, .i32⟩
  | 8 => ⟨S_, .i32⟩
  | 9 => ⟨S_, .i32⟩
  | 10 => ⟨S4x128, .i32⟩
  | 11 => ⟨S4x128, .i32⟩
  | 12 => ⟨S_, .i32⟩
  | 13 => ⟨S4x128, .i32⟩
  | 14 => ⟨S4x128, .i32⟩
  | 15 => ⟨S4096x128, .i32⟩
  | 16 => ⟨S4x4096x128, .i32⟩
  | 17 => ⟨S4x4096x128, .f32⟩
  | 18 => ⟨S4x4096x128, .i32⟩
  | 19 => ⟨S4096x128, .i32⟩
  | 20 => ⟨S4x4096x128, .i32⟩
  | 21 => ⟨S4x4096x128, .i32⟩
  | 22 => ⟨S4x4096x128, .i32⟩
  | 23 => ⟨S4x1x128, .i32⟩
  | 24 => ⟨S4x4096x128, .i32⟩
  | 25 => ⟨S4x4096x128, .i1⟩
  | 26 => ⟨S4x4096x128, .i32⟩
  | 27 => ⟨S_, .i32⟩
  | 28 => ⟨S4x4096, .i32⟩
  | 29 => ⟨S_, .i32⟩
  | 30 => ⟨S4x4096, .i32⟩
  | 31 => ⟨S4x4096, .i1⟩
  | 32 => ⟨S_, .f32⟩
  | 33 => ⟨S_, .f32⟩
  | 34 => ⟨S4096x128, .f32⟩
  | 35 => ⟨S4x4096x128, .f32⟩
  | 36 => ⟨S4x4096x128, .f32⟩
  | 37 => ⟨S4096x128, .i32⟩
  | 38 => ⟨S4x4096x128, .i32⟩
  | 39 => ⟨S4x4096x128, .f32⟩
  | 40 => ⟨S4x4096x128, .i32⟩
  | 41 => ⟨S4x4096x1, .i32⟩
  | 42 => ⟨S4x4096, .i32⟩
  | 43 => ⟨S4x4096x1, .i1⟩
  | 44 => ⟨S4x4096x1, .i32⟩
  | 45 => ⟨S1x128, .i32⟩
  | 46 => ⟨S1x1x128, .i32⟩
  | 47 => ⟨S4x4096x128, .i32⟩
  | 48 => ⟨S4x4096x128, .i32⟩
  | 49 => ⟨S4x4096x128, .i1⟩
  | 50 => ⟨S4x4096x128, .i1⟩
  | 51 => ⟨S4x4096x128, .i1⟩
  | 52 => ⟨S_, .i1⟩
  | 53 => ⟨S4x4096, .i1⟩
  | 54 => ⟨S4x4096, .i1⟩
  | 55 => ⟨S_, .f32⟩
  | 56 => ⟨S_, .f32⟩
  | 57 => ⟨S4096x128, .f32⟩
  | 58 => ⟨S4x4096x128, .f32⟩
  | 59 => ⟨S4x4096x128, .f32⟩
  | 60 => ⟨S4096x128, .i32⟩
  | 61 => ⟨S4x4096x128, .i32⟩
  | 62 => ⟨S4x4096x128, .f32⟩
  | 63 => ⟨S4x4096x128, .i32⟩
  | 64 => ⟨S4x4096x1, .i32⟩
  | 65 => ⟨S4x4096, .i32⟩
  | 66 => ⟨S4x4096, .f32⟩
  | 67 => ⟨S4x128x1, .i32⟩
  | 68 => ⟨S1x80, .i32⟩
  | 69 => ⟨S1x1x80, .i32⟩
  | 70 => ⟨S4x128x80, .i32⟩
  | 71 => ⟨S4x128x80, .i32⟩
  | 72 => ⟨S4x128x80, .i1⟩
  | 73 => ⟨S4x128x80, .f32⟩
  | 74 => ⟨S_, .i32⟩
  | 75 => ⟨S4x4096, .i32⟩
  | 76 => ⟨S4x4096, .i1⟩
  | 77 => ⟨S_, .i32⟩
  | 78 => ⟨S4x4096, .i32⟩
  | 79 => ⟨S4x4096, .i32⟩
  | 80 => ⟨S4x4096, .i32⟩
  | 81 => ⟨S4x4096x1, .i32⟩
  | 82 => ⟨S4x4096x80, .f32⟩
  | 83 => ⟨S4x4096x1, .f32⟩
  | 84 => ⟨S4x4096x80, .f32⟩
  | 85 => ⟨S4x4096x80, .f32⟩
  | 86 => ⟨S4x4096x80, .f32⟩
  | 87 => ⟨S4x4096x80, .f32⟩
  | 88 => ⟨S_, .f32⟩
  | 89 => ⟨S4x4096x80, .f32⟩
  | 90 => ⟨S4x4096x80, .f32⟩
  | 91 => ⟨S_, .f32⟩
  | 92 => ⟨S4x4096x80, .f32⟩
  | 93 => ⟨S4x4096x80, .f32⟩
  | 94 => ⟨S_, .f32⟩
  | 95 => ⟨S4x4096x80, .f32⟩
  | 96 => ⟨S4x4096x80, .f32⟩
  | 97 => ⟨S4x4096x80, .f32⟩
  | 98 => ⟨S4x4096x80, .f32⟩
  | 99 => ⟨S4x4096x80, .f32⟩
  | 100 => ⟨S4x4096x80, .f32⟩
  | 101 => ⟨S4x4096x80, .f32⟩
  | 102 => ⟨S4x4096x80, .f32⟩
  | 103 => ⟨S4x4096x80, .f32⟩
  | 104 => ⟨S4x4096x80, .f32⟩
  | 105 => ⟨S_, .f32⟩
  | 106 => ⟨S4x4096x80, .f32⟩
  | 107 => ⟨S4x4096x80, .f32⟩
  | 108 => ⟨S_, .f32⟩
  | 109 => ⟨S4x4096x80, .f32⟩
  | 110 => ⟨S4x4096x80, .f32⟩
  | 111 => ⟨S4x4096x80, .f32⟩
  | 112 => ⟨S4x4096x80, .f32⟩
  | 113 => ⟨S_, .f32⟩
  | 114 => ⟨S4x4096x80, .f32⟩
  | 115 => ⟨S4x4096x80, .f32⟩
  | 116 => ⟨S_, .f32⟩
  | 117 => ⟨S4x4096x80, .f32⟩
  | 118 => ⟨S4x4096x80, .f32⟩
  | 119 => ⟨S_, .f32⟩
  | 120 => ⟨S4x4096x80, .f32⟩
  | 121 => ⟨S4x4096x80, .f32⟩
  | 122 => ⟨S4x4096x80, .f32⟩
  | 123 => ⟨S4x4096x80, .f32⟩
  | 124 => ⟨S_, .f32⟩
  | 125 => ⟨S4x4096x80, .f32⟩
  | 126 => ⟨S4x4096x80, .f32⟩
  | 127 => ⟨S_, .f32⟩
  | _ => ⟨S4x4096x80, .f32⟩

abbrev hbmTy0_4 (i : Nat) : BufTy := match i % 128 with
  | 0 => ⟨S4x4096x80, .f32⟩
  | 1 => ⟨S4x4096x80, .f32⟩
  | 2 => ⟨S4x4096x80, .f32⟩
  | 3 => ⟨S_, .f32⟩
  | 4 => ⟨S4, .f32⟩
  | 5 => ⟨S_, .f32⟩
  | 6 => ⟨S4x4096x4, .f32⟩
  | 7 => ⟨S4x4096x4, .f32⟩
  | 8 => ⟨S_, .i32⟩
  | 9 => ⟨S4x4096, .i32⟩
  | 10 => ⟨S4x4096, .i1⟩
  | 11 => ⟨S_, .i32⟩
  | 12 => ⟨S4x4096, .i32⟩
  | 13 => ⟨S4x4096, .i32⟩
  | 14 => ⟨S4x4096, .i32⟩
  | 15 => ⟨S4x4096x1, .i32⟩
  | 16 => ⟨S4x4096x4, .f32⟩
  | 17 => ⟨S_, .f32⟩
  | 18 => ⟨S4x4096x4, .f32⟩
  | 19 => ⟨S4x4096x4, .f32⟩
  | 20 => ⟨S4x4096x4, .f32⟩
  | 21 => ⟨S4x4096x4, .f32⟩
  | 22 => ⟨S_, .f32⟩
  | 23 => ⟨S4x4096, .f32⟩
  | 24 => ⟨S4x4096, .f32⟩
  | 25 => ⟨S_, .f32⟩
  | 26 => ⟨S4, .f32⟩
  | 27 => ⟨S4x4096x1, .f32⟩
  | 28 => ⟨S4x4096, .f32⟩
  | 29 => ⟨S4x4096x1, .f32⟩
  | 30 => ⟨S4x4096, .f32⟩
  | 31 => ⟨S4x4096, .f32⟩
  | 32 => ⟨S4x4096x1, .f32⟩
  | 33 => ⟨S4x4096, .f32⟩
  | 34 => ⟨S4x4096x1, .f32⟩
  | 35 => ⟨S4x4096, .f32⟩
  | 36 => ⟨S4x4096, .f32⟩
  | 37 => ⟨S4x4096, .f32⟩
  | 38 => ⟨S4x4096x1, .f32⟩
  | 39 => ⟨S4x4096, .f32⟩
  | 40 => ⟨S4x4096x1, .f32⟩
  | 41 => ⟨S4x4096, .f32⟩
  | 42 => ⟨S4x4096, .f32⟩
  | 43 => ⟨S4x4096x1, .f32⟩
  | 44 => ⟨S4x4096, .f32⟩
  | 45 => ⟨S4x4096x1, .f32⟩
  | 46 => ⟨S4x4096, .f32⟩
  | 47 => ⟨S4x4096, .f32⟩
  | 48 => ⟨S4x4096, .f32⟩
  | 49 => ⟨S4x4096x2, .f32⟩
  | 50 => ⟨S4x4096x2, .f32⟩
  | 51 => ⟨S4x4096x2, .f32⟩
  | 52 => ⟨S4x4096x2, .f32⟩
  | 53 => ⟨S4x4096x2, .f32⟩
  | 54 => ⟨S4x4096x2, .f32⟩
  | 55 => ⟨S4x4096x2, .f32⟩
  | 56 => ⟨S_, .f32⟩
  | 57 => ⟨S_, .f32⟩
  | 58 => ⟨S4x4096x2, .f32⟩
  | 59 => ⟨S4x4096x2, .f32⟩
  | 60 => ⟨S4x4096x1, .f32⟩
  | 61 => ⟨S4x4096, .f32⟩
  | 62 => ⟨S4x4096x1, .f32⟩
  | 63 => ⟨S4x4096, .f32⟩
  | 64 => ⟨S4x4096, .f32⟩
  | 65 => ⟨S4x4096, .f32⟩
  | 66 => ⟨S4x4096, .f32⟩
  | 67 => ⟨S_, .f32⟩
  | 68 => ⟨S4x4096, .f32⟩
  | 69 => ⟨S4x4096, .f32⟩
  | 70 => ⟨S4x4096, .f32⟩
  | 71 => ⟨S4x4096x2, .f32⟩
  | 72 => ⟨S4x4096x2, .f32⟩
  | 73 => ⟨S4x4096x2, .f32⟩
  | 74 => ⟨S4x4096x2, .f32⟩
  | 75 => ⟨S4x4096x2, .f32⟩
  | 76 => ⟨S4x4096x2, .f32⟩
  | 77 => ⟨S4x4096x2, .f32⟩
  | 78 => ⟨S_, .f32⟩
  | 79 => ⟨S_, .f32⟩
  | 80 => ⟨S4x4096x2, .f32⟩
  | 81 => ⟨S4x4096x2, .f32⟩
  | 82 => ⟨S4x4096x1, .f32⟩
  | 83 => ⟨S4x4096, .f32⟩
  | 84 => ⟨S4x4096x1, .f32⟩
  | 85 => ⟨S4x4096, .f32⟩
  | 86 => ⟨S4x4096, .f32⟩
  | 87 => ⟨S4x4096, .f32⟩
  | 88 => ⟨S_, .f32⟩
  | 89 => ⟨S4x4096, .f32⟩
  | 90 => ⟨S4x4096, .f32⟩
  | 91 => ⟨S4x4096, .f32⟩
  | 92 => ⟨S4x4096, .f32⟩
  | 93 => ⟨S_, .f32⟩
  | 94 => ⟨S4x4096, .f32⟩
  | 95 => ⟨S4x4096, .f32⟩
  | 96 => ⟨S4x4096, .f32⟩
  | 97 => ⟨S_, .f32⟩
  | 98 => ⟨S4, .f32⟩
  | 99 => ⟨S4x4096x784, .f32⟩
  | 100 => ⟨S4x4096x784, .f32⟩
  | 101 => ⟨S_, .f32⟩
  | 102 => ⟨S4x4096x784, .f32⟩
  | 103 => ⟨S4x4096x784, .f32⟩
  | 104 => ⟨S_, .f32⟩
  | 105 => ⟨S4x4096x784, .f32⟩
  | 106 => ⟨S4x4096x784, .f32⟩
  | 107 => ⟨S_, .i32⟩
  | 108 => ⟨S4x4096, .i32⟩
  | 109 => ⟨S4x4096, .i1⟩
  | 110 => ⟨S_, .i32⟩
  | 111 => ⟨S4x4096, .i32⟩
  | 112 => ⟨S4x4096, .i32⟩
  | 113 => ⟨S4x4096, .i32⟩
  | 114 => ⟨S4x4096x1, .i32⟩
  | 115 => ⟨S4x4096x784, .f32⟩
  | 116 => ⟨S4x4096x784, .f32⟩
  | 117 => ⟨S_, .f32⟩
  | 118 => ⟨S4x4096, .f32⟩
  | 119 => ⟨S_, .f32⟩
  | 120 => ⟨S4x4096, .f32⟩
  | 121 => ⟨S_, .f32⟩
  | 122 => ⟨S4x4096, .f32⟩
  | 123 => ⟨S4x4096, .f32⟩
  | 124 => ⟨S_, .f32⟩
  | 125 => ⟨S4x4096, .f32⟩
  | 126 => ⟨S4x4096, .f32⟩
  | 127 => ⟨S_, .f32⟩
  | _ => ⟨S4x4096x80, .f32⟩

abbrev hbmTy0_5 (i : Nat) : BufTy := match i % 128 with
  | 0 => ⟨S4x4096, .f32⟩
  | 1 => ⟨S4x4096, .f32⟩
  | 2 => ⟨S4x4096, .f32⟩
  | 3 => ⟨S_, .f32⟩
  | 4 => ⟨S4x4096, .f32⟩
  | 5 => ⟨S4x4096, .f32⟩
  | 6 => ⟨S4x4096, .f32⟩
  | 7 => ⟨S_, .f32⟩
  | 8 => ⟨S4, .f32⟩
  | 9 => ⟨S4x4096, .i32⟩
  | 10 => ⟨S_, .i32⟩
  | 11 => ⟨S4, .i32⟩
  | 12 => ⟨S_, .i32⟩
  | 13 => ⟨S_, .i32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S1, .f32⟩
  | 38 => ⟨S1, .f32⟩
  | 39 => ⟨S1, .f32⟩
  | 40 => ⟨S1, .f32⟩
  | 41 => ⟨S4, .f32⟩
  | _ => ⟨S4x4096x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x4096x80, .f32⟩

abbrev bufTy : (tb : Table) → Fin (tcTables nBuf tb) → BufTy
  | .hbm, ⟨i, _⟩ => hbmTy i
  | _, _ => ⟨S4x4096x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_3 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_4 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_5 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_6 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_cst_7 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_cst_8 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_c : Ref sig .tc := ⟨.hbm, 132, rfl⟩
abbrev main_v116 : Ref sig .tc := ⟨.hbm, 133, rfl⟩
abbrev main_c_9 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_cst_10 : Ref sig .tc := ⟨.hbm, 140, rfl⟩
abbrev main_v122 : Ref sig .tc := ⟨.hbm, 141, rfl⟩
abbrev main_v123 : Ref sig .tc := ⟨.hbm, 142, rfl⟩
abbrev main_cst_11 : Ref sig .tc := ⟨.hbm, 143, rfl⟩
abbrev main_v124 : Ref sig .tc := ⟨.hbm, 144, rfl⟩
abbrev main_v125 : Ref sig .tc := ⟨.hbm, 145, rfl⟩
abbrev main_cst_12 : Ref sig .tc := ⟨.hbm, 146, rfl⟩
abbrev main_v126 : Ref sig .tc := ⟨.hbm, 147, rfl⟩
abbrev main_v127 : Ref sig .tc := ⟨.hbm, 148, rfl⟩
abbrev main_cst_13 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_14 : Ref sig .tc := ⟨.hbm, 154, rfl⟩
abbrev main_v132 : Ref sig .tc := ⟨.hbm, 155, rfl⟩
abbrev main_v133 : Ref sig .tc := ⟨.hbm, 156, rfl⟩
abbrev main_cst_15 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_cst_16 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_cst_17 : Ref sig .tc := ⟨.hbm, 166, rfl⟩
abbrev main_v141 : Ref sig .tc := ⟨.hbm, 167, rfl⟩
abbrev main_v142 : Ref sig .tc := ⟨.hbm, 168, rfl⟩
abbrev main_cst_18 : Ref sig .tc := ⟨.hbm, 169, rfl⟩
abbrev main_v143 : Ref sig .tc := ⟨.hbm, 170, rfl⟩
abbrev main_v144 : Ref sig .tc := ⟨.hbm, 171, rfl⟩
abbrev main_cst_19 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_c_20 : Ref sig .tc := ⟨.hbm, 176, rfl⟩
abbrev main_v148 : Ref sig .tc := ⟨.hbm, 177, rfl⟩
abbrev main_v149 : Ref sig .tc := ⟨.hbm, 178, rfl⟩
abbrev main_c_21 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_c_22 : Ref sig .tc := ⟨.hbm, 185, rfl⟩
abbrev main_v155 : Ref sig .tc := ⟨.hbm, 186, rfl⟩
abbrev main_v156 : Ref sig .tc := ⟨.hbm, 187, rfl⟩
abbrev main_c_23 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_cst_24 : Ref sig .tc := ⟨.hbm, 195, rfl⟩
abbrev main_v163 : Ref sig .tc := ⟨.hbm, 196, rfl⟩
abbrev main_v164 : Ref sig .tc := ⟨.hbm, 197, rfl⟩
abbrev main_cst_25 : Ref sig .tc := ⟨.hbm, 198, rfl⟩
abbrev main_v165 : Ref sig .tc := ⟨.hbm, 199, rfl⟩
abbrev main_v166 : Ref sig .tc := ⟨.hbm, 200, rfl⟩
abbrev main_cst_26 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_cst_27 : Ref sig .tc := ⟨.hbm, 210, rfl⟩
abbrev main_v175 : Ref sig .tc := ⟨.hbm, 211, rfl⟩
abbrev main_cst_28 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_cst_29 : Ref sig .tc := ⟨.hbm, 252, rfl⟩
abbrev main_call0_v0 : Ref sig .tc := ⟨.hbm, 253, rfl⟩
abbrev main_call0_v1 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_cst_30 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_cst_31 : Ref sig .tc := ⟨.hbm, 286, rfl⟩
abbrev main_call1_v0 : Ref sig .tc := ⟨.hbm, 287, rfl⟩
abbrev main_call1_v1 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_cst_32 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_cst_33 : Ref sig .tc := ⟨.hbm, 301, rfl⟩
abbrev main_v256 : Ref sig .tc := ⟨.hbm, 302, rfl⟩
abbrev main_v257 : Ref sig .tc := ⟨.hbm, 303, rfl⟩
abbrev main_cst_34 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_cst_35 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_cst_36 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_v274 : Ref sig .tc := ⟨.hbm, 323, rfl⟩
abbrev main_v275 : Ref sig .tc := ⟨.hbm, 324, rfl⟩
abbrev main_v276 : Ref sig .tc := ⟨.hbm, 325, rfl⟩
abbrev main_v277 : Ref sig .tc := ⟨.hbm, 326, rfl⟩
abbrev main_v278 : Ref sig .tc := ⟨.hbm, 327, rfl⟩
abbrev main_v279 : Ref sig .tc := ⟨.hbm, 328, rfl⟩
abbrev main_v280 : Ref sig .tc := ⟨.hbm, 329, rfl⟩
abbrev main_v281 : Ref sig .tc := ⟨.hbm, 330, rfl⟩
abbrev main_v282 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_cst_37 : Ref sig .tc := ⟨.hbm, 362, rfl⟩
abbrev main_call2_v0 : Ref sig .tc := ⟨.hbm, 363, rfl⟩
abbrev main_call2_v1 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_v324 : Ref sig .tc := ⟨.hbm, 376, rfl⟩
abbrev main_cst_38 : Ref sig .tc := ⟨.hbm, 377, rfl⟩
abbrev main_v325 : Ref sig .tc := ⟨.hbm, 378, rfl⟩
abbrev main_v326 : Ref sig .tc := ⟨.hbm, 379, rfl⟩
abbrev main_v327 : Ref sig .tc := ⟨.hbm, 380, rfl⟩
abbrev main_v328 : Ref sig .tc := ⟨.hbm, 381, rfl⟩
abbrev main_v329 : Ref sig .tc := ⟨.hbm, 382, rfl⟩
abbrev main_v330 : Ref sig .tc := ⟨.hbm, 383, rfl⟩
abbrev main_v331 : Ref sig .tc := ⟨.hbm, 384, rfl⟩
abbrev main_v332 : Ref sig .tc := ⟨.hbm, 385, rfl⟩
abbrev main_values : Ref sig .tc := ⟨.hbm, 386, rfl⟩
abbrev main_indices : Ref sig .tc := ⟨.hbm, 387, rfl⟩
abbrev main_cst_39 : Ref sig .tc := ⟨.hbm, 388, rfl⟩
abbrev main_v333 : Ref sig .tc := ⟨.hbm, 389, rfl⟩
abbrev main_v334 : Ref sig .tc := ⟨.hbm, 390, rfl⟩
abbrev main_c_40 : Ref sig .tc := ⟨.hbm, 391, rfl⟩
abbrev main_c_41 : Ref sig .tc := ⟨.hbm, 392, rfl⟩
abbrev main_call3_v0 : Ref sig .tc := ⟨.hbm, 393, rfl⟩
abbrev main_call3_v1 : Ref sig .tc := ⟨.hbm, 394, rfl⟩
abbrev main_call3_v2 : Ref sig .tc := ⟨.hbm, 395, rfl⟩
abbrev main_call3_v3 : Ref sig .tc := ⟨.hbm, 396, rfl⟩
abbrev main_call3_v4 : Ref sig .tc := ⟨.hbm, 397, rfl⟩
abbrev main_v335 : Ref sig .tc := ⟨.hbm, 398, rfl⟩
abbrev main_call4_v0 : Ref sig .tc := ⟨.hbm, 399, rfl⟩
abbrev main_call4_v1 : Ref sig .tc := ⟨.hbm, 400, rfl⟩
abbrev main_call4_v2_0 : Ref sig .tc := ⟨.hbm, 401, rfl⟩
abbrev main_v336 : Ref sig .tc := ⟨.hbm, 402, rfl⟩
abbrev main_call5_v0 : Ref sig .tc := ⟨.hbm, 403, rfl⟩
abbrev main_call5_v1 : Ref sig .tc := ⟨.hbm, 404, rfl⟩
abbrev main_call5_v2_0 : Ref sig .tc := ⟨.hbm, 405, rfl⟩
abbrev main_v337 : Ref sig .tc := ⟨.hbm, 406, rfl⟩
abbrev main_v338 : Ref sig .tc := ⟨.hbm, 407, rfl⟩
abbrev main_v339 : Ref sig .tc := ⟨.hbm, 408, rfl⟩
abbrev main_v340 : Ref sig .tc := ⟨.hbm, 409, rfl⟩
abbrev main_v341 : Ref sig .tc := ⟨.hbm, 410, rfl⟩
abbrev main_c_42 : Ref sig .tc := ⟨.hbm, 411, rfl⟩
abbrev main_v342 : Ref sig .tc := ⟨.hbm, 412, rfl⟩
abbrev main_c_43 : Ref sig .tc := ⟨.hbm, 413, rfl⟩
abbrev main_v343 : Ref sig .tc := ⟨.hbm, 414, rfl⟩
abbrev main_v344 : Ref sig .tc := ⟨.hbm, 415, rfl⟩
abbrev main_cst_44 : Ref sig .tc := ⟨.hbm, 416, rfl⟩
abbrev main_call6_v0 : Ref sig .tc := ⟨.hbm, 417, rfl⟩
abbrev main_call6_v1 : Ref sig .tc := ⟨.hbm, 418, rfl⟩
abbrev main_call6_v2 : Ref sig .tc := ⟨.hbm, 419, rfl⟩
abbrev main_v345 : Ref sig .tc := ⟨.hbm, 420, rfl⟩
abbrev main_call7_v0 : Ref sig .tc := ⟨.hbm, 421, rfl⟩
abbrev main_call7_v1 : Ref sig .tc := ⟨.hbm, 422, rfl⟩
abbrev main_call7_v2_0 : Ref sig .tc := ⟨.hbm, 423, rfl⟩
abbrev main_v346 : Ref sig .tc := ⟨.hbm, 424, rfl⟩
abbrev main_v347 : Ref sig .tc := ⟨.hbm, 425, rfl⟩
abbrev main_v348 : Ref sig .tc := ⟨.hbm, 426, rfl⟩
abbrev main_v349 : Ref sig .tc := ⟨.hbm, 427, rfl⟩
abbrev main_call8_v0 : Ref sig .tc := ⟨.hbm, 428, rfl⟩
abbrev main_call8_v1 : Ref sig .tc := ⟨.hbm, 429, rfl⟩
abbrev main_call8_v2 : Ref sig .tc := ⟨.hbm, 430, rfl⟩
abbrev main_call8_v3 : Ref sig .tc := ⟨.hbm, 431, rfl⟩
abbrev main_call8_v4 : Ref sig .tc := ⟨.hbm, 432, rfl⟩
abbrev main_v350 : Ref sig .tc := ⟨.hbm, 433, rfl⟩
abbrev main_call9_v0 : Ref sig .tc := ⟨.hbm, 434, rfl⟩
abbrev main_v351 : Ref sig .tc := ⟨.hbm, 435, rfl⟩
abbrev main_c_45 : Ref sig .tc := ⟨.hbm, 436, rfl⟩
abbrev main_v352 : Ref sig .tc := ⟨.hbm, 437, rfl⟩
abbrev main_v353 : Ref sig .tc := ⟨.hbm, 438, rfl⟩
abbrev main_cst_46 : Ref sig .tc := ⟨.hbm, 439, rfl⟩
abbrev main_call10_v0 : Ref sig .tc := ⟨.hbm, 440, rfl⟩
abbrev main_call10_v1 : Ref sig .tc := ⟨.hbm, 441, rfl⟩
abbrev main_call10_v2 : Ref sig .tc := ⟨.hbm, 442, rfl⟩
abbrev main_v354 : Ref sig .tc := ⟨.hbm, 443, rfl⟩
abbrev main_call11_v0 : Ref sig .tc := ⟨.hbm, 444, rfl⟩
abbrev main_call11_v1 : Ref sig .tc := ⟨.hbm, 445, rfl⟩
abbrev main_call11_v2_0 : Ref sig .tc := ⟨.hbm, 446, rfl⟩
abbrev main_v355 : Ref sig .tc := ⟨.hbm, 447, rfl⟩
abbrev main_v356 : Ref sig .tc := ⟨.hbm, 448, rfl⟩
abbrev main_v357 : Ref sig .tc := ⟨.hbm, 449, rfl⟩
abbrev main_v358 : Ref sig .tc := ⟨.hbm, 450, rfl⟩
abbrev main_call12_v0 : Ref sig .tc := ⟨.hbm, 451, rfl⟩
abbrev main_call12_v1 : Ref sig .tc := ⟨.hbm, 452, rfl⟩
abbrev main_call12_v2 : Ref sig .tc := ⟨.hbm, 453, rfl⟩
abbrev main_call12_v3 : Ref sig .tc := ⟨.hbm, 454, rfl⟩
abbrev main_call12_v4 : Ref sig .tc := ⟨.hbm, 455, rfl⟩
abbrev main_call12_v5 : Ref sig .tc := ⟨.hbm, 456, rfl⟩
abbrev main_v359 : Ref sig .tc := ⟨.hbm, 457, rfl⟩
abbrev main_c_47 : Ref sig .tc := ⟨.hbm, 458, rfl⟩
abbrev main_v360 : Ref sig .tc := ⟨.hbm, 459, rfl⟩
abbrev main_v361 : Ref sig .tc := ⟨.hbm, 460, rfl⟩
abbrev main_c_48 : Ref sig .tc := ⟨.hbm, 461, rfl⟩
abbrev main_v362 : Ref sig .tc := ⟨.hbm, 462, rfl⟩
abbrev main_v363 : Ref sig .tc := ⟨.hbm, 463, rfl⟩
abbrev main_v364 : Ref sig .tc := ⟨.hbm, 464, rfl⟩
abbrev main_v365 : Ref sig .tc := ⟨.hbm, 465, rfl⟩
abbrev main_v366 : Ref sig .tc := ⟨.hbm, 466, rfl⟩
abbrev main_v367 : Ref sig .tc := ⟨.hbm, 467, rfl⟩
abbrev main_v368 : Ref sig .tc := ⟨.hbm, 468, rfl⟩
abbrev main_v369 : Ref sig .tc := ⟨.hbm, 469, rfl⟩
abbrev main_v370 : Ref sig .tc := ⟨.hbm, 470, rfl⟩
abbrev main_v371 : Ref sig .tc := ⟨.hbm, 471, rfl⟩
abbrev main_cst_49 : Ref sig .tc := ⟨.hbm, 472, rfl⟩
abbrev main_v372 : Ref sig .tc := ⟨.hbm, 473, rfl⟩
abbrev main_v373 : Ref sig .tc := ⟨.hbm, 474, rfl⟩
abbrev main_cst_50 : Ref sig .tc := ⟨.hbm, 475, rfl⟩
abbrev main_v374 : Ref sig .tc := ⟨.hbm, 476, rfl⟩
abbrev main_v375 : Ref sig .tc := ⟨.hbm, 477, rfl⟩
abbrev main_cst_51 : Ref sig .tc := ⟨.hbm, 478, rfl⟩
abbrev main_v376 : Ref sig .tc := ⟨.hbm, 479, rfl⟩
abbrev main_v377 : Ref sig .tc := ⟨.hbm, 480, rfl⟩
abbrev main_v378 : Ref sig .tc := ⟨.hbm, 481, rfl⟩
abbrev main_v379 : Ref sig .tc := ⟨.hbm, 482, rfl⟩
abbrev main_v380 : Ref sig .tc := ⟨.hbm, 483, rfl⟩
abbrev main_v381 : Ref sig .tc := ⟨.hbm, 484, rfl⟩
abbrev main_v382 : Ref sig .tc := ⟨.hbm, 485, rfl⟩
abbrev main_v383 : Ref sig .tc := ⟨.hbm, 486, rfl⟩
abbrev main_v384 : Ref sig .tc := ⟨.hbm, 487, rfl⟩
abbrev main_v385 : Ref sig .tc := ⟨.hbm, 488, rfl⟩
abbrev main_cst_52 : Ref sig .tc := ⟨.hbm, 489, rfl⟩
abbrev main_v386 : Ref sig .tc := ⟨.hbm, 490, rfl⟩
abbrev main_v387 : Ref sig .tc := ⟨.hbm, 491, rfl⟩
abbrev main_cst_53 : Ref sig .tc := ⟨.hbm, 492, rfl⟩
abbrev main_v388 : Ref sig .tc := ⟨.hbm, 493, rfl⟩
abbrev main_v389 : Ref sig .tc := ⟨.hbm, 494, rfl⟩
abbrev main_v390 : Ref sig .tc := ⟨.hbm, 495, rfl⟩
abbrev main_v391 : Ref sig .tc := ⟨.hbm, 496, rfl⟩
abbrev main_cst_54 : Ref sig .tc := ⟨.hbm, 497, rfl⟩
abbrev main_v392 : Ref sig .tc := ⟨.hbm, 498, rfl⟩
abbrev main_v393 : Ref sig .tc := ⟨.hbm, 499, rfl⟩
abbrev main_cst_55 : Ref sig .tc := ⟨.hbm, 500, rfl⟩
abbrev main_v394 : Ref sig .tc := ⟨.hbm, 501, rfl⟩
abbrev main_v395 : Ref sig .tc := ⟨.hbm, 502, rfl⟩
abbrev main_cst_56 : Ref sig .tc := ⟨.hbm, 503, rfl⟩
abbrev main_v396 : Ref sig .tc := ⟨.hbm, 504, rfl⟩
abbrev main_v397 : Ref sig .tc := ⟨.hbm, 505, rfl⟩
abbrev main_v398 : Ref sig .tc := ⟨.hbm, 506, rfl⟩
abbrev main_v399 : Ref sig .tc := ⟨.hbm, 507, rfl⟩
abbrev main_cst_57 : Ref sig .tc := ⟨.hbm, 508, rfl⟩
abbrev main_v400 : Ref sig .tc := ⟨.hbm, 509, rfl⟩
abbrev main_v401 : Ref sig .tc := ⟨.hbm, 510, rfl⟩
abbrev main_cst_58 : Ref sig .tc := ⟨.hbm, 511, rfl⟩
abbrev main_v402 : Ref sig .tc := ⟨.hbm, 512, rfl⟩
abbrev main_v403 : Ref sig .tc := ⟨.hbm, 513, rfl⟩
abbrev main_v404 : Ref sig .tc := ⟨.hbm, 514, rfl⟩
abbrev main_cst_59 : Ref sig .tc := ⟨.hbm, 515, rfl⟩
abbrev main_v405 : Ref sig .tc := ⟨.hbm, 516, rfl⟩
abbrev main_cst_60 : Ref sig .tc := ⟨.hbm, 517, rfl⟩
abbrev main_v406 : Ref sig .tc := ⟨.hbm, 518, rfl⟩
abbrev main_v407 : Ref sig .tc := ⟨.hbm, 519, rfl⟩
abbrev main_c_61 : Ref sig .tc := ⟨.hbm, 520, rfl⟩
abbrev main_v408 : Ref sig .tc := ⟨.hbm, 521, rfl⟩
abbrev main_v409 : Ref sig .tc := ⟨.hbm, 522, rfl⟩
abbrev main_c_62 : Ref sig .tc := ⟨.hbm, 523, rfl⟩
abbrev main_v410 : Ref sig .tc := ⟨.hbm, 524, rfl⟩
abbrev main_v411 : Ref sig .tc := ⟨.hbm, 525, rfl⟩
abbrev main_v412 : Ref sig .tc := ⟨.hbm, 526, rfl⟩
abbrev main_v413 : Ref sig .tc := ⟨.hbm, 527, rfl⟩
abbrev main_v414 : Ref sig .tc := ⟨.hbm, 528, rfl⟩
abbrev main_cst_63 : Ref sig .tc := ⟨.hbm, 529, rfl⟩
abbrev main_v415 : Ref sig .tc := ⟨.hbm, 530, rfl⟩
abbrev main_v416 : Ref sig .tc := ⟨.hbm, 531, rfl⟩
abbrev main_v417 : Ref sig .tc := ⟨.hbm, 532, rfl⟩
abbrev main_v418 : Ref sig .tc := ⟨.hbm, 533, rfl⟩
abbrev main_cst_64 : Ref sig .tc := ⟨.hbm, 534, rfl⟩
abbrev main_v419 : Ref sig .tc := ⟨.hbm, 535, rfl⟩
abbrev main_v420 : Ref sig .tc := ⟨.hbm, 536, rfl⟩
abbrev main_cst_65 : Ref sig .tc := ⟨.hbm, 537, rfl⟩
abbrev main_v421 : Ref sig .tc := ⟨.hbm, 538, rfl⟩
abbrev main_v422 : Ref sig .tc := ⟨.hbm, 539, rfl⟩
abbrev main_v423 : Ref sig .tc := ⟨.hbm, 540, rfl⟩
abbrev main_v424 : Ref sig .tc := ⟨.hbm, 541, rfl⟩
abbrev main_v425 : Ref sig .tc := ⟨.hbm, 542, rfl⟩
abbrev main_v426 : Ref sig .tc := ⟨.hbm, 543, rfl⟩
abbrev main_v427 : Ref sig .tc := ⟨.hbm, 544, rfl⟩
abbrev main_v428 : Ref sig .tc := ⟨.hbm, 545, rfl⟩
abbrev main_v429 : Ref sig .tc := ⟨.hbm, 546, rfl⟩
abbrev main_v430 : Ref sig .tc := ⟨.hbm, 547, rfl⟩
abbrev main_v431 : Ref sig .tc := ⟨.hbm, 548, rfl⟩
abbrev main_v432 : Ref sig .tc := ⟨.hbm, 549, rfl⟩
abbrev main_v433 : Ref sig .tc := ⟨.hbm, 550, rfl⟩
abbrev main_v434 : Ref sig .tc := ⟨.hbm, 551, rfl⟩
abbrev main_v435 : Ref sig .tc := ⟨.hbm, 552, rfl⟩
abbrev main_v436 : Ref sig .tc := ⟨.hbm, 553, rfl⟩
abbrev main_v437 : Ref sig .tc := ⟨.hbm, 554, rfl⟩
abbrev main_v438 : Ref sig .tc := ⟨.hbm, 555, rfl⟩
abbrev main_v439 : Ref sig .tc := ⟨.hbm, 556, rfl⟩
abbrev main_v440 : Ref sig .tc := ⟨.hbm, 557, rfl⟩
abbrev main_v441 : Ref sig .tc := ⟨.hbm, 558, rfl⟩
abbrev main_v442 : Ref sig .tc := ⟨.hbm, 559, rfl⟩
abbrev main_v443 : Ref sig .tc := ⟨.hbm, 560, rfl⟩
abbrev main_v444 : Ref sig .tc := ⟨.hbm, 561, rfl⟩
abbrev main_v445 : Ref sig .tc := ⟨.hbm, 562, rfl⟩
abbrev main_v446 : Ref sig .tc := ⟨.hbm, 563, rfl⟩
abbrev main_v447 : Ref sig .tc := ⟨.hbm, 564, rfl⟩
abbrev main_v448 : Ref sig .tc := ⟨.hbm, 565, rfl⟩
abbrev main_v449 : Ref sig .tc := ⟨.hbm, 566, rfl⟩
abbrev main_v450 : Ref sig .tc := ⟨.hbm, 567, rfl⟩
abbrev main_cst_66 : Ref sig .tc := ⟨.hbm, 568, rfl⟩
abbrev main_call13_v0 : Ref sig .tc := ⟨.hbm, 569, rfl⟩
abbrev main_call13_v1 : Ref sig .tc := ⟨.hbm, 570, rfl⟩
abbrev main_v451 : Ref sig .tc := ⟨.hbm, 571, rfl⟩
abbrev main_v452 : Ref sig .tc := ⟨.hbm, 572, rfl⟩
abbrev main_v453 : Ref sig .tc := ⟨.hbm, 573, rfl⟩
abbrev main_v454 : Ref sig .tc := ⟨.hbm, 574, rfl⟩
abbrev main_v455 : Ref sig .tc := ⟨.hbm, 575, rfl⟩
abbrev main_v456 : Ref sig .tc := ⟨.hbm, 576, rfl⟩
abbrev main_v457 : Ref sig .tc := ⟨.hbm, 577, rfl⟩
abbrev main_v458 : Ref sig .tc := ⟨.hbm, 578, rfl⟩
abbrev main_cst_67 : Ref sig .tc := ⟨.hbm, 579, rfl⟩
abbrev main_v459 : Ref sig .tc := ⟨.hbm, 580, rfl⟩
abbrev main_v460 : Ref sig .tc := ⟨.hbm, 581, rfl⟩
abbrev main_v461 : Ref sig .tc := ⟨.hbm, 582, rfl⟩
abbrev main_v462 : Ref sig .tc := ⟨.hbm, 583, rfl⟩
abbrev main_v463 : Ref sig .tc := ⟨.hbm, 584, rfl⟩
abbrev main_v464 : Ref sig .tc := ⟨.hbm, 585, rfl⟩
abbrev main_v465 : Ref sig .tc := ⟨.hbm, 586, rfl⟩
abbrev main_v466 : Ref sig .tc := ⟨.hbm, 587, rfl⟩
abbrev main_v467 : Ref sig .tc := ⟨.hbm, 588, rfl⟩
abbrev main_v468 : Ref sig .tc := ⟨.hbm, 589, rfl⟩
abbrev main_cst_68 : Ref sig .tc := ⟨.hbm, 590, rfl⟩
abbrev main_call14_v0 : Ref sig .tc := ⟨.hbm, 591, rfl⟩
abbrev main_call14_v1 : Ref sig .tc := ⟨.hbm, 592, rfl⟩
abbrev main_v469 : Ref sig .tc := ⟨.hbm, 593, rfl⟩
abbrev main_v470 : Ref sig .tc := ⟨.hbm, 594, rfl⟩
abbrev main_v471 : Ref sig .tc := ⟨.hbm, 595, rfl⟩
abbrev main_v472 : Ref sig .tc := ⟨.hbm, 596, rfl⟩
abbrev main_v473 : Ref sig .tc := ⟨.hbm, 597, rfl⟩
abbrev main_v474 : Ref sig .tc := ⟨.hbm, 598, rfl⟩
abbrev main_v475 : Ref sig .tc := ⟨.hbm, 599, rfl⟩
abbrev main_cst_69 : Ref sig .tc := ⟨.hbm, 600, rfl⟩
abbrev main_v476 : Ref sig .tc := ⟨.hbm, 601, rfl⟩
abbrev main_v477 : Ref sig .tc := ⟨.hbm, 602, rfl⟩
abbrev main_v478 : Ref sig .tc := ⟨.hbm, 603, rfl⟩
abbrev main_v479 : Ref sig .tc := ⟨.hbm, 604, rfl⟩
abbrev main_cst_70 : Ref sig .tc := ⟨.hbm, 605, rfl⟩
abbrev main_v480 : Ref sig .tc := ⟨.hbm, 606, rfl⟩
abbrev main_v481 : Ref sig .tc := ⟨.hbm, 607, rfl⟩
abbrev main_v482 : Ref sig .tc := ⟨.hbm, 608, rfl⟩
abbrev main_cst_71 : Ref sig .tc := ⟨.hbm, 609, rfl⟩
abbrev main_v483 : Ref sig .tc := ⟨.hbm, 610, rfl⟩
abbrev main_v484 : Ref sig .tc := ⟨.hbm, 611, rfl⟩
abbrev main_v485 : Ref sig .tc := ⟨.hbm, 612, rfl⟩
abbrev main_cst_72 : Ref sig .tc := ⟨.hbm, 613, rfl⟩
abbrev main_v486 : Ref sig .tc := ⟨.hbm, 614, rfl⟩
abbrev main_v487 : Ref sig .tc := ⟨.hbm, 615, rfl⟩
abbrev main_cst_73 : Ref sig .tc := ⟨.hbm, 616, rfl⟩
abbrev main_v488 : Ref sig .tc := ⟨.hbm, 617, rfl⟩
abbrev main_v489 : Ref sig .tc := ⟨.hbm, 618, rfl⟩
abbrev main_c_74 : Ref sig .tc := ⟨.hbm, 619, rfl⟩
abbrev main_v490 : Ref sig .tc := ⟨.hbm, 620, rfl⟩
abbrev main_v491 : Ref sig .tc := ⟨.hbm, 621, rfl⟩
abbrev main_c_75 : Ref sig .tc := ⟨.hbm, 622, rfl⟩
abbrev main_v492 : Ref sig .tc := ⟨.hbm, 623, rfl⟩
abbrev main_v493 : Ref sig .tc := ⟨.hbm, 624, rfl⟩
abbrev main_v494 : Ref sig .tc := ⟨.hbm, 625, rfl⟩
abbrev main_v495 : Ref sig .tc := ⟨.hbm, 626, rfl⟩
abbrev main_v496 : Ref sig .tc := ⟨.hbm, 627, rfl⟩
abbrev main_v497 : Ref sig .tc := ⟨.hbm, 628, rfl⟩
abbrev main_cst_76 : Ref sig .tc := ⟨.hbm, 629, rfl⟩
abbrev main_v498 : Ref sig .tc := ⟨.hbm, 630, rfl⟩
abbrev main_cst_77 : Ref sig .tc := ⟨.hbm, 631, rfl⟩
abbrev main_v499 : Ref sig .tc := ⟨.hbm, 632, rfl⟩
abbrev main_cst_78 : Ref sig .tc := ⟨.hbm, 633, rfl⟩
abbrev main_v500 : Ref sig .tc := ⟨.hbm, 634, rfl⟩
abbrev main_v501 : Ref sig .tc := ⟨.hbm, 635, rfl⟩
abbrev main_cst_79 : Ref sig .tc := ⟨.hbm, 636, rfl⟩
abbrev main_v502 : Ref sig .tc := ⟨.hbm, 637, rfl⟩
abbrev main_v503 : Ref sig .tc := ⟨.hbm, 638, rfl⟩
abbrev main_cst_80 : Ref sig .tc := ⟨.hbm, 639, rfl⟩
abbrev main_v504 : Ref sig .tc := ⟨.hbm, 640, rfl⟩
abbrev main_v505 : Ref sig .tc := ⟨.hbm, 641, rfl⟩
abbrev main_v506 : Ref sig .tc := ⟨.hbm, 642, rfl⟩
abbrev main_cst_81 : Ref sig .tc := ⟨.hbm, 643, rfl⟩
abbrev main_v507 : Ref sig .tc := ⟨.hbm, 644, rfl⟩
abbrev main_v508 : Ref sig .tc := ⟨.hbm, 645, rfl⟩
abbrev main_v509 : Ref sig .tc := ⟨.hbm, 646, rfl⟩
abbrev main_cst_82 : Ref sig .tc := ⟨.hbm, 647, rfl⟩
abbrev main_v510 : Ref sig .tc := ⟨.hbm, 648, rfl⟩
abbrev main_v511 : Ref sig .tc := ⟨.hbm, 649, rfl⟩
abbrev main_c_83 : Ref sig .tc := ⟨.hbm, 650, rfl⟩
abbrev main_v512 : Ref sig .tc := ⟨.hbm, 651, rfl⟩
abbrev main_c_84 : Ref sig .tc := ⟨.hbm, 652, rfl⟩
abbrev main_v513 : Ref sig .tc := ⟨.hbm, 653, rfl⟩
abbrev main_v514 : Ref sig .tc := ⟨.hbm, 654, rfl⟩
abbrev main_cst_85 : Ref sig .tc := ⟨.hbm, 655, rfl⟩
abbrev main_v515 : Ref sig .tc := ⟨.hbm, 656, rfl⟩
abbrev main_cst_86 : Ref sig .tc := ⟨.hbm, 657, rfl⟩
abbrev main_v516 : Ref sig .tc := ⟨.hbm, 658, rfl⟩
abbrev main_cst_87 : Ref sig .tc := ⟨.hbm, 659, rfl⟩
abbrev main_v517 : Ref sig .tc := ⟨.hbm, 660, rfl⟩
abbrev main_v518 : Ref sig .tc := ⟨.hbm, 661, rfl⟩
abbrev main_cst_88 : Ref sig .tc := ⟨.hbm, 662, rfl⟩
abbrev main_v519 : Ref sig .tc := ⟨.hbm, 663, rfl⟩
abbrev main_cst_89 : Ref sig .tc := ⟨.hbm, 664, rfl⟩
abbrev main_v520 : Ref sig .tc := ⟨.hbm, 665, rfl⟩
abbrev main_v521 : Ref sig .tc := ⟨.hbm, 666, rfl⟩
abbrev main_cst_90 : Ref sig .tc := ⟨.hbm, 667, rfl⟩
abbrev main_v522 : Ref sig .tc := ⟨.hbm, 668, rfl⟩
abbrev main_cst_91 : Ref sig .tc := ⟨.hbm, 669, rfl⟩
abbrev main_v523 : Ref sig .tc := ⟨.hbm, 670, rfl⟩
abbrev main_v524 : Ref sig .tc := ⟨.hbm, 671, rfl⟩
abbrev main_cst_92 : Ref sig .tc := ⟨.hbm, 672, rfl⟩
abbrev main_v525 : Ref sig .tc := ⟨.hbm, 673, rfl⟩
abbrev main_cst_93 : Ref sig .tc := ⟨.hbm, 674, rfl⟩
abbrev main_v526 : Ref sig .tc := ⟨.hbm, 675, rfl⟩
abbrev main_v527 : Ref sig .tc := ⟨.hbm, 676, rfl⟩
abbrev main_v528 : Ref sig .tc := ⟨.hbm, 677, rfl⟩
abbrev main_v529 : Ref sig .tc := ⟨.hbm, 678, rfl⟩
abbrev main_v530 : Ref sig .tc := ⟨.hbm, 679, rfl⟩
abbrev main_v531 : Ref sig .tc := ⟨.hbm, 680, rfl⟩
abbrev main_v532 : Ref sig .tc := ⟨.hbm, 681, rfl⟩

abbrev nD : Nat := 1
abbrev τ : Topo := Topo.v7x

variable {F : FTy → Type} [FloatOps F]
-- ==== Proof.RankMath.lean ====
/-
  Ranks of the entries of a finite family, ordered by value and then by position; what a stable sort of the positions does
  in terms of ranks; and the two selection loops (the sum of the ten largest entries, level by level, and the ten smallest
  entries one after the other) in terms of ranks.
-/
module

public import Idealize.ShloMosaic.Lib.SortPrefix
public import Idealize.ShloMosaic.Lib.Pointwise

@[expose] public section

noncomputable section

namespace Cert.Loss

open Finset Idealize.ShloMosaic

variable {n : ℕ} {α : Type} [LinearOrder α]

/-- Entry `k` comes before entry `i`: it is smaller, or equal and at an earlier position. -/
def Bef (c : Fin n → α) (k i : Fin n) : Prop := c k < c i ∨ (c k = c i ∧ k < i)

instance (c : Fin n → α) (k i : Fin n) : Decidable (Bef c k i) := by unfold Bef; infer_instance

/-- The rank of entry `i`: how many entries come before it. -/
def rk (c : Fin n → α) (i : Fin n) : ℕ := (univ.filter fun k => Bef c k i).card

theorem Bef.irrefl (c : Fin n → α) (i : Fin n) : ¬ Bef c i i := by simp [Bef]

theorem Bef.trans {c : Fin n → α} {a b d : Fin n} (h : Bef c a b) (h' : Bef c b d) : Bef c a d := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

theorem Bef.total {c : Fin n → α} {a b : Fin n} (h : a ≠ b) : Bef c a b ∨ Bef c b a := by
  rcases lt_trichotomy (c a) (c b) with h1 | h1 | h1
  · exact Or.inl (Or.inl h1)
  · rcases lt_or_gt_of_ne h with h2 | h2
    · exact Or.inl (Or.inr ⟨h1, h2⟩)
    · exact Or.inr (Or.inr ⟨h1.symm, h2⟩)
  · exact Or.inr (Or.inl h1)

theorem Bef.asymm {c : Fin n → α} {a b : Fin n} (h : Bef c a b) : ¬ Bef c b a := fun h' => Bef.irrefl c a (h.trans h')

theorem rk_lt {c : Fin n → α} {a b : Fin n} (h : Bef c a b) : rk c a < rk c b := by
  apply card_lt_card
  constructor
  · intro k hk
    simp only [mem_filter, mem_univ, true_and] at hk ⊢
    exact hk.trans h
  · intro hs
    have := hs (show a ∈ univ.filter fun k => Bef c k b by simp [h])
    simp only [mem_filter, mem_univ, true_and] at this
    exact Bef.irrefl c a this

theorem rk_lt_iff {c : Fin n → α} {a b : Fin n} : rk c a < rk c b ↔ Bef c a b := by
  refine ⟨fun h => ?_, rk_lt⟩
  by_cases e : a = b
  · subst e; exact absurd h (lt_irrefl _)
  · rcases Bef.total (c := c) e with h' | h'
    · exact h'
    · exact absurd (rk_lt h') (by omega)

theorem rk_inj {c : Fin n → α} {a b : Fin n} (h : rk c a = rk c b) : a = b := by
  by_contra e
  rcases Bef.total (c := c) e with h' | h' <;> have := rk_lt h' <;> omega

theorem rk_lt_n (c : Fin n → α) (i : Fin n) : rk c i < n := by
  have : rk c i < (univ : Finset (Fin n)).card := by
    apply card_lt_card
    constructor
    · exact filter_subset _ _
    · intro hs
      have := hs (mem_univ i)
      simp only [mem_filter, mem_univ, true_and] at this
      exact Bef.irrefl c i this
  simpa using this

theorem rk_surj (c : Fin n → α) (t : ℕ) (ht : t < n) : ∃ i, rk c i = t := by
  have hinj : Function.Injective (fun i : Fin n => (⟨rk c i, rk_lt_n c i⟩ : Fin n)) := by
    intro a b h
    exact rk_inj (c := c) (by simpa using h)
  obtain ⟨i, hi⟩ := (Finite.injective_iff_surjective.mp hinj) ⟨t, ht⟩
  exact ⟨i, by simpa using congrArg Fin.val hi⟩

/-- The entry of rank 0 is the first of the smallest ones. -/
theorem rk_eq_zero {c : Fin n → α} {i : Fin n} : rk c i = 0 ↔ ∀ k, ¬ Bef c k i := by
  simp [rk, Finset.filter_eq_empty_iff]

/-! ## A stable sort of the positions by a key -/

theorem stableSort_eq_refined (c : Fin n → α) (B : Fin n → Fin n → Bool) (hB : ∀ k k', B k k' = decide (c k < c k'))
    (l : List (Fin n)) (hl : l.Pairwise (· < ·)) :
    stableSort B l = stableSort (fun k k' => decide (Bef c k k')) l := by
  induction l with
  | nil => rfl
  | cons a l ih =>
    rw [List.pairwise_cons] at hl
    unfold stableSort
    rw [← ih hl.2]
    apply insertBefore_congr
    intro b hb
    have hb' : b ∈ l := (perm_stableSort B l).mem_iff.mp hb
    have := hl.1 b hb'
    rw [hB]
    apply decide_eq_decide.mpr
    constructor
    · exact Or.inl
    · rintro (h | ⟨_, h⟩)
      · exact h
      · exact absurd h (not_lt.mpr this.le)

theorem bef_strictTotal (c : Fin n → α) : StrictTotalBefore (fun k k' => decide (Bef c k k')) where
  irrefl a := by simp [Bef.irrefl]
  trans a b d h h' := by
    simp only [decide_eq_true_eq] at *
    exact h.trans h'
  total a b h := by
    simp only [decide_eq_true_eq]
    exact Bef.total h

/-- A strictly increasing map of the positions moves none. -/
theorem strictMono_fin_val (f : Fin n → Fin n) (hf : StrictMono f) (t : Fin n) : (f t).val = t.val := by
  have h1 : ∀ m : ℕ, ∀ t : Fin n, t.val = m → m ≤ (f t).val := by
    intro m
    induction m with
    | zero => intro t _; exact Nat.zero_le _
    | succ m ih =>
      intro t ht
      have hm : m < n := by have := t.isLt; omega
      have h2 := ih ⟨m, hm⟩ rfl
      have h3 : f ⟨m, hm⟩ < f t := hf (show (⟨m, hm⟩ : Fin n) < t by rw [Fin.lt_def]; simp only; omega)
      rw [Fin.lt_def] at h3
      omega
  have h2 : ∀ m : ℕ, ∀ t : Fin n, n - 1 - t.val = m → (f t).val + m ≤ n - 1 := by
    intro m
    induction m with
    | zero => intro t _; have := (f t).isLt; omega
    | succ m ih =>
      intro t ht
      have hm : t.val + 1 < n := by omega
      have h2 := ih ⟨t.val + 1, hm⟩ (by simp only; omega)
      have h3 : f t < f ⟨t.val + 1, hm⟩ := hf (by rw [Fin.lt_def]; simp only; omega)
      rw [Fin.lt_def] at h3
      omega
  have h3 := h1 _ t rfl
  have h4 := h2 _ t rfl
  have := t.isLt
  omega

/-- A stable sort of the positions by a key puts at `t` the entry of rank `t`. -/
theorem rk_sortedFrom (c : Fin n → α) (B : Fin n → Fin n → Bool) (hB : ∀ k k', B k k' = decide (c k < c k')) (t : Fin n) :
    rk c (sortedFrom B t) = t.val := by
  have hs : (sortPositions n B).Pairwise fun a b => decide (Bef c b a) = false := by
    unfold sortPositions
    rw [stableSort_eq_refined c B hB _ (List.pairwise_lt_finRange n)]
    exact (bef_strictTotal c).sorted_stableSort _
  have hlt : ∀ s t : Fin n, s < t → Bef c (sortedFrom B s) (sortedFrom B t) := by
    intro s t hst
    have h1 := List.pairwise_iff_get.mp hs (s.cast (length_sortPositions n B).symm) (t.cast (length_sortPositions n B).symm) hst
    have h2 : ¬ Bef c (sortedFrom B t) (sortedFrom B s) := by simpa [sortedFrom] using h1
    have h3 : sortedFrom B s ≠ sortedFrom B t := fun h => (ne_of_lt hst) (sortedFrom_injective B h)
    rcases Bef.total (c := c) h3 with h | h
    · exact h
    · exact absurd h h2
  have hf : StrictMono (fun s : Fin n => (⟨rk c (sortedFrom B s), rk_lt_n c _⟩ : Fin n)) := by
    intro s t hst
    exact rk_lt (hlt s t hst)
  exact strictMono_fin_val _ hf t

/-- An injective family of positions: the rank of an entry is the entry. -/
theorem rk_perm (σ : Fin n → Fin n) (hσ : Function.Injective σ) (i : Fin n) : rk σ i = (σ i).val := by
  have hb : Function.Bijective σ := ⟨hσ, Finite.injective_iff_surjective.mp hσ⟩
  have h1 : (univ.filter fun k => Bef σ k i).image σ = univ.filter fun m => m < σ i := by
    ext m
    simp only [mem_image, mem_filter, mem_univ, true_and]
    simp only [Bef]
    constructor
    · rintro ⟨k, h | ⟨h, h'⟩, rfl⟩
      · exact h
      · have := hσ h; subst this; exact absurd h' (lt_irrefl _)
    · intro h
      obtain ⟨k, rfl⟩ := hb.2 m
      exact ⟨k, Or.inl h, rfl⟩
  unfold rk
  rw [← card_image_of_injective _ hσ, h1]
  have h2 : (univ.filter fun m : Fin n => m < σ i) = Finset.Iio (σ i) := by ext m; simp
  rw [h2, Fin.card_Iio]

/-- Sorting the positions by the positions a sort has put them at gives the ranks. -/
theorem argsort_argsort (c : Fin n → α) (B B' : Fin n → Fin n → Bool) (hB : ∀ k k', B k k' = decide (c k < c k'))
    (hB' : ∀ k k', B' k k' = decide (sortedFrom B k < sortedFrom B k')) (t : Fin n) :
    (sortedFrom B' t).val = rk c t := by
  have h1 := rk_sortedFrom (sortedFrom B) B' hB' t
  rw [rk_perm _ (sortedFrom_injective B)] at h1
  have h2 : sortedFrom B (sortedFrom B' t) = t := Fin.ext h1
  conv_rhs => rw [← h2]
  rw [rk_sortedFrom c B hB]

/-! ## The sum of the ten largest entries -/

/-- The rank of entry `i` counted from the largest, equal entries by position. -/
def rkd (v : Fin n → EReal) (i : Fin n) : ℕ := rk (fun k => OrderDual.toDual (v k)) i

/-- The sum of the ten largest entries. -/
def topSum (v : Fin n → EReal) : EReal := ∑ i ∈ univ.filter (fun i => rkd v i < 10), v i

/-- The first ten entries of a stable sort, largest first, add up to it. -/
theorem topSum_sorted (v : Fin n → EReal) (B : Fin n → Fin n → Bool) (hB : ∀ k k', B k k' = decide (v k' < v k))
    (hn : 10 ≤ n) : (∑ t : Fin 10, v (sortedFrom B ⟨t.val, by omega⟩)) = topSum v := by
  have hk := rk_sortedFrom (fun k => OrderDual.toDual (v k)) B (fun k k' => by rw [hB]; rfl)
  unfold topSum
  refine sum_bij (fun t _ => sortedFrom B ⟨t.val, by omega⟩) ?_ ?_ ?_ ?_
  · intro t _
    rw [mem_filter]
    refine ⟨mem_univ _, ?_⟩
    unfold rkd
    rw [hk]
    exact t.isLt
  · intro s _ t _ h
    have := sortedFrom_injective B h
    exact Fin.ext (by simpa using this)
  · intro i hi
    simp only [mem_filter, mem_univ, true_and] at hi
    refine ⟨⟨rkd v i, hi⟩, mem_univ _, ?_⟩
    apply rk_inj (c := fun k => OrderDual.toDual (v k))
    rw [hk]; rfl
  · intro t _; rfl

/-- How many entries equal `g`. -/
def cntOf (v : Fin n → EReal) (g : EReal) : EReal := ∑ i, if v i = g then 1 else 0

/-- The largest entry below `g`, or -1. -/
def nextMx (v : Fin n → EReal) (g : EReal) : EReal := univ.fold max ⊥ fun i => if v i < g then v i else -1

/-- The level reached after `t` steps. -/
def mxAt (v : Fin n → EReal) : ℕ → EReal
  | 0 => univ.fold max ⊥ v
  | t + 1 => nextMx v (mxAt v t)

/-- How many entries the first `t` levels hold. -/
def csAt (v : Fin n → EReal) : ℕ → EReal
  | 0 => 0
  | t + 1 => csAt v t + cntOf v (mxAt v t)

/-- The sum gathered from the first `t` levels. -/
def tkAt (v : Fin n → EReal) : ℕ → EReal
  | 0 => 0
  | t + 1 => tkAt v t + mxAt v t * min (max (10 - csAt v t) 0) (cntOf v (mxAt v t))

theorem le_fold_max (f : Fin n → EReal) (i : Fin n) : f i ≤ univ.fold max ⊥ f := by
  rw [Finset.le_fold_max]; exact Or.inr ⟨i, mem_univ _, le_rfl⟩

theorem fold_max_mem (f : Fin n → EReal) (hn : 0 < n) : ∃ i, univ.fold max ⊥ f = f i := by
  have hne : (univ : Finset (Fin n)).Nonempty := ⟨⟨0, hn⟩, mem_univ _⟩
  obtain ⟨i, _, hi⟩ := exists_max_image univ f hne
  refine ⟨i, le_antisymm ?_ (le_fold_max f i)⟩
  rw [fold_max_le]
  exact ⟨bot_le, fun x hx => hi x hx⟩

section
variable (v : Fin n → EReal)

theorem cntOf_eq (g : EReal) : cntOf v g = ((univ.filter fun i => v i = g).card : EReal) := by
  unfold cntOf
  rw [Finset.sum_boole]

theorem mxAt_gt (hv : ∀ i, 0 ≤ v i) (hn : 0 < n) (g : EReal) (i : Fin n) :
    nextMx v g < v i ↔ g ≤ v i := by
  constructor
  · intro h
    by_contra h'
    have h' : v i < g := not_le.mp h'
    have := le_fold_max (fun i => if v i < g then v i else -1) i
    simp only [h', if_true] at this
    exact absurd h (not_lt.mpr this)
  · intro h
    obtain ⟨k, hk⟩ := fold_max_mem (fun i => if v i < g then v i else -1) hn
    unfold nextMx
    rw [hk]
    split_ifs with h1
    · exact lt_of_lt_of_le h1 h
    · refine lt_of_lt_of_le ?_ (hv i)
      have : ((-1 : ℝ) : EReal) < ((0 : ℝ) : EReal) := by exact_mod_cast (by norm_num : (-1 : ℝ) < 0)
      simpa using this

theorem csAt_eq (hv : ∀ i, 0 ≤ v i) (hn : 0 < n) (t : ℕ) :
    csAt v t = ((univ.filter fun i => mxAt v t < v i).card : EReal) := by
  induction t with
  | zero =>
    have : (univ.filter fun i => mxAt v 0 < v i) = ∅ := by
      rw [filter_eq_empty_iff]
      intro i _
      exact not_lt.mpr (le_fold_max v i)
    rw [this]; simp [csAt]
  | succ t ih =>
    have : (univ.filter fun i => mxAt v (t + 1) < v i) = (univ.filter fun i => mxAt v t < v i) ∪ (univ.filter fun i => v i = mxAt v t) := by
      ext i
      simp only [mem_filter, mem_univ, true_and, mem_union, mxAt, mxAt_gt v hv hn, le_iff_lt_or_eq]
      constructor <;> rintro (h | h) <;> simp [h]
    rw [this, card_union_of_disjoint]
    · simp only [csAt, ih, cntOf_eq]; push_cast; rfl
    · rw [disjoint_filter]; intro i _ h h'; rw [h'] at h; exact lt_irrefl _ h

/-- The rank of an entry of level `g`: those above it, and the equal ones before it. -/
theorem rkd_level (i : Fin n) :
    rkd v i = (univ.filter fun k => v i < v k).card + (univ.filter fun k => v k = v i ∧ k < i).card := by
  unfold rkd rk
  rw [← card_union_of_disjoint]
  · congr 1; ext k; simp [Bef, OrderDual.toDual_lt_toDual]
  · rw [disjoint_filter]; intro k _ h h'; rw [h'.1] at h; exact lt_irrefl _ h

/-- Of a set of positions, those with fewer than `m` earlier ones in it. -/
theorem card_first (s : Finset (Fin n)) (m : ℕ) :
    (s.filter fun i => (s.filter fun k => k < i).card < m).card = min m s.card := by
  induction s using Finset.induction_on_max with
  | empty => simp
  | insert a s ha ih =>
    have hna : a ∉ s := fun h => lt_irrefl _ (ha a h)
    have e : ∀ i ∈ s, ((insert a s).filter fun k => k < i) = s.filter fun k => k < i := by
      intro i hi
      rw [filter_insert, if_neg (not_lt.mpr (ha i hi).le)]
    have ea : ((insert a s).filter fun k => k < a) = s := by
      rw [filter_insert, if_neg (lt_irrefl _), filter_true_of_mem ha]
    rw [filter_insert, ea]
    have e2 : (s.filter fun i => ((insert a s).filter fun k => k < i).card < m) = s.filter fun i => (s.filter fun k => k < i).card < m :=
      filter_congr fun i hi => by rw [e i hi]
    rw [e2]
    split_ifs with h
    · rw [card_insert_of_notMem (by simp [hna]), ih, card_insert_of_notMem hna]; omega
    · rw [ih, card_insert_of_notMem hna]; omega

theorem level_card (g : EReal) :
    (univ.filter fun i => v i = g ∧ rkd v i < 10).card
      = min (10 - (univ.filter fun k => g < v k).card) (univ.filter fun i => v i = g).card := by
  rw [← card_first]
  congr 1
  ext i
  simp only [mem_filter, mem_univ, true_and, filter_filter]
  constructor
  · rintro ⟨rfl, h⟩
    rw [rkd_level] at h
    exact ⟨rfl, by omega⟩
  · rintro ⟨rfl, h⟩
    rw [rkd_level]
    exact ⟨rfl, by omega⟩

theorem natcast_min_max (a b : ℕ) : min (max ((10 : EReal) - (a : EReal)) 0) (b : EReal) = ((min (10 - a) b : ℕ) : EReal) := by
  have h : max ((10 : EReal) - (a : EReal)) 0 = ((10 - a : ℕ) : EReal) := by
    rcases le_total a 10 with h | h
    · have e : ((10 : EReal) - (a : EReal)) = ((10 - a : ℕ) : EReal) := by
        have : ((10 - a : ℕ) : ℝ) = (10 : ℝ) - a := by push_cast [h]; ring
        have h2 : (((10 - a : ℕ) : ℝ) : EReal) = (((10 : ℝ) - a : ℝ) : EReal) := by rw [this]
        rw [EReal.coe_sub] at h2
        exact h2.symm
      rw [e, max_eq_left]; positivity
    · have e : (10 - a : ℕ) = 0 := by omega
      rw [e, max_eq_right (by
        have h2 : (((10 : ℝ) - a : ℝ) : EReal) ≤ ((0 : ℝ) : EReal) := by
          have : (10 : ℝ) ≤ a := by exact_mod_cast h
          exact_mod_cast (by linarith : (10 : ℝ) - a ≤ 0)
        rw [EReal.coe_sub] at h2
        exact h2)]
      simp
  rw [h]
  rcases le_total (10 - a) b with h | h
  · rw [min_eq_left h, min_eq_left (by exact_mod_cast h)]
  · rw [min_eq_right h, min_eq_right (by exact_mod_cast h)]

theorem tkAt_eq (hv : ∀ i, 0 ≤ v i) (hn : 0 < n) (t : ℕ) :
    tkAt v t = ∑ i ∈ univ.filter (fun i => mxAt v t < v i ∧ rkd v i < 10), v i := by
  induction t with
  | zero =>
    have : (univ.filter fun i => mxAt v 0 < v i ∧ rkd v i < 10) = ∅ := by
      rw [filter_eq_empty_iff]
      intro i _ h
      exact absurd h.1 (not_lt.mpr (le_fold_max v i))
    rw [this]; simp [tkAt]
  | succ t ih =>
    have : (univ.filter fun i => mxAt v (t + 1) < v i ∧ rkd v i < 10)
        = (univ.filter fun i => mxAt v t < v i ∧ rkd v i < 10) ∪ (univ.filter fun i => v i = mxAt v t ∧ rkd v i < 10) := by
      ext i
      simp only [mem_filter, mem_univ, true_and, mem_union, mxAt, mxAt_gt v hv hn, le_iff_lt_or_eq]
      constructor
      · rintro ⟨h | h, h'⟩ <;> simp [h, h']
      · rintro (⟨h, h'⟩ | ⟨h, h'⟩) <;> simp [h, h']
    rw [this, sum_union]
    · have e : ∑ i ∈ univ.filter (fun i => v i = mxAt v t ∧ rkd v i < 10), v i
          = mxAt v t * min (max (10 - csAt v t) 0) (cntOf v (mxAt v t)) := by
        rw [sum_congr rfl (g := fun _ => mxAt v t) (fun i hi => by simpa using (mem_filter.mp hi).2.1), sum_const, level_card,
          csAt_eq v hv hn, cntOf_eq, natcast_min_max, EReal.nsmul_eq_mul, mul_comm]
      simp only [tkAt, ih, e]
    · rw [disjoint_filter]; intro i _ h h'; rw [h'.1] at h; exact lt_irrefl _ h.1

theorem levels_card (hv : ∀ i, 0 ≤ v i) (hn : 0 < n) (t : ℕ) :
    (t ≤ (univ.filter fun i => mxAt v t < v i).card ∨ (univ.filter fun i => mxAt v t < v i).card = n)
      ∧ ((∃ i, v i = mxAt v t) ∨ ∀ i, mxAt v t < v i) := by
  induction t with
  | zero =>
    refine ⟨Or.inl (Nat.zero_le _), Or.inl ?_⟩
    obtain ⟨i, hi⟩ := fold_max_mem v hn
    exact ⟨i, hi.symm⟩
  | succ t ih =>
    have hsub : (univ.filter fun i => mxAt v t < v i) ⊆ univ.filter fun i => mxAt v (t + 1) < v i := by
      intro i
      simp only [mem_filter, mem_univ, true_and, mxAt, mxAt_gt v hv hn]
      exact le_of_lt
    refine ⟨?_, ?_⟩
    · rcases ih.2 with ⟨i, hi⟩ | h
      · have hss : (univ.filter fun i => mxAt v t < v i) ⊂ univ.filter fun i => mxAt v (t + 1) < v i := by
          refine ⟨hsub, fun h => ?_⟩
          have := h (show i ∈ univ.filter fun i => mxAt v (t + 1) < v i by simp [mxAt, mxAt_gt v hv hn, hi])
          simp [hi] at this
        have h1 := card_lt_card hss
        have h2 : (univ.filter fun i => mxAt v (t + 1) < v i).card ≤ n := by
          simpa using card_le_univ (univ.filter fun i => mxAt v (t + 1) < v i)
        rcases ih.1 with h3 | h3
        · left; omega
        · omega
      · right
        have : (univ.filter fun i => mxAt v (t + 1) < v i) = univ := by
          rw [filter_eq_self]; intro i _
          rw [mxAt, mxAt_gt v hv hn]; exact (h i).le
        rw [this]; simp
    · obtain ⟨k, hk⟩ := fold_max_mem (fun i => if v i < mxAt v t then v i else -1) hn
      by_cases h1 : v k < mxAt v t
      · left; refine ⟨k, ?_⟩
        simp only [mxAt, nextMx, hk, h1, if_true]
      · right
        intro i
        simp only [mxAt, nextMx, hk, h1, if_false]
        refine lt_of_lt_of_le ?_ (hv i)
        have : ((-1 : ℝ) : EReal) < ((0 : ℝ) : EReal) := by exact_mod_cast (by norm_num : (-1 : ℝ) < 0)
        simpa using this

/-- Ten levels hold the ten largest entries. -/
theorem tkAt_ten (hv : ∀ i, 0 ≤ v i) (hn : 10 ≤ n) : tkAt v 10 = topSum v := by
  rw [tkAt_eq v hv (by omega)]
  unfold topSum
  congr 1
  ext i
  simp only [mem_filter, mem_univ, true_and, and_iff_right_iff_imp]
  intro h
  by_contra h'
  have h' : v i ≤ mxAt v 10 := not_lt.mp h'
  have hc := (levels_card v hv (by omega) 10).1
  have hsub : (univ.filter fun k => mxAt v 10 < v k) ⊆ univ.filter fun k => v i < v k := by
    intro k
    simp only [mem_filter, mem_univ, true_and]
    exact fun hk => lt_of_le_of_lt h' hk
  have := card_le_card hsub
  have h2 := rkd_level v i
  omega

end

/-! ## The smallest entries, one after the other -/

section
variable (c : Fin n → EReal)

/-- One state of the loop: the value reached and the position passed in it (`-1` when none), with `t` entries behind. -/
structure At (t : ℕ) (mn : EReal) (prev : ℤ) : Prop where
  behind : (univ.filter fun k => c k < mn ∨ (c k = mn ∧ (k.val : ℤ) ≤ prev)).card = t
  ahead : ∃ k, c k = mn ∧ prev < (k.val : ℤ)

/-- The first entry of the value past the position is the one of rank `t`. -/
theorem At.rank {t : ℕ} {mn : EReal} {prev : ℤ} (h : At c t mn prev) (f : Fin n) (hf : c f = mn) (hp : prev < (f.val : ℤ))
    (hmin : ∀ k, c k = mn → prev < (k.val : ℤ) → f ≤ k) : rk c f = t := by
  rw [← h.behind]
  unfold rk
  congr 1
  ext k
  simp only [mem_filter, mem_univ, true_and]
  simp only [Bef, hf]
  constructor
  · rintro (h1 | ⟨h1, h2⟩)
    · exact Or.inl h1
    · refine Or.inr ⟨h1, ?_⟩
      by_contra h3
      exact absurd (hmin k h1 (not_le.mp h3)) (not_le.mpr h2)
  · rintro (h1 | ⟨h1, h2⟩)
    · exact Or.inl h1
    · refine Or.inr ⟨h1, ?_⟩
      have : (k.val : ℤ) < f.val := lt_of_le_of_lt h2 hp
      exact_mod_cast this

/-- The state after the entry of rank `t`, when the value has more entries. -/
theorem At.same {t : ℕ} {f : Fin n} (hr : rk c f = t) (hm : ∃ k, c k = c f ∧ f < k) : At c (t + 1) (c f) (f.val : ℤ) where
  behind := by
    have : (univ.filter fun k => c k < c f ∨ (c k = c f ∧ (k.val : ℤ) ≤ f.val)) = insert f (univ.filter fun k => Bef c k f) := by
      ext k
      simp only [mem_filter, mem_univ, true_and, mem_insert]
      simp only [Bef]
      constructor
      · rintro (h | ⟨h, h'⟩)
        · exact Or.inr (Or.inl h)
        · have h' : k ≤ f := by exact_mod_cast h'
          rcases h'.lt_or_eq with h2 | h2
          · exact Or.inr (Or.inr ⟨h, h2⟩)
          · exact Or.inl h2
      · rintro (rfl | h | ⟨h, h'⟩)
        · exact Or.inr ⟨rfl, le_rfl⟩
        · exact Or.inl h
        · exact Or.inr ⟨h, by exact_mod_cast h'.le⟩
    rw [this, card_insert_of_notMem (by simp [Bef.irrefl]), ← hr]; rfl
  ahead := by
    obtain ⟨k, h1, h2⟩ := hm
    exact ⟨k, h1, by exact_mod_cast h2⟩

/-- The state after the entry of rank `t`, when it is its value's last and larger ones remain. -/
theorem At.next {t : ℕ} {f : Fin n} (hr : rk c f = t) (ht : t + 1 < n) (hm : ¬ ∃ k, c k = c f ∧ f < k) (mn : EReal)
    (hmn : mn = univ.fold min ⊤ fun k => if c f < c k then c k else ⊤) : At c (t + 1) mn (-1) := by
  -- the entries up to the value are those of rank at most `t`
  have hle : ∀ k, c k ≤ c f ↔ rk c k ≤ t := by
    intro k
    rw [← hr, ← not_lt, ← not_lt, rk_lt_iff]
    constructor
    · intro h h'
      rcases h' with h' | ⟨h', h2⟩
      · exact h h'
      · exact hm ⟨k, h'.symm, h2⟩
    · intro h h'
      exact h (Or.inl h')
  obtain ⟨i, hi⟩ := rk_surj c (t + 1) ht
  have hci : c f < c i := by
    rw [← not_le, hle, hi]; omega
  have hmin : ∀ k, c f < c k → c i ≤ c k := by
    intro k hk
    rw [← not_le, hle, not_le] at hk
    by_contra h
    have : Bef c k i := Or.inl (not_le.mp h)
    have := rk_lt this
    omega
  have hmi : mn = c i := by
    rw [hmn]
    apply le_antisymm
    · rw [fold_min_le]
      exact Or.inr ⟨i, mem_univ _, by rw [if_pos hci]⟩
    · rw [le_fold_min]
      refine ⟨le_top, fun k _ => ?_⟩
      split_ifs with h
      · exact hmin k h
      · exact le_top
  refine ⟨?_, ⟨i, hmi.symm, by omega⟩⟩
  have : (univ.filter fun k => c k < mn ∨ (c k = mn ∧ (k.val : ℤ) ≤ -1)) = univ.filter fun k => rk c k ≤ t := by
    ext k
    simp only [mem_filter, mem_univ, true_and, ← hle, hmi]
    constructor
    · rintro (h | ⟨_, h⟩)
      · by_contra h'
        exact absurd (hmin k (not_le.mp h')) (not_le.mpr h)
      · omega
    · intro h
      exact Or.inl (lt_of_le_of_lt h hci)
  rw [this]
  have e : (univ.filter fun k => rk c k ≤ t) = insert f (univ.filter fun k => Bef c k f) := by
    ext k
    simp only [mem_filter, mem_univ, true_and, mem_insert, ← rk_lt_iff, hr]
    constructor
    · intro h
      rcases h.lt_or_eq with h | h
      · exact Or.inr h
      · exact Or.inl (rk_inj (c := c) (h.trans hr.symm))
    · rintro (rfl | h)
      · exact hr.le
      · exact h.le
  rw [e, card_insert_of_notMem (by simp [Bef.irrefl]), ← hr]; rfl

/-- The first state. -/
theorem At.zero (hn : 0 < n) : At c 0 (univ.fold min ⊤ c) (-1) := by
  have hne : (univ : Finset (Fin n)).Nonempty := ⟨⟨0, hn⟩, mem_univ _⟩
  obtain ⟨i, _, hi⟩ := exists_min_image univ c hne
  have hmi : univ.fold min ⊤ c = c i := by
    apply le_antisymm
    · rw [fold_min_le]; exact Or.inr ⟨i, mem_univ _, le_rfl⟩
    · rw [le_fold_min]; exact ⟨le_top, fun k hk => hi k hk⟩
  refine ⟨?_, ⟨i, hmi.symm, by omega⟩⟩
  rw [hmi, card_eq_zero, filter_eq_empty_iff]
  intro k _
  rintro (h | ⟨_, h⟩)
  · exact absurd (hi k (mem_univ _)) (not_le.mpr h)
  · omega

end

end Cert.Loss
-- ==== Proof.Spec.lean ====
/-
  The loss of one image in plain terms: the centres, the costs, the overlaps, the ranks, the matching and the four sums, each
  as a function of the entries it depends on. Both programs are read against these.
-/
module

public import proofs.«01_k».proof.Proof.RankMath
public import Idealize.ShloMosaic.Lib.Pointwise

@[expose] public section

noncomputable section

namespace Cert.Loss

open Finset Idealize.ShloMosaic

/-- The constants of the loss, as the words they are written with. -/
abbrev cTwo : EReal := Ideal.ofBits FTy.f32 1073741824#32
abbrev cHalf : EReal := Ideal.ofBits FTy.f32 1056964608#32
abbrev cRad : EReal := Ideal.ofBits FTy.f32 1075838976#32
abbrev cEps : EReal := Ideal.ofBits FTy.f32 841731191#32
abbrev cQuart : EReal := Ideal.ofBits FTy.f32 1048576000#32
abbrev cThreeQ : EReal := Ideal.ofBits FTy.f32 1061158912#32
abbrev cFive : EReal := Ideal.ofBits FTy.f32 1084227584#32
abbrev cImg : EReal := Ideal.ofBits FTy.f32 1149239296#32
abbrev cBig5 : EReal := Ideal.ofBits FTy.f32 1203982336#32
abbrev cBig6 : EReal := Ideal.ofBits FTy.f32 1232348160#32

/-- The absolute value of one entry. -/
def absE (x : EReal) : EReal := FloatOps.absf (F := Ideal) (φ := .f32) x

/-- The sigmoid. -/
def prob (x : EReal) : EReal := Ideal.div 1 (1 + Ideal.exp (-x))

def negC (p : EReal) : EReal := -Ideal.log (1 - p + cEps) * cThreeQ * (p * p)
def posC (p : EReal) : EReal := -Ideal.log (p + cEps) * cQuart * ((1 - p) * (1 - p))

/-- Overlap, union, ratio and hull of two boxes given by their corners. -/
def interOf (a b : Fin 4 → EReal) : EReal :=
  max 0 (min (a 2) (b 2) - max (a 0) (b 0)) * max 0 (min (a 3) (b 3) - max (a 1) (b 1))
def areaOf (a : Fin 4 → EReal) : EReal := (a 2 - a 0) * (a 3 - a 1)
def unionOf (a b : Fin 4 → EReal) : EReal := areaOf a + areaOf b - interOf a b
def iouOf (a b : Fin 4 → EReal) : EReal := Ideal.div (interOf a b) (unionOf a b + cEps)
def hullOf (a b : Fin 4 → EReal) : EReal :=
  max 0 (max (a 2) (b 2) - min (a 0) (b 0)) * max 0 (max (a 3) (b 3) - min (a 1) (b 1))
def giouOf (a b : Fin 4 → EReal) : EReal := iouOf a b - Ideal.div (hullOf a b - unionOf a b) (hullOf a b + cEps)
def l1Of (a b : Fin 4 → EReal) : EReal := absE (a 0 - b 0) + absE (a 1 - b 1) + absE (a 2 - b 2) + absE (a 3 - b 3)

/-- The first of the smallest entries. -/
def amin (c : Fin 128 → EReal) : Fin 128 := Classical.choose (rk_surj c 0 (by decide))

theorem rk_amin (c : Fin 128 → EReal) : rk c (amin c) = 0 := Classical.choose_spec (rk_surj c 0 (by decide))

/-- One image's arrays. -/
structure Img where
  lg : Fin 4096 → Fin 80 → EReal
  bx : Fin 4096 → Fin 4 → EReal
  pm : Fin 4096 → Fin 784 → EReal
  gc : Fin 128 → Fin 80
  gb : Fin 128 → Fin 4 → EReal
  gm : Fin 128 → Fin 784 → EReal

namespace Img
variable (I : Img)

def cx (i : Fin 4096) : EReal := Ideal.div (I.bx i 0 + I.bx i 2) cTwo
def cy (i : Fin 4096) : EReal := Ideal.div (I.bx i 1 + I.bx i 3) cTwo
def gcx (j : Fin 128) : EReal := Ideal.div (I.gb j 0 + I.gb j 2) cTwo
def gcy (j : Fin 128) : EReal := Ideal.div (I.gb j 1 + I.gb j 3) cTwo
def sx (i : Fin 4096) : EReal := (I.bx i 2 - I.bx i 0) * cHalf
def sy (i : Fin 4096) : EReal := (I.bx i 3 - I.bx i 1) * cHalf
def inGt (i : Fin 4096) (j : Fin 128) : Bool :=
  decide (I.gb j 0 < I.cx i) && decide (I.cx i < I.gb j 2) && decide (I.gb j 1 < I.cy i) && decide (I.cy i < I.gb j 3)
def inCt (i : Fin 4096) (j : Fin 128) : Bool :=
  decide (I.gcx j - cRad * I.sx i < I.cx i) && decide (I.cx i < I.gcx j + cRad * I.sx i)
    && decide (I.gcy j - cRad * I.sy i < I.cy i) && decide (I.cy i < I.gcy j + cRad * I.sy i)
def valid (i : Fin 4096) : Bool := decide (∃ j, (I.inGt i j || I.inCt i j) = true)
def nb (i : Fin 4096) (k : Fin 4) : EReal := Ideal.div (I.bx i k) cImg
def ngb (j : Fin 128) (k : Fin 4) : EReal := Ideal.div (I.gb j k) cImg
def clsCost (i : Fin 4096) (j : Fin 128) : EReal :=
  cTwo * (posC (prob (I.lg i (I.gc j))) - negC (prob (I.lg i (I.gc j))))
def cost (i : Fin 4096) (j : Fin 128) : EReal :=
  I.clsCost i j + cFive * l1Of (I.nb i) (I.ngb j) + cTwo * (1 - giouOf (I.nb i) (I.ngb j))
    + (if (I.inGt i j && I.inCt i j) = true then 0 else cBig5) + (if I.valid i = true then 0 else cBig6)
def iou (i : Fin 4096) (j : Fin 128) : EReal := if I.valid i = true then iouOf (I.bx i) (I.gb j) else 0

/-- How many rows a column takes: its ten largest overlaps added, cut to whole and to between 1 and 10. -/
def ks (j : Fin 128) : BitVec 32 := IntOp.minsi 10#32 (IntOp.maxsi 1#32 (Ideal.fptosi 32 (topSum fun i => I.iou i j)))
/-- The rows a column takes: those of the least cost. -/
def m0 (i : Fin 4096) (j : Fin 128) : Bool := decide ((rk (fun k => I.cost k j) i : ℤ) < (I.ks j).toInt)
/-- A row more than one column takes. -/
def multi (i : Fin 4096) : Bool := decide (1 < (univ.filter fun j => I.m0 i j = true).card)
def best (i : Fin 4096) : Fin 128 := amin fun j => if I.m0 i j = true then I.cost i j else ⊤
def m1 (i : Fin 4096) (j : Fin 128) : Bool := if I.multi i = true then decide (j = I.best i) else I.m0 i j
def fg (i : Fin 4096) : Bool := decide (∃ j, I.m1 i j = true) && I.valid i
def mg (i : Fin 4096) : Fin 128 := amin fun j => if I.m1 i j = true then I.cost i j else ⊤
def fgf (i : Fin 4096) : EReal := if I.fg i = true then 1 else 0

/-- The label of a row at a class. -/
def lab (i : Fin 4096) (c : Fin 80) : EReal := (if I.gc (I.mg i) = c then 1 else 0) * I.fgf i
/-- The focal term of a logit against its label. -/
def focal (x t : EReal) : EReal :=
  (cQuart * t + cThreeQ * (1 - t)) * (max x 0 - x * t + Ideal.log (1 + Ideal.exp (-absE x)))
    * ((1 - (prob x * t + (1 - prob x) * (1 - t))) * (1 - (prob x * t + (1 - prob x) * (1 - t))))
def clsLoss : EReal := ∑ i, ∑ c, focal (I.lg i c) (I.lab i c)
def l1Loss : EReal := ∑ i, l1Of (I.nb i) (I.ngb (I.mg i)) * I.fgf i
def giouLoss : EReal := ∑ i, (1 - giouOf (I.nb i) (I.ngb (I.mg i))) * I.fgf i
def nfg : EReal := ∑ i, I.fgf i
def mInter (i : Fin 4096) : EReal := ∑ x, prob (I.pm i x) * I.gm (I.mg i) x
def mUnion (i : Fin 4096) : EReal := (∑ x, prob (I.pm i x)) + (∑ x, I.gm (I.mg i) x) + cEps
def maskSum : EReal := ∑ i, if I.fg i = true then Ideal.div (I.mInter i) (I.mUnion i) else 0

end Img

end Cert.Loss
-- ==== Proof.Bits.lean ====
/-
  One-bit words as truth values, folds of them, the fold that finds the least position of a kind, and the constants' values.
-/
module

public import proofs.«01_k».proof.Proof.Spec
public import Idealize.ShloMosaic.Lib.IndicatorCount

@[expose] public section

noncomputable section

namespace Cert.Loss

open Finset Idealize.ShloMosaic

theorem andi_ofBool (a b : Bool) : IntOp.andi (BitVec.ofBool a) (BitVec.ofBool b) = BitVec.ofBool (a && b) := by
  cases a <;> cases b <;> rfl
theorem ori_ofBool (a b : Bool) : IntOp.ori (BitVec.ofBool a) (BitVec.ofBool b) = BitVec.ofBool (a || b) := by
  cases a <;> cases b <;> rfl
theorem compl_ofBool (a : Bool) : ~~~(BitVec.ofBool a) = BitVec.ofBool (!a) := by cases a <;> rfl
theorem select_ofBool {α : Type} (a : Bool) (x y : α) : Scalar.select (BitVec.ofBool a) x y = if a = true then x else y := by
  cases a <;> rfl
theorem ofBool_eq_one (a : Bool) : (BitVec.ofBool a = 1#1) = (a = true) := by cases a <;> simp
theorem ofBool_eq_one' (a : Bool) : (BitVec.ofBool a = 1) = (a = true) := by cases a <;> simp
theorem uitofp_ofBool (a : Bool) : FloatOps.uitofp (F := Ideal) FTy.f32 (BitVec.ofBool a) = if a = true then (1 : EReal) else 0 := by
  show ((((BitVec.ofBool a).toNat : ℝ)) : EReal) = _
  cases a <;> simp

/-- A fold by "or" of truth values: whether one of them holds. -/
theorem fold_ori {ι : Type} [Fintype ι] (p : ι → Bool) [Decidable (∃ k, p k = true)] :
    (univ : Finset ι).fold IntOp.ori (0#1) (fun k => BitVec.ofBool (p k)) = BitVec.ofBool (decide (∃ k, p k = true)) := by
  classical
  have h : ∀ S : Finset ι, S.fold IntOp.ori (0#1) (fun k => BitVec.ofBool (p k)) = BitVec.ofBool (decide (∃ k ∈ S, p k = true)) := by
    intro S
    induction S using Finset.induction_on with
    | empty => simp
    | insert a S ha ih =>
      rw [Finset.fold_insert ha, ih, ori_ofBool]
      congr 1
      rw [Bool.eq_iff_iff]
      simp
  rw [h]; simp

/-- A fold by addition of widened truth values: how many of them hold. -/
theorem fold_addi {ι : Type} [Fintype ι] (p : ι → Bool) :
    (univ : Finset ι).fold IntOp.addi (0#32) (fun k => (BitVec.ofBool (p k)).setWidth 32)
      = BitVec.ofNat 32 (univ.filter fun k => p k = true).card := by
  classical
  rw [IndicatorCount.fold_addi_setWidth_eq_card]
  congr 2
  ext k
  simp only [mem_filter, mem_univ, true_and, ofBool_eq_one]

theorem toInt_ofNat {m : ℕ} (h : m < 2 ^ 31) : (BitVec.ofNat 32 m).toInt = (m : ℤ) := by
  rw [BitVec.toInt_ofNat']; rw [Int.bmod_eq_of_le] <;> omega

theorem slt_iff (x y : BitVec 32) : x.slt y = decide (x.toInt < y.toInt) := by
  simp [BitVec.slt]

/-- The least position of a kind, the positions written as words and the rest as a word `d` past them. -/
theorem fold_minsi {n : ℕ} (hn : n < 2 ^ 31) (p : Fin n → Prop) [DecidablePred p] (d : ℕ) (hd : d < 2 ^ 31) (hnd : n ≤ d) :
    ((∃ f, p f ∧ (∀ k, p k → f ≤ k) ∧
        (univ : Finset (Fin n)).fold IntOp.minsi 2147483647#32 (fun k => if p k then BitVec.ofNat 32 k.val else BitVec.ofNat 32 d)
          = BitVec.ofNat 32 f.val))
      ∨ ((∀ k, ¬ p k) ∧ (univ : Finset (Fin n)).fold IntOp.minsi 2147483647#32
          (fun k => if p k then BitVec.ofNat 32 k.val else BitVec.ofNat 32 d) = if n = 0 then 2147483647#32 else BitVec.ofNat 32 d) := by
  classical
  have key : ∀ S : Finset (Fin n),
      (∃ f ∈ S, p f ∧ (∀ k ∈ S, p k → f ≤ k) ∧
        S.fold IntOp.minsi 2147483647#32 (fun k => if p k then BitVec.ofNat 32 k.val else BitVec.ofNat 32 d) = BitVec.ofNat 32 f.val)
      ∨ ((∀ k ∈ S, ¬ p k) ∧ S.fold IntOp.minsi 2147483647#32
          (fun k => if p k then BitVec.ofNat 32 k.val else BitVec.ofNat 32 d) = if S = ∅ then 2147483647#32 else BitVec.ofNat 32 d) := by
    intro S
    have e0 : (2147483647#32 : BitVec 32).toInt = 2147483647 := by decide
    have ed := toInt_ofNat hd
    induction S using Finset.induction_on with
    | empty => right; simp
    | insert a S ha ih =>
      have ea := toInt_ofNat (m := a.val) (by have := a.isLt; omega)
      rw [Finset.fold_insert ha]
      by_cases hp : p a
      · left
        rw [if_pos hp]
        rcases ih with ⟨f, hf, hpf, hmin, e⟩ | ⟨hno, e⟩
        · have ef := toInt_ofNat (m := f.val) (by have := f.isLt; omega)
          rw [e]
          by_cases hlt : a < f
          · refine ⟨a, mem_insert_self _ _, hp, ?_, ?_⟩
            · intro k hk hpk
              rcases mem_insert.mp hk with rfl | hk
              · exact le_rfl
              · exact (hlt.trans_le (hmin k hk hpk)).le
            · unfold IntOp.minsi
              rw [slt_iff, ea, ef, if_pos]
              simpa using hlt
          · refine ⟨f, mem_insert_of_mem hf, hpf, ?_, ?_⟩
            · intro k hk hpk
              rcases mem_insert.mp hk with rfl | hk
              · exact not_lt.mp hlt
              · exact hmin k hk hpk
            · unfold IntOp.minsi
              rw [slt_iff, ea, ef, if_neg]
              simpa using hlt
        · rw [e]
          refine ⟨a, mem_insert_self _ _, hp, ?_, ?_⟩
          · intro k hk hpk
            rcases mem_insert.mp hk with rfl | hk
            · exact le_rfl
            · exact absurd hpk (hno k hk)
          · unfold IntOp.minsi
            rw [slt_iff, ea, if_pos]
            have := a.isLt
            split_ifs
            · rw [e0]; simp only [decide_eq_true_eq]; omega
            · rw [ed]; simp only [decide_eq_true_eq]; omega
      · rw [if_neg hp]
        rcases ih with ⟨f, hf, hpf, hmin, e⟩ | ⟨hno, e⟩
        · left
          have ef := toInt_ofNat (m := f.val) (by have := f.isLt; omega)
          refine ⟨f, mem_insert_of_mem hf, hpf, ?_, ?_⟩
          · intro k hk hpk
            rcases mem_insert.mp hk with rfl | hk
            · exact absurd hpk hp
            · exact hmin k hk hpk
          · rw [e]
            unfold IntOp.minsi
            rw [slt_iff, ed, ef, if_neg]
            have := f.isLt
            simp only [decide_eq_true_eq]; omega
        · right
          refine ⟨?_, ?_⟩
          · intro k hk
            rcases mem_insert.mp hk with rfl | hk
            · exact hp
            · exact hno k hk
          · rw [e, if_neg (insert_ne_empty _ _)]
            unfold IntOp.minsi
            by_cases hd' : d = 2147483647
            · subst hd'; split_ifs <;> rfl
            · rw [slt_iff, ed]
              split_ifs with h1 h2 h2
              · rfl
              · rw [e0] at h2; simp only [decide_eq_true_eq] at h2; omega
              · rfl
              · rfl
  rcases key univ with ⟨f, _, h1, h2, h3⟩ | ⟨h1, h2⟩
  · exact Or.inl ⟨f, h1, fun k hk => h2 k (mem_univ _) hk, h3⟩
  · refine Or.inr ⟨fun k => h1 k (mem_univ _), ?_⟩
    rw [h2]
    congr 1
    rcases Nat.eq_zero_or_pos n with h | h
    · subst h; simp
    · simp only [h.ne', eq_iff_iff, iff_false]
      exact fun h' => by have := mem_univ (⟨0, h⟩ : Fin n); rw [h'] at this; simp at this

/-! ## The constants -/

theorem cTwo_eq : cTwo = ((2 : ℝ) : EReal) := by simp [Ideal.ofBits, Ideal.ieee, -EReal.coe_mul]; norm_num
theorem cQuart_eq : cQuart = ((1 / 4 : ℝ) : EReal) := by simp [Ideal.ofBits, Ideal.ieee, -EReal.coe_mul]; norm_num
theorem cThreeQ_eq : cThreeQ = ((3 / 4 : ℝ) : EReal) := by simp [Ideal.ofBits, Ideal.ieee, -EReal.coe_mul]; norm_num
theorem cFive_eq : cFive = ((5 : ℝ) : EReal) := by simp [Ideal.ofBits, Ideal.ieee, -EReal.coe_mul]; norm_num
theorem cImg_eq : cImg = ((1024 : ℝ) : EReal) := by simp [Ideal.ofBits, Ideal.ieee, -EReal.coe_mul]; norm_num
theorem cBig5_eq : cBig5 = ((100000 : ℝ) : EReal) := by simp [Ideal.ofBits, Ideal.ieee, -EReal.coe_mul]; norm_num
theorem cBig6_eq : cBig6 = ((1000000 : ℝ) : EReal) := by simp [Ideal.ofBits, Ideal.ieee, -EReal.coe_mul]; norm_num
theorem cHalf_eq : cHalf = ((1 / 2 : ℝ) : EReal) := by simp [Ideal.ofBits, Ideal.ieee, -EReal.coe_mul]; norm_num
theorem cRad_eq : cRad = ((5 / 2 : ℝ) : EReal) := by simp [Ideal.ofBits, Ideal.ieee, -EReal.coe_mul]; norm_num
theorem cEps_eq : ∃ r : ℝ, 0 < r ∧ cEps = (r : EReal) := by
  refine ⟨_, ?_, by simp [Ideal.ofBits, Ideal.ieee, -EReal.coe_mul]; rfl⟩
  norm_num
theorem cNegInf_eq : Ideal.ofBits FTy.f32 4286578688#32 = ⊥ := by simp [Ideal.ofBits, Ideal.ieee]
theorem cInf_eq : Ideal.ofBits FTy.f32 2139095040#32 = ⊤ := by simp [Ideal.ofBits, Ideal.ieee]
theorem cTen_eq : Ideal.ofBits FTy.f32 1092616192#32 = 10 := by
  have : Ideal.ofBits FTy.f32 1092616192#32 = ((10 : ℝ) : EReal) := by simp [Ideal.ofBits, Ideal.ieee, -EReal.coe_mul]; norm_num
  rw [this]; rfl
theorem cNegOne_eq : Ideal.ofBits FTy.f32 3212836864#32 = -1 := by
  have : Ideal.ofBits FTy.f32 3212836864#32 = ((-1 : ℝ) : EReal) := by simp [Ideal.ofBits, Ideal.ieee, -EReal.coe_mul]; norm_num
  rw [this]; simp

end Cert.Loss
-- ==== Proof.RealVals.lean ====
/-
  The values that stay real: closure of the real entries under the operations, the sigmoid, the powers, and that overlaps are
  not negative and costs are real for finite, ordered boxes.
-/
module

public import proofs.«01_k».proof.Proof.Bits

@[expose] public section

noncomputable section

namespace Cert.Loss

open Finset Idealize.ShloMosaic

/-- A real entry. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx; obtain ⟨b, rfl⟩ := hy; exact ⟨a + b, by rw [EReal.coe_add]⟩
theorem IsR.sub {x y : EReal} (hx : IsR x) (hy : IsR y) : IsR (x - y) := by
  obtain ⟨a, rfl⟩ := hx; obtain ⟨b, rfl⟩ := hy; exact ⟨a - b, by rw [EReal.coe_sub]⟩
theorem IsR.mul {x y : EReal} (hx : IsR x) (hy : IsR y) : IsR (x * y) := by
  obtain ⟨a, rfl⟩ := hx; obtain ⟨b, rfl⟩ := hy; exact ⟨a * b, by rw [EReal.coe_mul]⟩
theorem IsR.neg {x : EReal} (hx : IsR x) : IsR (-x) := by
  obtain ⟨a, rfl⟩ := hx; exact ⟨-a, by rw [EReal.coe_neg]⟩
theorem IsR.max {x y : EReal} (hx : IsR x) (hy : IsR y) : IsR (max x y) := by
  rcases max_choice x y with h | h <;> rw [h] <;> assumption
theorem IsR.min {x y : EReal} (hx : IsR x) (hy : IsR y) : IsR (min x y) := by
  rcases min_choice x y with h | h <;> rw [h] <;> assumption
theorem IsR.abs {x : EReal} (hx : IsR x) : IsR (absE x) := hx.max hx.neg
theorem IsR.sum {ι : Type} (s : Finset ι) (f : ι → EReal) (h : ∀ i ∈ s, IsR (f i)) : IsR (∑ i ∈ s, f i) := by
  classical
  induction s using Finset.induction_on with
  | empty => simpa using IsR.zero
  | insert a s ha ih =>
    rw [sum_insert ha]
    exact (h a (mem_insert_self _ _)).add (ih fun i hi => h i (mem_insert_of_mem hi))
theorem IsR.ne_top {x : EReal} (hx : IsR x) : x ≠ ⊤ := by obtain ⟨a, rfl⟩ := hx; exact EReal.coe_ne_top a
theorem IsR.lt_top {x : EReal} (hx : IsR x) : x < ⊤ := lt_top_iff_ne_top.mpr hx.ne_top
theorem IsR.of_ne {x : EReal} (h : x ≠ ⊥) (h' : x ≠ ⊤) : IsR x := ⟨x.toReal, (EReal.coe_toReal h' h).symm⟩

theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem IsR.div {x y : EReal} (hx : IsR x) (hy : IsR y) (h0 : y ≠ 0) : IsR (Ideal.div x y) := by
  obtain ⟨a, rfl⟩ := hx; obtain ⟨b, rfl⟩ := hy
  exact ⟨a / b, div_coe (by exact_mod_cast h0)⟩

theorem div_nonneg' {x y : EReal} (hx : IsR x) (hy : IsR y) (hx0 : 0 ≤ x) (h0 : 0 < y) : 0 ≤ Ideal.div x y := by
  obtain ⟨a, rfl⟩ := hx; obtain ⟨b, rfl⟩ := hy
  have ha : 0 ≤ a := by exact_mod_cast hx0
  have hb : 0 < b := by exact_mod_cast h0
  rw [div_coe hb.ne']
  exact_mod_cast div_nonneg ha hb.le

theorem cEps_pos : 0 < cEps := by obtain ⟨r, h, e⟩ := cEps_eq; rw [e]; exact_mod_cast h
theorem cEps_isR : IsR cEps := by obtain ⟨r, _, e⟩ := cEps_eq; exact ⟨r, e⟩
theorem cImg_isR : IsR cImg := ⟨_, cImg_eq⟩
theorem cTwo_isR : IsR cTwo := ⟨_, cTwo_eq⟩

/-- The sigmoid lies between 0 and 1. -/
theorem prob_real (x : EReal) : ∃ r : ℝ, 0 ≤ r ∧ r ≤ 1 ∧ prob x = (r : EReal) := by
  unfold prob
  induction x with
  | bot =>
    refine ⟨0, le_rfl, zero_le_one, ?_⟩
    have : (1 : EReal) + Ideal.exp (-⊥) = ⊤ := by
      rw [EReal.neg_bot]
      show (1 : EReal) + ⊤ = ⊤
      exact EReal.add_top_of_ne_bot (by exact_mod_cast EReal.coe_ne_bot (1 : ℝ))
    rw [this]; simp [Ideal.div]
  | top =>
    refine ⟨1, zero_le_one, le_rfl, ?_⟩
    have : (1 : EReal) + Ideal.exp (-⊤) = ((1 : ℝ) : EReal) := by
      rw [EReal.neg_top]
      show (1 : EReal) + 0 = _
      rw [add_zero]; rfl
    rw [this]
    have := div_coe (a := 1) (b := 1) one_ne_zero
    simpa using this
  | coe r =>
    have h := Real.exp_pos (-r)
    refine ⟨1 / (1 + Real.exp (-r)), by positivity, ?_, ?_⟩
    · rw [div_le_one (by positivity)]; linarith
    · have : (1 : EReal) + Ideal.exp (-(r : EReal)) = ((1 + Real.exp (-r) : ℝ) : EReal) := by
        rw [← EReal.coe_neg]
        show ((1 : ℝ) : EReal) + ((Real.exp (-r) : ℝ) : EReal) = _
        rw [EReal.coe_add]
      rw [this]
      have := div_coe (a := 1) (b := 1 + Real.exp (-r)) (by positivity)
      simpa using this

theorem prob_isR (x : EReal) : IsR (prob x) := by obtain ⟨r, _, _, e⟩ := prob_real x; exact ⟨r, e⟩

/-- A real entry to the second power is its square. -/
theorem pow_two_eq {x : EReal} (hx : IsR x) : Ideal.pow x cTwo = x * x := by
  obtain ⟨r, rfl⟩ := hx
  rw [cTwo_eq]
  show ((Real.rpow r 2 : ℝ) : EReal) = _
  rw [← EReal.coe_mul]
  congr 1
  show r ^ (2 : ℝ) = r * r
  rw [Real.rpow_two]; ring

theorem log_isR {r : ℝ} (h : 0 < r) : IsR (Ideal.log (r : EReal)) := by
  refine ⟨Real.log r, ?_⟩
  show (if r ≤ 0 then (⊥ : EReal) else (Real.log r : EReal)) = _
  rw [if_neg (not_le.mpr h)]

theorem negC_isR (x : EReal) : IsR (negC (prob x)) := by
  obtain ⟨r, h0, h1, e⟩ := prob_real x
  obtain ⟨ε, hε, he⟩ := cEps_eq
  unfold negC
  have h : IsR (Ideal.log (1 - prob x + cEps)) := by
    rw [e, he]
    have : (1 : EReal) - (r : EReal) + (ε : EReal) = ((1 - r + ε : ℝ) : EReal) := by
      rw [EReal.coe_add, EReal.coe_sub]; rfl
    rw [this]; exact log_isR (by linarith)
  exact (h.neg.mul ⟨_, cThreeQ_eq⟩).mul ((prob_isR x).mul (prob_isR x))

theorem posC_isR (x : EReal) : IsR (posC (prob x)) := by
  obtain ⟨r, h0, h1, e⟩ := prob_real x
  obtain ⟨ε, hε, he⟩ := cEps_eq
  unfold posC
  have h : IsR (Ideal.log (prob x + cEps)) := by
    rw [e, he, ← EReal.coe_add]; exact log_isR (by linarith)
  have h2 : IsR (1 - prob x) := IsR.one.sub (prob_isR x)
  exact (h.neg.mul ⟨_, cQuart_eq⟩).mul (h2.mul h2)

/-- A box of finite corners in order. -/
structure Proper (a : Fin 4 → EReal) : Prop where
  real : ∀ k, IsR (a k)
  x_le : a 0 ≤ a 2
  y_le : a 1 ≤ a 3

section
variable {a b : Fin 4 → EReal}

theorem interOf_isR (ha : Proper a) (hb : Proper b) : IsR (interOf a b) :=
  (IsR.zero.max (((ha.real 2).min (hb.real 2)).sub ((ha.real 0).max (hb.real 0)))).mul
    (IsR.zero.max (((ha.real 3).min (hb.real 3)).sub ((ha.real 1).max (hb.real 1))))
theorem areaOf_isR (ha : Proper a) : IsR (areaOf a) :=
  ((ha.real 2).sub (ha.real 0)).mul ((ha.real 3).sub (ha.real 1))
theorem unionOf_isR (ha : Proper a) (hb : Proper b) : IsR (unionOf a b) :=
  ((areaOf_isR ha).add (areaOf_isR hb)).sub (interOf_isR ha hb)
theorem hullOf_isR (ha : Proper a) (hb : Proper b) : IsR (hullOf a b) :=
  (IsR.zero.max (((ha.real 2).max (hb.real 2)).sub ((ha.real 0).min (hb.real 0)))).mul
    (IsR.zero.max (((ha.real 3).max (hb.real 3)).sub ((ha.real 1).min (hb.real 1))))
theorem interOf_nonneg (a b : Fin 4 → EReal) : 0 ≤ interOf a b := mul_nonneg (le_max_left _ _) (le_max_left _ _)
theorem hullOf_nonneg (a b : Fin 4 → EReal) : 0 ≤ hullOf a b := mul_nonneg (le_max_left _ _) (le_max_left _ _)

/-- A real side of the overlap is at most the side of the first box. -/
theorem side_le {p q r s : ℝ} (h : p ≤ q) : max 0 (min q s - max p r) ≤ q - p := by
  apply max_le (by linarith)
  have := min_le_left q s; have := le_max_left p r; linarith

theorem unionOf_nonneg (ha : Proper a) (hb : Proper b) : 0 ≤ unionOf a b := by
  obtain ⟨a0, e0⟩ := ha.real 0; obtain ⟨a1, e1⟩ := ha.real 1; obtain ⟨a2, e2⟩ := ha.real 2; obtain ⟨a3, e3⟩ := ha.real 3
  obtain ⟨b0, f0⟩ := hb.real 0; obtain ⟨b1, f1⟩ := hb.real 1; obtain ⟨b2, f2⟩ := hb.real 2; obtain ⟨b3, f3⟩ := hb.real 3
  have hx := ha.x_le; have hy := ha.y_le; have hx' := hb.x_le; have hy' := hb.y_le
  unfold unionOf areaOf interOf
  rw [e0, e1, e2, e3, f0, f1, f2, f3] at *
  have hx : a0 ≤ a2 := by exact_mod_cast hx
  have hy : a1 ≤ a3 := by exact_mod_cast hy
  have hx' : b0 ≤ b2 := by exact_mod_cast hx'
  have hy' : b1 ≤ b3 := by exact_mod_cast hy'
  have h1 := side_le (r := b0) (s := b2) hx
  have h2 := side_le (r := b1) (s := b3) hy
  have h3 : 0 ≤ max 0 (min a2 b2 - max a0 b0) := le_max_left _ _
  have h4 : 0 ≤ max 0 (min a3 b3 - max a1 b1) := le_max_left _ _
  have h5 : max 0 (min a2 b2 - max a0 b0) * max 0 (min a3 b3 - max a1 b1) ≤ (a2 - a0) * (a3 - a1) :=
    mul_le_mul h1 h2 h4 (h3.trans h1)
  have h6 : 0 ≤ (b2 - b0) * (b3 - b1) := mul_nonneg (by linarith) (by linarith)
  have key : (0 : ℝ) ≤ (a2 - a0) * (a3 - a1) + (b2 - b0) * (b3 - b1)
      - max 0 (min a2 b2 - max a0 b0) * max 0 (min a3 b3 - max a1 b1) := by linarith
  have := EReal.coe_le_coe_iff.mpr key
  have cmax : ∀ x y : ℝ, ((max x y : ℝ) : EReal) = max (x : EReal) (y : EReal) := fun x y => (Monotone.map_max EReal.coe_strictMono.monotone)
  have cmin : ∀ x y : ℝ, ((min x y : ℝ) : EReal) = min (x : EReal) (y : EReal) := fun x y => (Monotone.map_min EReal.coe_strictMono.monotone)
  simpa only [EReal.coe_sub, EReal.coe_add, EReal.coe_mul, cmax, cmin, EReal.coe_zero] using this

theorem add_eps_pos {x : EReal} (h : 0 ≤ x) : 0 < x + cEps := by
  refine lt_of_lt_of_le cEps_pos ?_
  conv_lhs => rw [← zero_add cEps]
  exact add_le_add_left h _

theorem iouOf_nonneg (ha : Proper a) (hb : Proper b) : 0 ≤ iouOf a b :=
  div_nonneg' (interOf_isR ha hb) ((unionOf_isR ha hb).add cEps_isR) (interOf_nonneg a b) (add_eps_pos (unionOf_nonneg ha hb))

theorem giouOf_isR (ha : Proper a) (hb : Proper b) : IsR (giouOf a b) := by
  refine IsR.sub ?_ ?_
  · exact (interOf_isR ha hb).div ((unionOf_isR ha hb).add cEps_isR) (add_eps_pos (unionOf_nonneg ha hb)).ne'
  · exact ((hullOf_isR ha hb).sub (unionOf_isR ha hb)).div ((hullOf_isR ha hb).add cEps_isR) (add_eps_pos (hullOf_nonneg a b)).ne'

theorem l1Of_isR (ha : ∀ k, IsR (a k)) (hb : ∀ k, IsR (b k)) : IsR (l1Of a b) :=
  (((((ha 0).sub (hb 0)).abs).add (((ha 1).sub (hb 1)).abs)).add (((ha 2).sub (hb 2)).abs)).add (((ha 3).sub (hb 3)).abs)

/-- A box scaled by the image's size is a box of finite corners in order. -/
theorem Proper.scale (ha : Proper a) : Proper (fun k => Ideal.div (a k) cImg) := by
  have h0 : cImg ≠ 0 := by rw [cImg_eq]; exact_mod_cast (by norm_num : (1024 : ℝ) ≠ 0)
  have hm : ∀ p q : Fin 4, a p ≤ a q → Ideal.div (a p) cImg ≤ Ideal.div (a q) cImg := by
    intro p q h
    obtain ⟨r, e⟩ := ha.real p; obtain ⟨s, f⟩ := ha.real q
    rw [e, f] at h ⊢
    rw [cImg_eq, div_coe (by norm_num), div_coe (by norm_num)]
    have h : r ≤ s := by exact_mod_cast h
    exact_mod_cast (by linarith : r / 1024 ≤ s / 1024)
  exact ⟨fun k => (ha.real k).div cImg_isR h0, hm 0 2 ha.x_le, hm 1 3 ha.y_le⟩

end

/-- What the inputs of one image are assumed to be. -/
structure Img.Good (I : Img) : Prop where
  bx : ∀ i, Proper (I.bx i)
  gb : ∀ j, Proper (I.gb j)
  gm : ∀ j x, 0 ≤ I.gm j x

theorem Img.Good.iou_nonneg {I : Img} (h : I.Good) (i : Fin 4096) (j : Fin 128) : 0 ≤ I.iou i j := by
  unfold Img.iou
  split_ifs
  · exact iouOf_nonneg (h.bx i) (h.gb j)
  · exact le_rfl

theorem Img.Good.cost_isR {I : Img} (h : I.Good) (i : Fin 4096) (j : Fin 128) : IsR (I.cost i j) := by
  have hn : Proper (I.nb i) := (h.bx i).scale
  have hg : Proper (I.ngb j) := (h.gb j).scale
  unfold Img.cost Img.clsCost
  refine IsR.add (IsR.add (IsR.add (IsR.add ?_ ?_) ?_) ?_) ?_
  · exact cTwo_isR.mul ((posC_isR _).sub (negC_isR _))
  · exact IsR.mul ⟨_, cFive_eq⟩ (l1Of_isR hn.real hg.real)
  · exact cTwo_isR.mul (IsR.one.sub (giouOf_isR hn hg))
  · split_ifs
    · exact IsR.zero
    · exact ⟨_, cBig5_eq⟩
  · split_ifs
    · exact IsR.zero
    · exact ⟨_, cBig6_eq⟩

end Cert.Loss
-- ==== Proof.Pre.lean ====
/-
  What the precondition says of the inputs, entry by entry.
-/
module

public import proofs.«01_k».proof.Pre_proper_inputs
public import proofs.«01_k».proof.Proof.RealVals
public import Idealize.ShloMosaic.Lib.Pointwise

@[expose] public section

noncomputable section

namespace Cert.Pre_proper_inputs

open Idealize.ShloMosaic Cert.Loss

/-- The side conditions of the precondition's operations hold. -/
theorem facts : Facts := by
  constructor <;> decide

attribute [local instance] facts

/-- A conjunction of two comparisons read as both. -/
theorem both {p q : Bool} (h : IntOp.andi (BitVec.ofBool p) (BitVec.ofBool q) = 1#1) : p = true ∧ q = true := by
  revert h; revert p q; decide

theorem one_bit {p : Bool} (h : BitVec.ofBool p = 1#1) : p = true := by
  revert h; revert p; decide

/-- Strictly between the two infinities is real. -/
theorem real_of_between {x : EReal} (h : IntOp.andi (BitVec.ofBool (decide (Ideal.ofBits FTy.f32 4286578688#32 < x))) (BitVec.ofBool (decide (x < Ideal.ofBits FTy.f32 2139095040#32))) = 1#1) : IsR x := by
  obtain ⟨h1, h2⟩ := both h
  rw [cNegInf_eq, decide_eq_true_eq] at h1
  rw [cInf_eq, decide_eq_true_eq] at h2
  exact IsR.of_ne h1.ne' h2.ne

/-- A class word between 0 and 79. -/
theorem class_of_range {w : BitVec 32} (h : IntOp.andi (IntOp.cmpi .sge w 0#32) (IntOp.cmpi .slt w 80#32) = 1#1) : w.toNat < 80 := by
  obtain ⟨h1, h2⟩ := both h
  have h1 : BitVec.sle 0#32 w = true := h1
  have h2 : BitVec.slt w 80#32 = true := h2
  simp only [BitVec.sle, BitVec.slt, decide_eq_true_eq, BitVec.toInt_eq_toNat_cond, BitVec.toNat_ofNat] at h1 h2
  have := w.isLt
  norm_num at h1 h2
  split at h2 <;> split at h1 <;> omega

variable (x0 : FVec Ideal S4x4096x80 .f32) (x1 : FVec Ideal S4x4096x4 .f32) (x2 : FVec Ideal S4x4096x784 .f32)
  (x3 : IVec S4x128 32) (x4 : FVec Ideal S4x128x4 .f32) (x5 : FVec Ideal S4x128x784 .f32)

theorem box_real (h : (fn (F := Ideal) x0 x1 x2 x3 x4 x5).1 = fun _ => 1#1) (b : Fin 4) (i : Fin 4096) (k : Fin 4) : IsR (x1 (ix3 b i k)) := by
  have h := congrFun h (ix3 b i k)
  revert h
  pointwise [fn, fn_part1, id_eq]
  exact real_of_between

theorem box_le (h : (fn (F := Ideal) x0 x1 x2 x3 x4 x5).2.1 = fun _ => 1#1) (b : Fin 4) (i : Fin 4096) (k : Fin 2) : x1 (ix3 b i ⟨k.val, by omega⟩) ≤ x1 (ix3 b i ⟨2 + k.val, by omega⟩) := by
  have h := congrFun h (ix3 b i k)
  revert h
  pointwise [fn, fn_part1, id_eq]
  exact fun h => of_decide_eq_true (one_bit h)

theorem gt_real (h : (fn (F := Ideal) x0 x1 x2 x3 x4 x5).2.2.1 = fun _ => 1#1) (b : Fin 4) (i : Fin 128) (k : Fin 4) : IsR (x4 (ix3 b i k)) := by
  have h := congrFun h (ix3 b i k)
  revert h
  pointwise [fn, fn_part1, id_eq]
  exact real_of_between

theorem gt_le (h : (fn (F := Ideal) x0 x1 x2 x3 x4 x5).2.2.2.1 = fun _ => 1#1) (b : Fin 4) (i : Fin 128) (k : Fin 2) : x4 (ix3 b i ⟨k.val, by omega⟩) ≤ x4 (ix3 b i ⟨2 + k.val, by omega⟩) := by
  have h := congrFun h (ix3 b i k)
  revert h
  pointwise [fn, fn_part1, id_eq]
  exact fun h => of_decide_eq_true (one_bit h)

theorem class_lt (h : (fn (F := Ideal) x0 x1 x2 x3 x4 x5).2.2.2.2.1 = fun _ => 1#1) (b : Fin 4) (j : Fin 128) : (x3 (ix2 b j)).toNat < 80 := by
  have h := congrFun h (ix2 b j)
  revert h
  pointwise [fn, fn_part1, id_eq]
  exact class_of_range

theorem mask_nonneg (h : (fn (F := Ideal) x0 x1 x2 x3 x4 x5).2.2.2.2.2 = fun _ => 1#1) (b : Fin 4) (j : Fin 128) (p : Fin 784) : 0 ≤ x5 (ix3 b j p) := by
  have h := congrFun h (ix3 b j p)
  revert h
  pointwise [fn, fn_part1, id_eq]
  exact fun h => of_decide_eq_true (one_bit h)

/-- The batch's images, read out of the six arrays. -/
def img (hc : ∀ b j, (x3 (ix2 b j)).toNat < 80) (b : Fin 4) : Img where
  lg i k := x0 (ix3 b i k)
  bx i k := x1 (ix3 b i k)
  pm i p := x2 (ix3 b i p)
  gc j := ⟨(x3 (ix2 b j)).toNat, hc b j⟩
  gb j k := x4 (ix3 b j k)
  gm j p := x5 (ix3 b j p)

/-- Under the precondition every image is a proper one. -/
theorem img_good (hc : ∀ b j, (x3 (ix2 b j)).toNat < 80)
    (e0 : (fn (F := Ideal) x0 x1 x2 x3 x4 x5).1 = fun _ => 1#1) (e1 : (fn (F := Ideal) x0 x1 x2 x3 x4 x5).2.1 = fun _ => 1#1)
    (e2 : (fn (F := Ideal) x0 x1 x2 x3 x4 x5).2.2.1 = fun _ => 1#1) (e3 : (fn (F := Ideal) x0 x1 x2 x3 x4 x5).2.2.2.1 = fun _ => 1#1)
    (e5 : (fn (F := Ideal) x0 x1 x2 x3 x4 x5).2.2.2.2.2 = fun _ => 1#1) (b : Fin 4) : (img x0 x1 x2 x3 x4 x5 hc b).Good where
  bx i := ⟨box_real x0 x1 x2 x3 x4 x5 e0 b i, box_le x0 x1 x2 x3 x4 x5 e1 b i 0, box_le x0 x1 x2 x3 x4 x5 e1 b i 1⟩
  gb j := ⟨gt_real x0 x1 x2 x3 x4 x5 e2 b j, gt_le x0 x1 x2 x3 x4 x5 e3 b j 0, gt_le x0 x1 x2 x3 x4 x5 e3 b j 1⟩
  gm j p := mask_nonneg x0 x1 x2 x3 x4 x5 e5 b j p

/-- A class word is the word of its class. -/
theorem img_class (hc : ∀ b j, (x3 (ix2 b j)).toNat < 80) (b : Fin 4) (j : Fin 128) :
    x3 (ix2 b j) = BitVec.ofNat 32 ((img x0 x1 x2 x3 x4 x5 hc b).gc j).val := by
  show _ = BitVec.ofNat 32 (x3 (ix2 b j)).toNat
  rw [BitVec.ofNat_toNat, BitVec.setWidth_eq]

end Cert.Pre_proper_inputs
-- ==== Proof.KerSteps.lean ====
/-
  The matching kernel's three loops, which it writes out trip by trip: the levels of a column's overlaps, the first rows of
  a column's costs, and the marks of the rows it takes. Each is stated as the repetition of one step on whole arrays.
-/
module

public import proofs.«01_k».proof.Proof.Gen.KernelIdeal.Frame
public import proofs.«01_k».proof.Proof.RealVals

@[expose] public section

noncomputable section

namespace Cert.KernelIdeal.Gen

open Cert.KernelIdeal Cert.KernelIdeal.Gen Cert.Loss Idealize.ShloMosaic Idealize.ShloMosaic.TcCoe Idealize.SL.Sem Idealize.ShloMosaic.StableHlo

abbrev Big := FVec Ideal S4096x128 .f32
abbrev Row := FVec Ideal S1x128 .f32
abbrev IBig := IVec S4096x128 32
abbrev IRow := IVec S1x128 32

/-- The columns' largest, least and added entries, and the least word, each a row. -/
def colMax (X : Big) : Row := shapeCast S1x128 (multiReduction .maximumf [0] S128 X 0xFF800000#32 reduces_S4096x128_S128 (.inl rfl) rfl) shapeCasts_S128_S1x128
def colMin (X : Big) : Row := shapeCast S1x128 (multiReduction .minimumf [0] S128 X 0x7F800000#32 reduces_S4096x128_S128 (.inl rfl) rfl) shapeCasts_S128_S1x128
def colSum (X : Big) : Row := shapeCast S1x128 (multiReduction .add [0] S128 X 0x00000000#32 reduces_S4096x128_S128 (.inl rfl) rfl) shapeCasts_S128_S1x128
def colLeast (X : IBig) : IRow := shapeCast S1x128 (multiReductionI .minsi [0] S128 X 2147483647#32 reduces_S4096x128_S128 rfl) shapeCasts_S128_S1x128

def down (m : Row) : Big := broadcastTo S4096x128 m broadcasts_S1x128_S4096x128
def downI (m : IRow) : IBig := broadcastTo S4096x128 m broadcasts_S1x128_S4096x128
def downB (m : IVec S1x128 1) : IVec S4096x128 1 := broadcastTo S4096x128 m broadcasts_S1x128_S4096x128
def big (w : BitVec 32) : Big := broadcast S4096x128 (Scalar.ofBits (F := Ideal) .f32 w)
def row (w : BitVec 32) : Row := broadcast S1x128 (Scalar.ofBits (F := Ideal) .f32 w)
def mark (p : IVec S4096x128 1) : Big := select p (big 0x3F800000#32) (big 0x00000000#32)

/-- The entries below a level, the rest at -1. -/
def under (V : Big) (m : Row) : Big := select (cmpf .olt V (down m)) V (big 0xBF800000#32)
/-- How many entries of each column are at a level. -/
def atLevel (V : Big) (m : Row) : Row := colSum (mark (cmpf .oeq V (down m)))

/-- The levels of the columns, from the largest down. -/
def level (V : Big) : ℕ → Row
  | 0 => colMax V
  | t + 1 => colMax (under V (level V t))
/-- How many entries the levels before a step hold. -/
def seen (V : Big) : ℕ → Row
  | 0 => row 0x00000000#32
  | t + 1 => addf (seen V t) (atLevel V (level V t))
/-- What is gathered before a step. -/
def taken (V : Big) : ℕ → Row
  | 0 => row 0x00000000#32
  | t + 1 => addf (taken V t) (mulf (level V t) (minimumf (maximumf (subf (row 0x41200000#32) (seen V t)) (row 0x00000000#32)) (atLevel V (level V t))))
def quota (V : Big) : IRow := minsi (broadcast S1x128 10#32) (maxsi (broadcast S1x128 1#32) (fptosi 32 (taken V 10)))

/-- The entries at a value past a row. -/
def past (C : Big) (io : IBig) (m : Row) (f : IRow) : IVec S4096x128 1 := andi (cmpf .oeq C (down m)) (cmpi .sgt io (downI f))
def firstAt (C : Big) (io : IBig) (m : Row) (f : IRow) : IRow := colLeast (select (past C io m f) io (broadcast S4096x128 4096#32))
def moreAt (C : Big) (io : IBig) (m : Row) (f : IRow) : IVec S1x128 1 := cmpi .slt (firstAt C io m f) (broadcast S1x128 4096#32)
def above (C : Big) (m : Row) : Big := select (cmpf .ogt C (down m)) C (big 0x7F800000#32)

def noRow : IRow := broadcast S1x128 4294967295#32
/-- A step of the search: the value and the row found, from those before. -/
def next (C : Big) (io : IBig) (s : Row × IRow) : Row × IRow :=
  (select (moreAt C io s.1 (firstAt C io s.1 s.2)) s.1 (colMin (above C s.1)), select (moreAt C io s.1 (firstAt C io s.1 s.2)) (firstAt C io s.1 s.2) noRow)
/-- Where the search for the next row stands: the value, and the row before. -/
def stand (C : Big) (io : IBig) : ℕ → Row × IRow
  | 0 => (colMin C, noRow)
  | t + 1 => next C io (stand C io t)
theorem stand_zero (C : Big) (io : IBig) : stand C io 0 = (colMin C, noRow) := by simp only [stand]
theorem stand_succ (C : Big) (io : IBig) (t : ℕ) : stand C io (t + 1) = next C io (stand C io t) := by simp only [stand]
theorem stand_two (C : Big) (io : IBig) (t : ℕ) : stand C io (t + 2) = next C io (next C io (stand C io t)) := by simp only [stand_succ]
/-- The row each column finds at a step. -/
def found (C : Big) (io : IBig) (t : ℕ) : IRow := firstAt C io (stand C io t).1 (stand C io t).2

/-- The marks gathered before a step: the rows found at the steps below the quota. -/
def marksOf (io : IBig) (ks : IRow) (g : ℕ → IRow) : ℕ → Big
  | 0 => big 0x00000000#32
  | t + 1 => addf (marksOf io ks g t) (mark (andi (cmpi .eq io (downI (g t))) (downB (cmpi .sgt ks (broadcast S1x128 (BitVec.ofNat 32 t))))))
def marks (C : Big) (io : IBig) (ks : IRow) (t : ℕ) : Big := marksOf io ks (found C io) t

/-- One column per row: where a row has several marks, the first of the cheapest of them. -/
def across (m : FVec Ideal S4096x1 .f32) : Big := broadcastTo S4096x128 m broadcasts_S4096x1_S4096x128
def rowSum (X : Big) : FVec Ideal S4096x1 .f32 := shapeCast S4096x1 (multiReduction .add [1] S4096 X 0x00000000#32 reduces_S4096x128_S4096 (.inl rfl) rfl) shapeCasts_S4096_S4096x1
def rowMin (X : Big) : FVec Ideal S4096x1 .f32 := shapeCast S4096x1 (multiReduction .minimumf [1] S4096 X 0x7F800000#32 reduces_S4096x128_S4096 (.inl rfl) rfl) shapeCasts_S4096_S4096x1
def rowMax (X : Big) : FVec Ideal S4096x1 .f32 := shapeCast S4096x1 (multiReduction .maximumf [1] S4096 X 0xFF800000#32 reduces_S4096x128_S4096 (.inl rfl) rfl) shapeCasts_S4096_S4096x1
def rowLeast (X : IBig) : IVec S4096x1 32 := shapeCast S4096x1 (multiReductionI .minsi [1] S4096 X 2147483647#32 reduces_S4096x128_S4096 rfl) shapeCasts_S4096_S4096x1
def colIota : IBig := iota .tc S4096x128 32 [1] iota_S4096x128_d1_w32
def masked (C M : Big) : Big := select (cmpf .ogt M (big 0x00000000#32)) C (big 0x7F800000#32)
def cheapest (C M : Big) : IVec S4096x1 32 := rowLeast (select (cmpf .oeq (masked C M) (across (rowMin (masked C M)))) colIota (broadcast S4096x128 128#32))
def several (M : Big) : IVec S4096x128 1 :=
  broadcastTo S4096x128 (shapeCast S4096x1 (cmpf .ogt (rowSum M) (broadcast S4096x1 (Scalar.ofBits (F := Ideal) .f32 0x3F800000#32))) shapeCasts_S4096x1_S4096x1) broadcasts_S4096x1_S4096x128
def settle (C M : Big) : Big :=
  select (several M) (mark (cmpi .eq colIota (broadcastTo S4096x128 (cheapest C M) broadcasts_S4096x1_S4096x128))) M

section
variable (x0 : Vec Ideal S1x4096x80 .f32) (x1 : Vec Ideal S1x4096x4 .f32) (x2 : Vec Ideal S1x4x128 .f32) (x3 : Vec Ideal S1x80x128 .f32) (x4 : Vec Ideal S1x128x80 .f32)
theorem s_166 : k0_pay166 (F := Ideal) x0 x1 x2 x3 x4 = level (k0_pay165 (F := Ideal) x0 x1 x2 x3 x4) 0 := by
  unfold k0_pay166 k0_pay43 k0_pay165 level colMax
  rfl

theorem s_167 : k0_pay167 (F := Ideal) x0 x1 x2 x3 x4 = seen (k0_pay165 (F := Ideal) x0 x1 x2 x3 x4) 0 := by
  unfold k0_pay167 k0_pay45 seen row
  rfl

theorem s_168 : k0_pay168 (F := Ideal) x0 x1 x2 x3 x4 = atLevel (k0_pay165 (F := Ideal) x0 x1 x2 x3 x4) (level (k0_pay165 (F := Ideal) x0 x1 x2 x3 x4) 0) := by
  unfold k0_pay168 k0_pay46 k0_pay43 k0_pay165 atLevel level colMax colSum mark big down
  rfl

theorem g_169 (V : Big) : k0_pay52 V (level V 0) (seen V 0) (atLevel V (level V 0)) = seen V 2 := by
  rfl

theorem s_169 : k0_pay169 (F := Ideal) x0 x1 x2 x3 x4 = seen (k0_pay165 (F := Ideal) x0 x1 x2 x3 x4) 2 := by
  unfold k0_pay169
  simp only [s_166 x0 x1 x2 x3 x4, s_167 x0 x1 x2 x3 x4, s_168 x0 x1 x2 x3 x4]
  exact g_169 (k0_pay165 (F := Ideal) x0 x1 x2 x3 x4)

theorem g_170 (V : Big) : k0_pay53 V (level V 0) = level V 2 := by
  rfl

theorem s_170 : k0_pay170 (F := Ideal) x0 x1 x2 x3 x4 = level (k0_pay165 (F := Ideal) x0 x1 x2 x3 x4) 2 := by
  unfold k0_pay170
  simp only [s_166 x0 x1 x2 x3 x4]
  exact g_170 (k0_pay165 (F := Ideal) x0 x1 x2 x3 x4)

theorem g_171 (V : Big) : k0_pay54 V (level V 0) = atLevel V (level V 2) := by
  rfl

theorem s_171 : k0_pay171 (F := Ideal) x0 x1 x2 x3 x4 = atLevel (k0_pay165 (F := Ideal) x0 x1 x2 x3 x4) (level (k0_pay165 (F := Ideal) x0 x1 x2 x3 x4) 2) := by
  unfold k0_pay171
  simp only [s_166 x0 x1 x2 x3 x4]
  exact g_171 (k0_pay165 (F := Ideal) x0 x1 x2 x3 x4)

theorem g_172 (V : Big) : k0_pay63 V (seen V 2) (level V 2) (atLevel V (level V 2)) = seen V 5 := by
  rfl

theorem s_172 : k0_pay172 (F := Ideal) x0 x1 x2 x3 x4 = seen (k0_pay165 (F := Ideal) x0 x1 x2 x3 x4) 5 := by
  unfold k0_pay172
  simp only [s_169 x0 x1 x2 x3 x4, s_170 x0 x1 x2 x3 x4, s_171 x0 x1 x2 x3 x4]
  exact g_172 (k0_pay165 (F := Ideal) x0 x1 x2 x3 x4)

theorem g_173 (V : Big) : k0_pay64 V (level V 2) = down (level V 4) := by
  rfl

theorem s_173 : k0_pay173 (F := Ideal) x0 x1 x2 x3 x4 = down (level (k0_pay165 (F := Ideal) x0 x1 x2 x3 x4) 4) := by
  unfold k0_pay173
  simp only [s_170 x0 x1 x2 x3 x4]
  exact g_173 (k0_pay165 (F := Ideal) x0 x1 x2 x3 x4)

theorem g_174 (V : Big) : k0_pay71 V (seen V 5) (down (level V 4)) = seen V 7 := by
  rfl

theorem s_174 : k0_pay174 (F := Ideal) x0 x1 x2 x3 x4 = seen (k0_pay165 (F := Ideal) x0 x1 x2 x3 x4) 7 := by
  unfold k0_pay174
  simp only [s_172 x0 x1 x2 x3 x4, s_173 x0 x1 x2 x3 x4]
  exact g_174 (k0_pay165 (F := Ideal) x0 x1 x2 x3 x4)

theorem g_175 (V : Big) : k0_pay72 V (down (level V 4)) = under V (level V 6) := by
  rfl

theorem s_175 : k0_pay175 (F := Ideal) x0 x1 x2 x3 x4 = under (k0_pay165 (F := Ideal) x0 x1 x2 x3 x4) (level (k0_pay165 (F := Ideal) x0 x1 x2 x3 x4) 6) := by
  unfold k0_pay175
  simp only [s_173 x0 x1 x2 x3 x4]
  exact g_175 (k0_pay165 (F := Ideal) x0 x1 x2 x3 x4)

theorem g_176 (V : Big) : k0_pay82 V (k0_pay78 V (k0_pay70 V (k0_pay62 V (k0_pay51 V (level V 0) k0_pay44 (seen V 0) (atLevel V (level V 0)) (k0_pay47 (F := Ideal))) (seen V 2) (level V 2) (atLevel V (level V 2)) (k0_pay55 V (level V 0) (seen V 0) (atLevel V (level V 0)))) (seen V 5) (down (level V 4))) (seen V 7) (under V (level V 6))) (k0_pay79 V (seen V 7) (under V (level V 6))) (k0_pay80 V (under V (level V 6))) (k0_pay81 V (under V (level V 6))) = quota V := by
  rfl

theorem s_176 : k0_pay176 (F := Ideal) x0 x1 x2 x3 x4 = quota (k0_pay165 (F := Ideal) x0 x1 x2 x3 x4) := by
  unfold k0_pay176
  simp only [s_166 x0 x1 x2 x3 x4, s_167 x0 x1 x2 x3 x4, s_168 x0 x1 x2 x3 x4, s_169 x0 x1 x2 x3 x4, s_170 x0 x1 x2 x3 x4, s_171 x0 x1 x2 x3 x4, s_172 x0 x1 x2 x3 x4, s_173 x0 x1 x2 x3 x4, s_174 x0 x1 x2 x3 x4, s_175 x0 x1 x2 x3 x4]
  exact g_176 (k0_pay165 (F := Ideal) x0 x1 x2 x3 x4)

theorem g_177 (C : Big) (io : IBig) : k0_pay83 C = (stand C io 0).1 := by
  simp only [stand_zero]
  rfl

theorem s_177 : k0_pay177 (F := Ideal) x0 x1 x2 x3 x4 = (stand (k0_pay162 (F := Ideal) x0 x1 x2 x3 x4) (k0_pay164 (F := Ideal) x0 x1 x2 x3 x4) 0).1 := by
  unfold k0_pay177
  exact g_177 (k0_pay162 (F := Ideal) x0 x1 x2 x3 x4) (k0_pay164 (F := Ideal) x0 x1 x2 x3 x4)

theorem g_178 (C : Big) (io : IBig) : k0_pay84 C io = found C io 0 := by
  unfold found
  simp only [stand_zero]
  rfl

theorem s_178 : k0_pay178 (F := Ideal) x0 x1 x2 x3 x4 = found (k0_pay162 (F := Ideal) x0 x1 x2 x3 x4) (k0_pay164 (F := Ideal) x0 x1 x2 x3 x4) 0 := by
  unfold k0_pay178
  exact g_178 (k0_pay162 (F := Ideal) x0 x1 x2 x3 x4) (k0_pay164 (F := Ideal) x0 x1 x2 x3 x4)

theorem g_179 (C : Big) (io : IBig) : k0_pay85 C io = moreAt C io (stand C io 0).1 (found C io 0) := by
  unfold found
  simp only [stand_zero]
  rfl

theorem s_179 : k0_pay179 (F := Ideal) x0 x1 x2 x3 x4 = moreAt (k0_pay162 (F := Ideal) x0 x1 x2 x3 x4) (k0_pay164 (F := Ideal) x0 x1 x2 x3 x4) (stand (k0_pay162 (F := Ideal) x0 x1 x2 x3 x4) (k0_pay164 (F := Ideal) x0 x1 x2 x3 x4) 0).1 (found (k0_pay162 (F := Ideal) x0 x1 x2 x3 x4) (k0_pay164 (F := Ideal) x0 x1 x2 x3 x4) 0) := by
  unfold k0_pay179
  exact g_179 (k0_pay162 (F := Ideal) x0 x1 x2 x3 x4) (k0_pay164 (F := Ideal) x0 x1 x2 x3 x4)

theorem g_180 (C : Big) (io : IBig) : k0_pay86 C = above C (stand C io 0).1 := by
  simp only [stand_zero]
  rfl

theorem s_180 : k0_pay180 (F := Ideal) x0 x1 x2 x3 x4 = above (k0_pay162 (F := Ideal) x0 x1 x2 x3 x4) (stand (k0_pay162 (F := Ideal) x0 x1 x2 x3 x4) (k0_pay164 (F := Ideal) x0 x1 x2 x3 x4) 0).1 := by
  unfold k0_pay180
  exact g_180 (k0_pay162 (F := Ideal) x0 x1 x2 x3 x4) (k0_pay164 (F := Ideal) x0 x1 x2 x3 x4)

theorem g_181 (C : Big) (io : IBig) : k0_pay90 C io ((stand C io 0).1) (found C io 0) (moreAt C io (stand C io 0).1 (found C io 0)) (above C (stand C io 0).1) = (stand C io 2).1 := by
  unfold found
  rw [stand_two C io 0]
  generalize stand C io 0 = s
  obtain ⟨m, p⟩ := s
  simp only [next]
  rfl

theorem s_181 : k0_pay181 (F := Ideal) x0 x1 x2 x3 x4 = (stand (k0_pay162 (F := Ideal) x0 x1 x2 x3 x4) (k0_pay164 (F := Ideal) x0 x1 x2 x3 x4) 2).1 := by
  unfold k0_pay181
  simp only [s_177 x0 x1 x2 x3 x4, s_178 x0 x1 x2 x3 x4, s_179 x0 x1 x2 x3 x4, s_180 x0 x1 x2 x3 x4]
  exact g_181 (k0_pay162 (F := Ideal) x0 x1 x2 x3 x4) (k0_pay164 (F := Ideal) x0 x1 x2 x3 x4)

theorem g_182 (C : Big) (io : IBig) : k0_pay91 C io ((stand C io 0).1) (found C io 0) (moreAt C io (stand C io 0).1 (found C io 0)) (above C (stand C io 0).1) = found C io 2 := by
  unfold found
  rw [stand_two C io 0]
  generalize stand C io 0 = s
  obtain ⟨m, p⟩ := s
  simp only [next]
  rfl

theorem s_182 : k0_pay182 (F := Ideal) x0 x1 x2 x3 x4 = found (k0_pay162 (F := Ideal) x0 x1 x2 x3 x4) (k0_pay164 (F := Ideal) x0 x1 x2 x3 x4) 2 := by
  unfold k0_pay182
  simp only [s_177 x0 x1 x2 x3 x4, s_178 x0 x1 x2 x3 x4, s_179 x0 x1 x2 x3 x4, s_180 x0 x1 x2 x3 x4]
  exact g_182 (k0_pay162 (F := Ideal) x0 x1 x2 x3 x4) (k0_pay164 (F := Ideal) x0 x1 x2 x3 x4)

theorem g_183 (C : Big) (io : IBig) : k0_pay92 C io ((stand C io 0).1) (found C io 0) (moreAt C io (stand C io 0).1 (found C io 0)) (above C (stand C io 0).1) = past C io (stand C io 2).1 (found C io 2) := by
  unfold found
  rw [stand_two C io 0]
  generalize stand C io 0 = s
  obtain ⟨m, p⟩ := s
  simp only [next]
  rfl

theorem s_183 : k0_pay183 (F := Ideal) x0 x1 x2 x3 x4 = past (k0_pay162 (F := Ideal) x0 x1 x2 x3 x4) (k0_pay164 (F := Ideal) x0 x1 x2 x3 x4) (stand (k0_pay162 (F := Ideal) x0 x1 x2 x3 x4) (k0_pay164 (F := Ideal) x0 x1 x2 x3 x4) 2).1 (found (k0_pay162 (F := Ideal) x0 x1 x2 x3 x4) (k0_pay164 (F := Ideal) x0 x1 x2 x3 x4) 2) := by
  unfold k0_pay183
  simp only [s_177 x0 x1 x2 x3 x4, s_178 x0 x1 x2 x3 x4, s_179 x0 x1 x2 x3 x4, s_180 x0 x1 x2 x3 x4]
  exact g_183 (k0_pay162 (F := Ideal) x0 x1 x2 x3 x4) (k0_pay164 (F := Ideal) x0 x1 x2 x3 x4)

theorem g_184 (C : Big) (io : IBig) : k0_pay97 C io ((stand C io 2).1) (found C io 2) (past C io (stand C io 2).1 (found C io 2)) = (stand C io 4).1 := by
  unfold found
  rw [stand_two C io 2]
  generalize stand C io 2 = s
  obtain ⟨m, p⟩ := s
  simp only [next]
  rfl

theorem s_184 : k0_pay184 (F := Ideal) x0 x1 x2 x3 x4 = (stand (k0_pay162 (F := Ideal) x0 x1 x2 x3 x4) (k0_pay164 (F := Ideal) x0 x1 x2 x3 x4) 4).1 := by
  unfold k0_pay184
  simp only [s_181 x0 x1 x2 x3 x4, s_182 x0 x1 x2 x3 x4, s_183 x0 x1 x2 x3 x4]
  exact g_184 (k0_pay162 (F := Ideal) x0 x1 x2 x3 x4) (k0_pay164 (F := Ideal) x0 x1 x2 x3 x4)

theorem g_185 (C : Big) (io : IBig) : k0_pay98 C io ((stand C io 2).1) (found C io 2) (past C io (stand C io 2).1 (found C io 2)) = (stand C io 4).2 := by
  unfold found
  rw [stand_two C io 2]
  generalize stand C io 2 = s
  obtain ⟨m, p⟩ := s
  simp only [next]
  rfl

theorem s_185 : k0_pay185 (F := Ideal) x0 x1 x2 x3 x4 = (stand (k0_pay162 (F := Ideal) x0 x1 x2 x3 x4) (k0_pay164 (F := Ideal) x0 x1 x2 x3 x4) 4).2 := by
  unfold k0_pay185
  simp only [s_181 x0 x1 x2 x3 x4, s_182 x0 x1 x2 x3 x4, s_183 x0 x1 x2 x3 x4]
  exact g_185 (k0_pay162 (F := Ideal) x0 x1 x2 x3 x4) (k0_pay164 (F := Ideal) x0 x1 x2 x3 x4)

theorem g_186 (C : Big) (io : IBig) : k0_pay99 C io ((stand C io 2).1) (found C io 2) (past C io (stand C io 2).1 (found C io 2)) = cmpf .oeq C (down (stand C io 4).1) := by
  unfold found
  rw [stand_two C io 2]
  generalize stand C io 2 = s
  obtain ⟨m, p⟩ := s
  simp only [next]
  rfl

theorem s_186 : k0_pay186 (F := Ideal) x0 x1 x2 x3 x4 = cmpf .oeq (k0_pay162 (F := Ideal) x0 x1 x2 x3 x4) (down (stand (k0_pay162 (F := Ideal) x0 x1 x2 x3 x4) (k0_pay164 (F := Ideal) x0 x1 x2 x3 x4) 4).1) := by
  unfold k0_pay186
  simp only [s_181 x0 x1 x2 x3 x4, s_182 x0 x1 x2 x3 x4, s_183 x0 x1 x2 x3 x4]
  exact g_186 (k0_pay162 (F := Ideal) x0 x1 x2 x3 x4) (k0_pay164 (F := Ideal) x0 x1 x2 x3 x4)

theorem g_187 (C : Big) (io : IBig) : k0_pay102 C io ((stand C io 4).1) ((stand C io 4).2) (cmpf .oeq C (down (stand C io 4).1)) = (stand C io 5).1 := by
  rw [stand_succ C io 4]
  generalize stand C io 4 = s
  obtain ⟨m, p⟩ := s
  simp only [next]
  rfl

theorem s_187 : k0_pay187 (F := Ideal) x0 x1 x2 x3 x4 = (stand (k0_pay162 (F := Ideal) x0 x1 x2 x3 x4) (k0_pay164 (F := Ideal) x0 x1 x2 x3 x4) 5).1 := by
  unfold k0_pay187
  simp only [s_184 x0 x1 x2 x3 x4, s_185 x0 x1 x2 x3 x4, s_186 x0 x1 x2 x3 x4]
  exact g_187 (k0_pay162 (F := Ideal) x0 x1 x2 x3 x4) (k0_pay164 (F := Ideal) x0 x1 x2 x3 x4)

theorem g_188 (C : Big) (io : IBig) : k0_pay103 C io ((stand C io 4).1) ((stand C io 4).2) (cmpf .oeq C (down (stand C io 4).1)) = found C io 5 := by
  unfold found
  rw [stand_succ C io 4]
  generalize stand C io 4 = s
  obtain ⟨m, p⟩ := s
  simp only [next]
  rfl

theorem s_188 : k0_pay188 (F := Ideal) x0 x1 x2 x3 x4 = found (k0_pay162 (F := Ideal) x0 x1 x2 x3 x4) (k0_pay164 (F := Ideal) x0 x1 x2 x3 x4) 5 := by
  unfold k0_pay188
  simp only [s_184 x0 x1 x2 x3 x4, s_185 x0 x1 x2 x3 x4, s_186 x0 x1 x2 x3 x4]
  exact g_188 (k0_pay162 (F := Ideal) x0 x1 x2 x3 x4) (k0_pay164 (F := Ideal) x0 x1 x2 x3 x4)

theorem g_189 (C : Big) (io : IBig) : k0_pay104 C io ((stand C io 4).1) ((stand C io 4).2) (cmpf .oeq C (down (stand C io 4).1)) = moreAt C io (stand C io 5).1 (found C io 5) := by
  unfold found
  rw [stand_succ C io 4]
  generalize stand C io 4 = s
  obtain ⟨m, p⟩ := s
  simp only [next]
  rfl

theorem s_189 : k0_pay189 (F := Ideal) x0 x1 x2 x3 x4 = moreAt (k0_pay162 (F := Ideal) x0 x1 x2 x3 x4) (k0_pay164 (F := Ideal) x0 x1 x2 x3 x4) (stand (k0_pay162 (F := Ideal) x0 x1 x2 x3 x4) (k0_pay164 (F := Ideal) x0 x1 x2 x3 x4) 5).1 (found (k0_pay162 (F := Ideal) x0 x1 x2 x3 x4) (k0_pay164 (F := Ideal) x0 x1 x2 x3 x4) 5) := by
  unfold k0_pay189
  simp only [s_184 x0 x1 x2 x3 x4, s_185 x0 x1 x2 x3 x4, s_186 x0 x1 x2 x3 x4]
  exact g_189 (k0_pay162 (F := Ideal) x0 x1 x2 x3 x4) (k0_pay164 (F := Ideal) x0 x1 x2 x3 x4)

theorem g_190 (C : Big) (io : IBig) : k0_pay108 C io ((stand C io 5).1) (found C io 5) (moreAt C io (stand C io 5).1 (found C io 5)) = (stand C io 7).1 := by
  unfold found
  rw [stand_two C io 5]
  generalize stand C io 5 = s
  obtain ⟨m, p⟩ := s
  simp only [next]
  rfl

theorem s_190 : k0_pay190 (F := Ideal) x0 x1 x2 x3 x4 = (stand (k0_pay162 (F := Ideal) x0 x1 x2 x3 x4) (k0_pay164 (F := Ideal) x0 x1 x2 x3 x4) 7).1 := by
  unfold k0_pay190
  simp only [s_187 x0 x1 x2 x3 x4, s_188 x0 x1 x2 x3 x4, s_189 x0 x1 x2 x3 x4]
  exact g_190 (k0_pay162 (F := Ideal) x0 x1 x2 x3 x4) (k0_pay164 (F := Ideal) x0 x1 x2 x3 x4)

theorem g_191 (C : Big) (io : IBig) : k0_pay109 C io ((stand C io 5).1) (found C io 5) (moreAt C io (stand C io 5).1 (found C io 5)) = found C io 7 := by
  unfold found
  rw [stand_two C io 5]
  generalize stand C io 5 = s
  obtain ⟨m, p⟩ := s
  simp only [next]
  rfl

theorem s_191 : k0_pay191 (F := Ideal) x0 x1 x2 x3 x4 = found (k0_pay162 (F := Ideal) x0 x1 x2 x3 x4) (k0_pay164 (F := Ideal) x0 x1 x2 x3 x4) 7 := by
  unfold k0_pay191
  simp only [s_187 x0 x1 x2 x3 x4, s_188 x0 x1 x2 x3 x4, s_189 x0 x1 x2 x3 x4]
  exact g_191 (k0_pay162 (F := Ideal) x0 x1 x2 x3 x4) (k0_pay164 (F := Ideal) x0 x1 x2 x3 x4)

theorem g_192 (C : Big) (io : IBig) : k0_pay112 C io ((stand C io 7).1) (found C io 7) = found C io 8 := by
  unfold found
  rw [stand_succ C io 7]
  generalize stand C io 7 = s
  obtain ⟨m, p⟩ := s
  simp only [next]
  rfl

theorem s_192 : k0_pay192 (F := Ideal) x0 x1 x2 x3 x4 = found (k0_pay162 (F := Ideal) x0 x1 x2 x3 x4) (k0_pay164 (F := Ideal) x0 x1 x2 x3 x4) 8 := by
  unfold k0_pay192
  simp only [s_190 x0 x1 x2 x3 x4, s_191 x0 x1 x2 x3 x4]
  exact g_192 (k0_pay162 (F := Ideal) x0 x1 x2 x3 x4) (k0_pay164 (F := Ideal) x0 x1 x2 x3 x4)

theorem f_1 (C : Big) (io : IBig) : k0_pay88 C io (stand C io 0).1 (found C io 0) (moreAt C io (stand C io 0).1 (found C io 0)) (above C (stand C io 0).1) = found C io 1 := by
  unfold found
  rw [stand_succ C io 0]
  generalize stand C io 0 = s
  obtain ⟨m, p⟩ := s
  simp only [next]
  rfl

theorem f_3 (C : Big) (io : IBig) : k0_pay95 C io (stand C io 2).1 (found C io 2) (past C io (stand C io 2).1 (found C io 2)) = found C io 3 := by
  unfold found
  rw [stand_succ C io 2]
  generalize stand C io 2 = s
  obtain ⟨m, p⟩ := s
  simp only [next]
  rfl

theorem f_4 (C : Big) (io : IBig) : k0_pay100 io (stand C io 4).2 (cmpf .oeq C (down (stand C io 4).1)) = found C io 4 := by
  unfold found
  generalize stand C io 4 = s
  obtain ⟨m, p⟩ := s
  simp only [next]
  rfl

theorem f_6 (C : Big) (io : IBig) : k0_pay106 C io (stand C io 5).1 (found C io 5) (moreAt C io (stand C io 5).1 (found C io 5)) = found C io 6 := by
  unfold found
  rw [stand_succ C io 5]
  generalize stand C io 5 = s
  obtain ⟨m, p⟩ := s
  simp only [next]
  rfl

theorem f_9 (C : Big) (io : IBig) : k0_pay115 C io (found C io 8) (k0_pay113 C io (stand C io 7).1 (found C io 7)) (k0_pay114 C io (stand C io 7).1 (found C io 7)) = found C io 9 := by
  unfold found
  rw [stand_two C io 7, stand_succ C io 7]
  generalize stand C io 7 = s
  obtain ⟨m, p⟩ := s
  simp only [next]
  rfl

theorem g_193 (C : Big) (io : IBig) (ks : IRow) : k0_pay120 C io ks (found C io 8) (k0_pay115 C io (found C io 8) (k0_pay113 C io ((stand C io 7).1) (found C io 7)) (k0_pay114 C io ((stand C io 7).1) (found C io 7))) (k0_pay119 io ks (k0_pay100 io ((stand C io 4).2) (cmpf .oeq C (down (stand C io 4).1))) (found C io 5) (k0_pay106 C io ((stand C io 5).1) (found C io 5) (moreAt C io (stand C io 5).1 (found C io 5))) (found C io 7) (k0_pay116 (F := Ideal) io ks (found C io 0) (k0_pay88 C io ((stand C io 0).1) (found C io 0) (moreAt C io (stand C io 0).1 (found C io 0)) (above C (stand C io 0).1)) (found C io 2)) (k0_pay117 io (k0_pay95 C io ((stand C io 2).1) (found C io 2) (past C io (stand C io 2).1 (found C io 2)))) (k0_pay118 ks)) = settle C (marks C io ks 10) := by
  rw [f_1, f_3, f_4, f_6, f_9]
  unfold marks
  generalize found C io = g
  rfl

theorem s_193 : k0_pay193 (F := Ideal) x0 x1 x2 x3 x4 = settle (k0_pay162 (F := Ideal) x0 x1 x2 x3 x4) (marks (k0_pay162 (F := Ideal) x0 x1 x2 x3 x4) (k0_pay164 (F := Ideal) x0 x1 x2 x3 x4) (k0_pay176 (F := Ideal) x0 x1 x2 x3 x4) 10) := by
  unfold k0_pay193
  simp only [s_177 x0 x1 x2 x3 x4, s_178 x0 x1 x2 x3 x4, s_179 x0 x1 x2 x3 x4, s_180 x0 x1 x2 x3 x4, s_181 x0 x1 x2 x3 x4, s_182 x0 x1 x2 x3 x4, s_183 x0 x1 x2 x3 x4, s_184 x0 x1 x2 x3 x4, s_185 x0 x1 x2 x3 x4, s_186 x0 x1 x2 x3 x4, s_187 x0 x1 x2 x3 x4, s_188 x0 x1 x2 x3 x4, s_189 x0 x1 x2 x3 x4, s_190 x0 x1 x2 x3 x4, s_191 x0 x1 x2 x3 x4, s_192 x0 x1 x2 x3 x4]
  exact g_193 (k0_pay162 (F := Ideal) x0 x1 x2 x3 x4) (k0_pay164 (F := Ideal) x0 x1 x2 x3 x4) (k0_pay176 (F := Ideal) x0 x1 x2 x3 x4)

end

end Cert.KernelIdeal.Gen
-- ==== Proof.KerCost.lean ====
/-
  The matching kernel's centres, costs, overlaps and validity, entry by entry, as the plain functions of the image.
-/
module

public import proofs.«01_k».proof.Proof.Gen.KernelIdeal.Frame
public import proofs.«01_k».proof.Proof.RealVals

@[expose] public section

noncomputable section

namespace Cert.KernelIdeal.Gen

open Cert.KernelIdeal Cert.KernelIdeal.Gen Cert.Loss Idealize.ShloMosaic Idealize.ShloMosaic.TcCoe Idealize.SL.Sem Idealize.ShloMosaic.StableHlo

/-- The blocks hold one image: logits, boxes, the object boxes with their corners first, and the classes as indicators. -/
structure Blk (I : Img) (x0 : Vec Ideal S1x4096x80 .f32) (x1 : Vec Ideal S1x4096x4 .f32) (x2 : Vec Ideal S1x4x128 .f32)
    (x3 : Vec Ideal S1x80x128 .f32) (x4 : Vec Ideal S1x128x80 .f32) : Prop where
  h0 : ∀ i c, x0 (ix3 0 i c) = I.lg i c
  h1 : ∀ i k, x1 (ix3 0 i k) = I.bx i k
  h2 : ∀ k j, x2 (ix3 0 k j) = I.gb j k
  h3 : ∀ c j, x3 (ix3 0 c j) = if I.gc j = c then 1 else 0
  h4 : ∀ j c, x4 (ix3 0 j c) = if I.gc j = c then 1 else 0

/-- A largest truth value is above 0 exactly when one of them holds. -/
theorem fold_max_ind {n : ℕ} (p : Fin n → Bool) :
    decide ((0 : EReal) < (Finset.univ : Finset (Fin n)).fold max ⊥ (fun j => if p j = true then (1 : EReal) else 0)) = decide (∃ j, p j = true) := by
  apply decide_eq_decide.mpr
  rw [Finset.lt_fold_max]
  constructor
  · rintro (h | ⟨j, _, h⟩)
    · exact absurd h (not_lt.mpr bot_le)
    · refine ⟨j, ?_⟩
      by_contra hn
      rw [if_neg hn] at h
      exact lt_irrefl _ h
  · rintro ⟨j, hj⟩
    refine Or.inr ⟨j, Finset.mem_univ _, ?_⟩
    rw [if_pos hj]; exact zero_lt_one

/-- A sum against an indicator is the entry it names. -/
theorem sum_ind {n : ℕ} (f : Fin n → EReal) (c : Fin n) : (∑ k, f k * (if c = k then (1 : EReal) else 0)) = f c := by
  rw [Finset.sum_eq_single c]
  · rw [if_pos rfl, mul_one]
  · intro k _ hk; rw [if_neg (Ne.symm hk), mul_zero]
  · intro h; exact absurd (Finset.mem_univ _) h

theorem k_137 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) (c : Fin 80) :
    k0_pay137 (F := Ideal) x0 x1 x2 x3 x4 (ix2 i c) = I.lg i c := by
  pointwise [k0_pay137, k0_pay2, id_eq]
  simp only [h.h0]

theorem k_138 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) :
    k0_pay138 (F := Ideal) x0 x1 x2 x3 x4 (ix2 i 0) = I.bx i 0 := by
  pointwise [k0_pay138, k0_pay7, k0_pay3, id_eq]
  simp only [h.h1]

theorem k_139 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) :
    k0_pay139 (F := Ideal) x0 x1 x2 x3 x4 (ix2 i 0) = I.bx i 1 := by
  pointwise [k0_pay139, k0_pay8, k0_pay3, id_eq]
  simp only [h.h1]

theorem k_140 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) :
    k0_pay140 (F := Ideal) x0 x1 x2 x3 x4 (ix2 i 0) = I.bx i 2 := by
  pointwise [k0_pay140, k0_pay9, k0_pay3, id_eq]
  simp only [h.h1]

theorem k_141 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) :
    k0_pay141 (F := Ideal) x0 x1 x2 x3 x4 (ix2 i 0) = I.bx i 3 := by
  pointwise [k0_pay141, k0_pay10, k0_pay3, id_eq]
  simp only [h.h1]

theorem k_142 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (j : Fin 128) :
    k0_pay142 (F := Ideal) x0 x1 x2 x3 x4 (ix2 0 j) = I.gb j 0 := by
  pointwise [k0_pay142, k0_pay11, k0_pay4, id_eq]
  simp only [h.h2]

theorem k_143 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (j : Fin 128) :
    k0_pay143 (F := Ideal) x0 x1 x2 x3 x4 (ix2 0 j) = I.gb j 1 := by
  pointwise [k0_pay143, k0_pay12, k0_pay4, id_eq]
  simp only [h.h2]

theorem k_144 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (j : Fin 128) :
    k0_pay144 (F := Ideal) x0 x1 x2 x3 x4 (ix2 0 j) = I.gb j 2 := by
  pointwise [k0_pay144, k0_pay13, k0_pay4, id_eq]
  simp only [h.h2]

theorem k_145 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (j : Fin 128) :
    k0_pay145 (F := Ideal) x0 x1 x2 x3 x4 (ix2 0 j) = I.gb j 3 := by
  pointwise [k0_pay145, k0_pay14, k0_pay4, id_eq]
  simp only [h.h2]

theorem k_146 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) :
    k0_pay146 (F := Ideal) x0 x1 x2 x3 x4 (ix2 i 0) = I.cx i := by
  pointwise [k0_pay146, k0_pay15, k0_pay9, k0_pay3, k0_pay7, id_eq]
  simp only [h.h1]
  rfl

theorem k_147 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) :
    k0_pay147 (F := Ideal) x0 x1 x2 x3 x4 (ix2 i 0) = I.cy i := by
  pointwise [k0_pay147, k0_pay16, k0_pay10, k0_pay3, k0_pay8, id_eq]
  simp only [h.h1]
  rfl

theorem k_148 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) :
    k0_pay148 (F := Ideal) x0 x1 x2 x3 x4 (ix2 i 0) = I.sx i := by
  pointwise [k0_pay148, k0_pay17, k0_pay7, k0_pay3, k0_pay9, id_eq]
  simp only [h.h1]
  rfl

theorem k_149 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) :
    k0_pay149 (F := Ideal) x0 x1 x2 x3 x4 (ix2 i 0) = I.sy i := by
  pointwise [k0_pay149, k0_pay18, k0_pay8, k0_pay3, k0_pay10, id_eq]
  simp only [h.h1]
  rfl

theorem k_153 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) :
    k0_pay153 (F := Ideal) x0 x1 x2 x3 x4 (ix2 i 0) = I.nb i 0 := by
  pointwise [k0_pay153, k0_pay27, id_eq]
  simp only [k_138 _ _ _ _ _ _ h]
  rfl

theorem k_154 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) :
    k0_pay154 (F := Ideal) x0 x1 x2 x3 x4 (ix2 i 0) = I.nb i 1 := by
  pointwise [k0_pay154, k0_pay28, id_eq]
  simp only [k_139 _ _ _ _ _ _ h]
  rfl

theorem k_155 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) :
    k0_pay155 (F := Ideal) x0 x1 x2 x3 x4 (ix2 i 0) = I.nb i 2 := by
  pointwise [k0_pay155, k0_pay29, id_eq]
  simp only [k_140 _ _ _ _ _ _ h]
  rfl

theorem k_156 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) :
    k0_pay156 (F := Ideal) x0 x1 x2 x3 x4 (ix2 i 0) = I.nb i 3 := by
  pointwise [k0_pay156, k0_pay30, id_eq]
  simp only [k_141 _ _ _ _ _ _ h]
  rfl

theorem k_157 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (j : Fin 128) :
    k0_pay157 (F := Ideal) x0 x1 x2 x3 x4 (ix2 0 j) = I.ngb j 0 := by
  pointwise [k0_pay157, k0_pay31, id_eq]
  simp only [k_142 _ _ _ _ _ _ h]
  rfl

theorem k_158 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (j : Fin 128) :
    k0_pay158 (F := Ideal) x0 x1 x2 x3 x4 (ix2 0 j) = I.ngb j 1 := by
  pointwise [k0_pay158, k0_pay32, id_eq]
  simp only [k_143 _ _ _ _ _ _ h]
  rfl

theorem k_159 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (j : Fin 128) :
    k0_pay159 (F := Ideal) x0 x1 x2 x3 x4 (ix2 0 j) = I.ngb j 2 := by
  pointwise [k0_pay159, k0_pay33, id_eq]
  simp only [k_144 _ _ _ _ _ _ h]
  rfl

theorem k_160 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (j : Fin 128) :
    k0_pay160 (F := Ideal) x0 x1 x2 x3 x4 (ix2 0 j) = I.ngb j 3 := by
  pointwise [k0_pay160, k0_pay34, id_eq]
  simp only [k_145 _ _ _ _ _ _ h]
  rfl

theorem k_150 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) (j : Fin 128) :
    k0_pay150 (F := Ideal) x0 x1 x2 x3 x4 (ix2 i j) = BitVec.ofBool (decide (I.gb j 0 < I.cx i) && decide (I.cx i < I.gb j 2)) := by
  pointwise [k0_pay150, k0_pay19, k0_pay13, k0_pay4, k0_pay15, k0_pay9, k0_pay3, k0_pay7, k0_pay11, id_eq]
  simp only [h.h1, h.h2, andi_ofBool]
  rfl

theorem k_151 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) (j : Fin 128) :
    k0_pay151 (F := Ideal) x0 x1 x2 x3 x4 (ix2 i j) = BitVec.ofBool (decide (I.gb j 1 < I.cy i)) := by
  pointwise [k0_pay151, k0_pay20, k0_pay12, k0_pay4, k0_pay16, k0_pay10, k0_pay3, k0_pay8, id_eq]
  simp only [h.h1, h.h2, andi_ofBool]
  rfl

theorem k_152 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) :
    k0_pay152 (F := Ideal) x0 x1 x2 x3 x4 (ix2 i 0) = BitVec.ofBool (I.valid i) := by
  pointwise [k0_pay152, k0_pay23, k0_pay22, k0_pay21, id_eq]
  simp only [k_142 _ _ _ _ _ _ h, k_143 _ _ _ _ _ _ h, k_144 _ _ _ _ _ _ h, k_145 _ _ _ _ _ _ h, k_146 _ _ _ _ _ _ h, k_147 _ _ _ _ _ _ h, k_148 _ _ _ _ _ _ h, k_149 _ _ _ _ _ _ h, k_150 _ _ _ _ _ _ h, k_151 _ _ _ _ _ _ h]
  simp only [andi_ofBool, ori_ofBool, select_ofBool, cNegInf_eq]
  have e : ∀ j, ((decide (I.gb j 0 < I.cx i) && decide (I.cx i < I.gb j 2) && decide (I.gb j 1 < I.cy i) && decide (I.cy i < I.gb j 3)) = I.inGt i j) := fun _ => rfl
  have e' : ∀ j, ((decide (Ideal.div (I.gb j 0 + I.gb j 2) cTwo - cRad * I.sx i < I.cx i) && decide (I.cx i < Ideal.div (I.gb j 0 + I.gb j 2) cTwo + cRad * I.sx i)
      && decide (Ideal.div (I.gb j 1 + I.gb j 3) cTwo - cRad * I.sy i < I.cy i) && decide (I.cy i < Ideal.div (I.gb j 1 + I.gb j 3) cTwo + cRad * I.sy i)) = I.inCt i j) := fun _ => rfl
  simp only [e, e', fold_max_ind]
  rfl

theorem k_165 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) (j : Fin 128) :
    k0_pay165 (F := Ideal) x0 x1 x2 x3 x4 (ix2 i j) = I.iou i j := by
  pointwise [k0_pay165, k0_pay163, k0_pay41, k0_pay42, id_eq]
  simp only [k_138 _ _ _ _ _ _ h, k_139 _ _ _ _ _ _ h, k_140 _ _ _ _ _ _ h, k_141 _ _ _ _ _ _ h, k_142 _ _ _ _ _ _ h, k_143 _ _ _ _ _ _ h, k_144 _ _ _ _ _ _ h, k_145 _ _ _ _ _ _ h, k_152 _ _ _ _ _ _ h]
  simp only [select_ofBool, max_comm _ (0 : EReal)]
  rfl

theorem k_162 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) (j : Fin 128) :
    k0_pay162 (F := Ideal) x0 x1 x2 x3 x4 (ix2 i j) = I.cost i j := by
  pointwise [k0_pay162, k0_pay39, k0_pay32, k0_pay34, k0_pay30, k0_pay38, k0_pay31, k0_pay33, k0_pay37, k0_pay161, k0_pay36, k0_pay35, k0_pay5, k0_pay26, k0_pay25, k0_pay22, k0_pay21, k0_pay24, k0_pay40, id_eq]
  simp only [k_137 _ _ _ _ _ _ h, k_141 _ _ _ _ _ _ h, k_142 _ _ _ _ _ _ h, k_143 _ _ _ _ _ _ h, k_144 _ _ _ _ _ _ h, k_145 _ _ _ _ _ _ h, k_146 _ _ _ _ _ _ h, k_147 _ _ _ _ _ _ h, k_148 _ _ _ _ _ _ h, k_149 _ _ _ _ _ _ h, k_150 _ _ _ _ _ _ h, k_151 _ _ _ _ _ _ h, k_152 _ _ _ _ _ _ h, k_153 _ _ _ _ _ _ h, k_154 _ _ _ _ _ _ h, k_155 _ _ _ _ _ _ h, k_156 _ _ _ _ _ _ h, k_157 _ _ _ _ _ _ h, k_158 _ _ _ _ _ _ h, k_159 _ _ _ _ _ _ h, k_160 _ _ _ _ _ _ h]
  simp only [andi_ofBool, select_ofBool, max_comm _ (0 : EReal), zero_sub, h.h3, sum_ind]
  rfl

theorem k_164 (x0 : Vec Ideal S1x4096x80 .f32) (x1 : Vec Ideal S1x4096x4 .f32) (x2 : Vec Ideal S1x4x128 .f32) (x3 : Vec Ideal S1x80x128 .f32) (x4 : Vec Ideal S1x128x80 .f32) (I : Img) (h : Blk I x0 x1 x2 x3 x4)  (i : Fin 4096) (j : Fin 128) :
    k0_pay164 (F := Ideal) x0 x1 x2 x3 x4 (ix2 i j) = BitVec.ofNat 32 i.val := by
  pointwise [k0_pay164, id_eq]
  try rfl

end Cert.KernelIdeal.Gen
-- ==== Proof.KerMatch.lean ====
/-
  The matching kernel's steps entry by entry: the quota of each column, the rows it finds, and the marks that stay.
-/
module

public import proofs.«01_k».proof.Proof.KerSteps
public import proofs.«01_k».proof.Proof.KerCost

@[expose] public section

noncomputable section

namespace Cert.KernelIdeal.Gen

open Cert.KernelIdeal Cert.KernelIdeal.Gen Cert.Loss Idealize.ShloMosaic Idealize.ShloMosaic.TcCoe Idealize.SL.Sem Idealize.ShloMosaic.StableHlo Finset

theorem cmpi_slt (x y : BitVec 32) : IntOp.cmpi .slt x y = BitVec.ofBool (decide (x.toInt < y.toInt)) := by
  rw [← slt_iff]; rfl
theorem cmpi_sgt (x y : BitVec 32) : IntOp.cmpi .sgt x y = BitVec.ofBool (decide (y.toInt < x.toInt)) := by
  rw [← slt_iff]; rfl
theorem cmpi_eq (x y : BitVec 32) : IntOp.cmpi .eq x y = BitVec.ofBool (x == y) := rfl
theorem toInt_pos {n : ℕ} (hn : n < 2 ^ 31) (a : Fin n) : (BitVec.ofNat 32 a.val).toInt = (a.val : ℤ) :=
  toInt_ofNat (by have := a.isLt; omega)
theorem word_inj {n : ℕ} (hn : n < 2 ^ 31) (a b : Fin n) : (BitVec.ofNat 32 a.val == BitVec.ofNat 32 b.val) = decide (a = b) := by
  rw [Bool.eq_iff_iff]
  simp only [beq_iff_eq, decide_eq_true_eq]
  constructor
  · intro h
    have h := congrArg BitVec.toInt h
    rw [toInt_pos hn, toInt_pos hn] at h
    exact Fin.ext (by exact_mod_cast h)
  · rintro rfl; rfl

/-! ## The quota -/

theorem colMax_apply (X : Big) (j : Fin 128) : colMax X (ix2 0 j) = univ.fold max ⊥ fun i => X (ix2 i j) := by
  pointwise [colMax, id_eq]
  rw [cNegInf_eq]
theorem colMin_apply (X : Big) (j : Fin 128) : colMin X (ix2 0 j) = univ.fold min ⊤ fun i => X (ix2 i j) := by
  pointwise [colMin, id_eq]
  rw [cInf_eq]
theorem colSum_apply (X : Big) (j : Fin 128) : colSum X (ix2 0 j) = ∑ i, X (ix2 i j) := by
  pointwise [colSum, id_eq]
theorem colLeast_apply (X : IBig) (j : Fin 128) :
    colLeast X (ix2 0 j) = univ.fold IntOp.minsi (2147483647#32) fun i => X (ix2 i j) := by
  pointwise [colLeast, id_eq]
theorem under_apply (X : Big) (m : Row) (i : Fin 4096) (j : Fin 128) :
    under X m (ix2 i j) = if X (ix2 i j) < m (ix2 0 j) then X (ix2 i j) else -1 := by
  pointwise [under, down, big, id_eq]
  rw [cNegOne_eq]
theorem atLevel_apply (X : Big) (m : Row) (j : Fin 128) : atLevel X m (ix2 0 j) = cntOf (fun i => X (ix2 i j)) (m (ix2 0 j)) := by
  unfold atLevel
  rw [colSum_apply]
  unfold cntOf
  refine sum_congr rfl fun i _ => ?_
  pointwise [mark, down, big, id_eq]

theorem level_apply (V : Big) (j : Fin 128) (t : ℕ) : level V t (ix2 0 j) = mxAt (fun i => V (ix2 i j)) t := by
  induction t with
  | zero => simp only [level, mxAt]; rw [colMax_apply]
  | succ t ih =>
    simp only [level, mxAt, nextMx]
    rw [colMax_apply]
    simp only [under_apply, ih]
theorem seen_apply (V : Big) (j : Fin 128) (t : ℕ) : seen V t (ix2 0 j) = csAt (fun i => V (ix2 i j)) t := by
  induction t with
  | zero => simp only [csAt]; pointwise [seen, row, id_eq]
  | succ t ih =>
    simp only [csAt]
    pointwise [seen, id_eq]
    rw [ih, atLevel_apply, level_apply]
theorem taken_apply (V : Big) (j : Fin 128) (t : ℕ) : taken V t (ix2 0 j) = tkAt (fun i => V (ix2 i j)) t := by
  induction t with
  | zero => simp only [tkAt]; pointwise [taken, row, id_eq]
  | succ t ih =>
    simp only [tkAt]
    pointwise [taken, row, id_eq]
    rw [ih, atLevel_apply, level_apply, seen_apply, cTen_eq]

theorem quota_apply (V : Big) (j : Fin 128) (hv : ∀ i, 0 ≤ V (ix2 i j)) :
    quota V (ix2 0 j) = IntOp.minsi 10#32 (IntOp.maxsi 1#32 (Ideal.fptosi 32 (topSum fun i => V (ix2 i j)))) := by
  rw [← tkAt_ten _ hv (by decide), ← taken_apply]
  pointwise [quota, id_eq]
  rfl

/-! ## The rows found -/

section found
variable (C : Big) (io : IBig) (hio : ∀ i j, io (ix2 i j) = BitVec.ofNat 32 i.val)
include hio

theorem past_apply (m : Row) (p : IRow) (i : Fin 4096) (j : Fin 128) :
    past C io m p (ix2 i j) = BitVec.ofBool (decide (C (ix2 i j) = m (ix2 0 j) ∧ (p (ix2 0 j)).toInt < (i.val : ℤ))) := by
  pointwise [past, down, downI, id_eq]
  rw [cmpi_sgt, andi_ofBool, hio, toInt_pos (by decide), ← Bool.decide_and]

theorem firstAt_apply (m : Row) (p : IRow) (j : Fin 128) :
    (∃ f : Fin 4096, (C (ix2 f j) = m (ix2 0 j) ∧ (p (ix2 0 j)).toInt < (f.val : ℤ))
        ∧ (∀ k : Fin 4096, (C (ix2 k j) = m (ix2 0 j) ∧ (p (ix2 0 j)).toInt < (k.val : ℤ)) → f ≤ k)
        ∧ firstAt C io m p (ix2 0 j) = BitVec.ofNat 32 f.val)
      ∨ ((∀ k : Fin 4096, ¬ (C (ix2 k j) = m (ix2 0 j) ∧ (p (ix2 0 j)).toInt < (k.val : ℤ)))
        ∧ firstAt C io m p (ix2 0 j) = 4096#32) := by
  have e : firstAt C io m p (ix2 0 j) = univ.fold IntOp.minsi 2147483647#32 (fun k : Fin 4096 =>
      if C (ix2 k j) = m (ix2 0 j) ∧ (p (ix2 0 j)).toInt < (k.val : ℤ) then BitVec.ofNat 32 k.val else BitVec.ofNat 32 4096) := by
    unfold firstAt
    rw [colLeast_apply]
    congr 1
    funext i
    pointwise [id_eq]
    rw [past_apply C io hio, select_ofBool, hio]
    simp only [decide_eq_true_eq]
  rw [e]
  rcases fold_minsi (n := 4096) (by decide) (fun k => C (ix2 k j) = m (ix2 0 j) ∧ (p (ix2 0 j)).toInt < (k.val : ℤ)) 4096 (by decide) le_rfl with h | h
  · exact Or.inl h
  · exact Or.inr h

theorem moreAt_apply (m : Row) (p : IRow) (j : Fin 128) :
    moreAt C io m p (ix2 0 j) = BitVec.ofBool (decide (∃ k : Fin 4096, C (ix2 k j) = m (ix2 0 j) ∧ (p (ix2 0 j)).toInt < (k.val : ℤ))) := by
  pointwise [moreAt, id_eq]
  rw [cmpi_slt]
  refine congrArg BitVec.ofBool (decide_eq_decide.mpr ?_)
  have e1 : (4096#32).toInt = 4096 := by decide
  rcases firstAt_apply C io hio m p j with ⟨f, hf, _, e⟩ | ⟨hf, e⟩
  · rw [e, e1, toInt_pos (by decide)]
    have := f.isLt
    exact ⟨fun _ => ⟨f, hf⟩, fun _ => by omega⟩
  · rw [e, e1]
    exact ⟨fun h => absurd h (lt_irrefl _), fun ⟨k, hk⟩ => absurd hk (hf k)⟩

theorem found_of_at (j : Fin 128) (t : ℕ) (h : At (fun i => C (ix2 i j)) t ((stand C io t).1 (ix2 0 j)) ((stand C io t).2 (ix2 0 j)).toInt) :
    ∃ f : Fin 4096, rk (fun i => C (ix2 i j)) f = t ∧ found C io t (ix2 0 j) = BitVec.ofNat 32 f.val ∧ C (ix2 f j) = (stand C io t).1 (ix2 0 j) := by
  unfold found
  rcases firstAt_apply C io hio (stand C io t).1 (stand C io t).2 j with ⟨f, hf, hmin, e⟩ | ⟨hf, e⟩
  · exact ⟨f, At.rank _ h f hf.1 hf.2 fun k h1 h2 => hmin k ⟨h1, h2⟩, e, hf.1⟩
  · obtain ⟨k, hk⟩ := h.ahead
    exact absurd hk (hf k)

theorem stand_at (j : Fin 128) (t : ℕ) (ht : t < 4096) :
    At (fun i => C (ix2 i j)) t ((stand C io t).1 (ix2 0 j)) ((stand C io t).2 (ix2 0 j)).toInt := by
  induction t with
  | zero =>
    rw [stand_zero]
    have e : (noRow (ix2 0 j)).toInt = -1 := by
      have : noRow (ix2 0 j) = 4294967295#32 := rfl
      rw [this]; decide
    simp only [e, colMin_apply]
    exact At.zero _ (by decide)
  | succ t ih =>
    obtain ⟨f, hr, hf, hc⟩ := found_of_at C io hio j t (ih (by omega))
    have e1 : (next C io (stand C io t)).1 (ix2 0 j)
        = Scalar.select (moreAt C io (stand C io t).1 (found C io t) (ix2 0 j)) ((stand C io t).1 (ix2 0 j)) (colMin (above C (stand C io t).1) (ix2 0 j)) := by
      unfold found
      pointwise [next, id_eq]
    have e2 : (next C io (stand C io t)).2 (ix2 0 j)
        = Scalar.select (moreAt C io (stand C io t).1 (found C io t) (ix2 0 j)) (found C io t (ix2 0 j)) 4294967295#32 := by
      unfold found
      pointwise [next, noRow, id_eq]
    rw [stand_succ, e1, e2, moreAt_apply C io hio, hf, toInt_pos (by decide), select_ofBool, select_ofBool, ← hc]
    by_cases hm : ∃ k : Fin 4096, C (ix2 k j) = C (ix2 f j) ∧ (f.val : ℤ) < (k.val : ℤ)
    · rw [if_pos (decide_eq_true hm), if_pos (decide_eq_true hm), toInt_pos (by decide)]
      obtain ⟨k, h1, h2⟩ := hm
      exact At.same _ hr ⟨k, h1, by exact_mod_cast h2⟩
    · have hd : ¬ decide (∃ k : Fin 4096, C (ix2 k j) = C (ix2 f j) ∧ (f.val : ℤ) < (k.val : ℤ)) = true := by simpa using hm
      rw [if_neg hd, if_neg hd, show (4294967295#32).toInt = -1 by decide]
      refine At.next _ hr ht (fun ⟨k, h1, h2⟩ => hm ⟨k, h1, by exact_mod_cast h2⟩) _ ?_
      rw [colMin_apply]
      refine congrArg (fun f : Fin 4096 → EReal => univ.fold min ⊤ f) (funext fun i => ?_)
      pointwise [above, down, big, id_eq]
      rw [cInf_eq, ← hc]

theorem found_at (j : Fin 128) (t : ℕ) (ht : t < 4096) :
    ∃ f : Fin 4096, rk (fun i => C (ix2 i j)) f = t ∧ found C io t (ix2 0 j) = BitVec.ofNat 32 f.val := by
  obtain ⟨f, h1, h2, _⟩ := found_of_at C io hio j t (stand_at C io hio j t ht)
  exact ⟨f, h1, h2⟩

theorem marks_apply (ks : IRow) (i : Fin 4096) (j : Fin 128) (T : ℕ) (hT : T ≤ 10) :
    marks C io ks T (ix2 i j) = if rk (fun i => C (ix2 i j)) i < T ∧ (rk (fun i => C (ix2 i j)) i : ℤ) < (ks (ix2 0 j)).toInt then 1 else 0 := by
  unfold marks
  induction T with
  | zero =>
    pointwise [marksOf, big, id_eq]
    simp
  | succ T ih =>
    obtain ⟨f, hr, hf⟩ := found_at C io hio j T (by omega)
    pointwise [marksOf, mark, downI, downB, big, id_eq]
    rw [ih (by omega), hf, hio, cmpi_eq, cmpi_sgt, word_inj (by decide), toInt_ofNat (by omega), andi_ofBool, select_ofBool]
    have hiff : i = f ↔ rk (fun i => C (ix2 i j)) i = T := by
      constructor
      · rintro rfl; exact hr
      · intro h; exact rk_inj (h.trans hr.symm)
    simp only [Bool.and_eq_true, decide_eq_true_eq, hiff]
    generalize rk (fun i => C (ix2 i j)) i = r
    generalize (ks (ix2 0 j)).toInt = q
    by_cases h1 : r = T
    · subst h1
      simp
    · have : r < T + 1 ↔ r < T := by omega
      simp [h1, this]

theorem marks_ten (ks : IRow) (i : Fin 4096) (j : Fin 128) (hk : (ks (ix2 0 j)).toInt ≤ 10) :
    marks C io ks 10 (ix2 i j) = if (rk (fun i => C (ix2 i j)) i : ℤ) < (ks (ix2 0 j)).toInt then 1 else 0 := by
  rw [marks_apply C io hio ks i j 10 le_rfl]
  congr 1
  rw [eq_iff_iff]
  omega

end found

/-! ## The marks that stay -/

theorem rowSum_apply (X : Big) (i : Fin 4096) : rowSum X (ix2 i 0) = ∑ j, X (ix2 i j) := by
  pointwise [rowSum, id_eq]
theorem rowMin_apply (X : Big) (i : Fin 4096) : rowMin X (ix2 i 0) = univ.fold min ⊤ fun j => X (ix2 i j) := by
  pointwise [rowMin, id_eq]
  rw [cInf_eq]
theorem rowMax_apply (X : Big) (i : Fin 4096) : rowMax X (ix2 i 0) = univ.fold max ⊥ fun j => X (ix2 i j) := by
  pointwise [rowMax, id_eq]
  rw [cNegInf_eq]
theorem masked_apply (C M : Big) (i : Fin 4096) (j : Fin 128) : masked C M (ix2 i j) = if 0 < M (ix2 i j) then C (ix2 i j) else ⊤ := by
  pointwise [masked, big, id_eq]
  rw [cInf_eq]

/-- A least entry is one of the entries. -/
theorem fold_min_mem {n : ℕ} (f : Fin n → EReal) (hn : 0 < n) : ∃ i, f i = univ.fold min ⊤ f := by
  haveI : Nonempty (Fin n) := ⟨⟨0, hn⟩⟩
  obtain ⟨i, _, hi⟩ := exists_min_image (univ : Finset (Fin n)) f univ_nonempty
  refine ⟨i, le_antisymm ?_ ?_⟩
  · rw [Finset.le_fold_min]; exact ⟨le_top, fun k hk => hi k hk⟩
  · rw [Finset.fold_min_le]; exact Or.inr ⟨i, mem_univ _, le_rfl⟩
theorem fold_min_le' {n : ℕ} (f : Fin n → EReal) (i : Fin n) : univ.fold min ⊤ f ≤ f i := by
  rw [Finset.fold_min_le]; exact Or.inr ⟨i, mem_univ _, le_rfl⟩

theorem cheapest_apply (C M : Big) (i : Fin 4096) :
    cheapest C M (ix2 i 0) = BitVec.ofNat 32 (amin fun j => masked C M (ix2 i j)).val := by
  have e : cheapest C M (ix2 i 0) = univ.fold IntOp.minsi 2147483647#32 (fun k : Fin 128 =>
      if masked C M (ix2 i k) = univ.fold min ⊤ (fun j => masked C M (ix2 i j)) then BitVec.ofNat 32 k.val else BitVec.ofNat 32 128) := by
    rw [← rowMin_apply]
    unfold cheapest
    pointwise [rowLeast, colIota, across, id_eq]
  rw [e]
  generalize hc : (fun j => masked C M (ix2 i j)) = c
  have hc' : ∀ k, masked C M (ix2 i k) = c k := fun k => congrFun hc k
  simp only [hc']
  rcases fold_minsi (n := 128) (by decide) (fun k => c k = univ.fold min ⊤ c) 128 (by decide) le_rfl with ⟨f, hf, hmin, e⟩ | ⟨hno, _⟩
  · rw [e]
    refine congrArg (fun k : Fin 128 => BitVec.ofNat 32 k.val) (rk_inj (c := c) ?_)
    rw [rk_amin, rk_eq_zero]
    rintro k (h | ⟨h, h'⟩)
    · exact absurd (hf ▸ fold_min_le' c k) (not_le.mpr h)
    · exact absurd (hmin k (h.trans hf)) (not_le.mpr h')
  · obtain ⟨k, hk⟩ := fold_min_mem c (by decide)
    exact absurd hk (hno k)

theorem settle_apply (C M : Big) (i : Fin 4096) (j : Fin 128) (p : Fin 128 → Bool) (hM : ∀ j, M (ix2 i j) = if p j = true then 1 else 0) :
    settle C M (ix2 i j) = if (if 1 < (univ.filter fun j => p j = true).card then decide (j = amin fun j => if p j = true then C (ix2 i j) else ⊤) else p j) = true
      then 1 else 0 := by
  have e : settle C M (ix2 i j) = if 1 < rowSum M (ix2 i 0) then Scalar.select (IntOp.cmpi .eq (BitVec.ofNat 32 j.val) (cheapest C M (ix2 i 0))) 1 0
      else M (ix2 i j) := by
    pointwise [settle, several, mark, big, colIota, id_eq]
  rw [e, cheapest_apply, rowSum_apply, cmpi_eq, word_inj (by decide), select_ofBool]
  have e1 : (fun j => masked C M (ix2 i j)) = fun j => if p j = true then C (ix2 i j) else ⊤ := by
    funext j
    rw [masked_apply, hM]
    by_cases h : p j = true
    · rw [if_pos h, if_pos h, if_pos zero_lt_one]
    · rw [if_neg h, if_neg h, if_neg (lt_irrefl _)]
  have e2 : (∑ j, M (ix2 i j)) = ((univ.filter fun j => p j = true).card : EReal) := by
    simp only [hM]
    exact Finset.sum_boole _ _
  have e3 : (1 : EReal) < ((univ.filter fun j => p j = true).card : EReal) ↔ 1 < (univ.filter fun j => p j = true).card := by
    rw [← Nat.cast_one (R := EReal), EReal.natCast_lt_iff]
  rw [e1, e2, hM]
  simp only [e3]
  by_cases h : 1 < (univ.filter fun j => p j = true).card
  · rw [if_pos h, if_pos h]
  · rw [if_neg h, if_neg h]

section
variable (x0 : Vec Ideal S1x4096x80 .f32) (x1 : Vec Ideal S1x4096x4 .f32) (x2 : Vec Ideal S1x4x128 .f32) (x3 : Vec Ideal S1x80x128 .f32) (x4 : Vec Ideal S1x128x80 .f32)
variable (I : Img) (h : Blk I x0 x1 x2 x3 x4) (hg : I.Good)
include h hg

theorem k_176 (j : Fin 128) : k0_pay176 (F := Ideal) x0 x1 x2 x3 x4 (ix2 0 j) = I.ks j := by
  rw [s_176, quota_apply]
  · unfold Img.ks
    simp only [k_165 x0 x1 x2 x3 x4 I h]
  · intro i
    rw [k_165 x0 x1 x2 x3 x4 I h]
    exact hg.iou_nonneg i j

omit h hg in
theorem ks_le (j : Fin 128) : (I.ks j).toInt ≤ 10 := by
  unfold Img.ks IntOp.minsi
  rw [slt_iff]
  have : (10#32).toInt = 10 := by decide
  rw [this]
  split_ifs with h
  · rw [this]
  · simp only [decide_eq_true_eq] at h; omega

theorem k_193 (i : Fin 4096) (j : Fin 128) : k0_pay193 (F := Ideal) x0 x1 x2 x3 x4 (ix2 i j) = if I.m1 i j = true then 1 else 0 := by
  have hM : ∀ j, marks (k0_pay162 (F := Ideal) x0 x1 x2 x3 x4) (k0_pay164 (F := Ideal) x0 x1 x2 x3 x4) (k0_pay176 (F := Ideal) x0 x1 x2 x3 x4) 10 (ix2 i j)
      = if I.m0 i j = true then 1 else 0 := by
    intro j
    rw [marks_ten _ _ (k_164 x0 x1 x2 x3 x4 I h) _ i j (by rw [k_176 x0 x1 x2 x3 x4 I h hg]; exact ks_le I j)]
    simp only [k_176 x0 x1 x2 x3 x4 I h hg, k_162 x0 x1 x2 x3 x4 I h]
    unfold Img.m0
    simp only [decide_eq_true_eq]
  rw [s_193, settle_apply _ _ i j (I.m0 i) hM]
  simp only [k_162 x0 x1 x2 x3 x4 I h]
  unfold Img.m1 Img.multi Img.best
  simp only [decide_eq_true_eq]

theorem k_194 (i : Fin 4096) : k0_pay194 (F := Ideal) x0 x1 x2 x3 x4 (ix2 i 0) = I.fgf i := by
  have e : k0_pay194 (F := Ideal) x0 x1 x2 x3 x4 (ix2 i 0)
      = Scalar.select (IntOp.andi (BitVec.ofBool (decide (0 < rowMax (k0_pay193 (F := Ideal) x0 x1 x2 x3 x4) (ix2 i 0)))) (k0_pay152 (F := Ideal) x0 x1 x2 x3 x4 (ix2 i 0))) 1 0 := by
    unfold k0_pay194
    pointwise [k0_pay121, rowMax, id_eq]
  rw [e, k_152 x0 x1 x2 x3 x4 I h, rowMax_apply, andi_ofBool, select_ofBool]
  simp only [k_193 x0 x1 x2 x3 x4 I h hg]
  rw [fold_max_ind (I.m1 i)]
  rfl

end

end Cert.KernelIdeal.Gen
-- ==== Proof.KerLoss.lean ====
/-
  The matching kernel's four sums of an image and its kept marks, as the plain functions of the image.
-/
module

public import proofs.«01_k».proof.Proof.KerMatch

@[expose] public section

noncomputable section

namespace Cert.KernelIdeal.Gen

open Cert.KernelIdeal Cert.KernelIdeal.Gen Cert.Loss Idealize.ShloMosaic Idealize.ShloMosaic.TcCoe Idealize.SL.Sem Idealize.ShloMosaic.StableHlo Finset

/-! ## The matched column of a row -/

theorem amin_single (c : Fin 128 → EReal) (k : Fin 128) (h : c k ≠ ⊤) (hc : ∀ j, j ≠ k → c j = ⊤) : amin c = k := by
  refine rk_inj (c := c) ?_
  rw [rk_amin, eq_comm, rk_eq_zero]
  rintro j (h1 | ⟨h1, h2⟩)
  · by_cases hj : j = k
    · subst hj; exact lt_irrefl _ h1
    · rw [hc j hj] at h1; exact not_top_lt h1
  · rw [hc j h2.ne] at h1; exact h h1.symm

section
variable (I : Img) (hg : I.Good)
include hg

theorem m1_fg (i : Fin 4096) (hf : I.fg i = true) (j : Fin 128) : I.m1 i j = decide (j = I.mg i) := by
  have hone : ∃ k, ∀ j, I.m1 i j = decide (j = k) := by
    unfold Img.m1
    by_cases hm : I.multi i = true
    · exact ⟨I.best i, fun j => by rw [if_pos hm]⟩
    · simp only [if_neg hm]
      have hc : (univ.filter fun j => I.m0 i j = true).card ≤ 1 := by
        unfold Img.multi at hm; simpa using hm
      unfold Img.fg at hf
      rw [Bool.and_eq_true, decide_eq_true_eq] at hf
      obtain ⟨⟨k, hk⟩, _⟩ := hf
      unfold Img.m1 at hk
      rw [if_neg hm] at hk
      refine ⟨k, fun j => ?_⟩
      rw [Bool.eq_iff_iff, decide_eq_true_eq]
      constructor
      · intro hj
        exact Finset.card_le_one.mp hc j (by simp [hj]) k (by simp [hk])
      · rintro rfl; exact hk
  obtain ⟨k, hk⟩ := hone
  have : I.mg i = k := by
    unfold Img.mg
    refine amin_single _ k ?_ fun j hj => ?_
    · simp only [hk, decide_true, if_true]; exact (hg.cost_isR i k).ne_top
    · simp only [hk]; rw [if_neg (by simpa using hj)]
  rw [this]; exact hk j

theorem pick (i : Fin 4096) (hf : I.fg i = true) (x : Fin 128 → EReal) : (∑ j, (if I.m1 i j = true then (1 : EReal) else 0) * x j) = x (I.mg i) := by
  simp only [m1_fg I hg i hf, decide_eq_true_eq]
  rw [Finset.sum_eq_single (I.mg i)]
  · rw [if_pos rfl, one_mul]
  · intro k _ hk; rw [if_neg hk, zero_mul]
  · intro h; exact absurd (mem_univ _) h

omit hg in
theorem fgf_one (i : Fin 4096) (hf : I.fg i = true) : I.fgf i = 1 := by unfold Img.fgf; rw [if_pos hf]
omit hg in
theorem fgf_zero (i : Fin 4096) (hf : ¬ I.fg i = true) : I.fgf i = 0 := by unfold Img.fgf; rw [if_neg hf]
end

/-! ## The four sums of an image -/

section
variable (x0 : Vec Ideal S1x4096x80 .f32) (x1 : Vec Ideal S1x4096x4 .f32) (x2 : Vec Ideal S1x4x128 .f32) (x3 : Vec Ideal S1x80x128 .f32) (x4 : Vec Ideal S1x128x80 .f32)
variable (I : Img) (h : Blk I x0 x1 x2 x3 x4) (hg : I.Good)
include h hg

omit h hg in
theorem cls_form (v1 : FVec Ideal S4096x80 .f32) (v9 : FVec Ideal S128x80 .f32) (v89 : IVec S4096x1 1) (v97 : FVec Ideal S4096x80 .f32) (v881 : FVec Ideal S4096x128 .f32)
    (ha : ∀ i c, v1 (ix2 i c) = I.lg i c) (hb : ∀ i c, v97 (ix2 i c) = prob (I.lg i c))
    (ht : ∀ i c, (∑ j, v881 (ix2 i j) * v9 (ix2 j c)) * k0_pay121 v89 v881 (ix2 i 0) = I.lab i c) :
    k0_pay123 (k0_pay122 v1 v9 v89 v97 v881) = I.clsLoss := by
  pointwise [k0_pay123, k0_pay122, id_eq]
  unfold Img.clsLoss
  refine sum_congr rfl fun i _ => sum_congr rfl fun c _ => ?_
  rw [ht, ha, hb]
  unfold Img.focal absE
  rw [zero_sub, mul_assoc]

theorem k_cls : k0_pay123 (k0_pay122 (k0_pay137 (F := Ideal) x0 x1 x2 x3 x4) (k0_pay6 (View.ld x4 r0_4)) (k0_pay152 (F := Ideal) x0 x1 x2 x3 x4)
    (k0_pay25 (k0_pay137 (F := Ideal) x0 x1 x2 x3 x4)) (k0_pay193 (F := Ideal) x0 x1 x2 x3 x4)) = I.clsLoss := by
  have e6 : ∀ (j : Fin 128) (c : Fin 80), k0_pay6 (View.ld x4 r0_4) (ix2 j c) = if I.gc j = c then 1 else 0 := by
    intro j c
    rw [← h.h4 j c]
    pointwise [k0_pay6, id_eq]
  refine cls_form I _ _ _ _ _ (k_137 x0 x1 x2 x3 x4 I h) ?_ ?_
  · intro i c
    pointwise [k0_pay25, id_eq]
    rw [k_137 x0 x1 x2 x3 x4 I h, zero_sub]
    rfl
  · intro i c
    rw [show k0_pay121 (k0_pay152 (F := Ideal) x0 x1 x2 x3 x4) (k0_pay193 (F := Ideal) x0 x1 x2 x3 x4) (ix2 i 0) = I.fgf i from k_194 x0 x1 x2 x3 x4 I h hg i]
    unfold Img.lab
    by_cases hf : I.fg i = true
    · rw [← pick I hg i hf fun j => if I.gc j = c then 1 else 0]
      simp only [k_193 x0 x1 x2 x3 x4 I h hg, e6]
    · rw [fgf_zero I i hf, mul_zero, mul_zero]

theorem k_124 (i : Fin 4096) (hf : I.fg i = true) :
    k0_pay124 (k0_pay157 (F := Ideal) x0 x1 x2 x3 x4) (k0_pay193 (F := Ideal) x0 x1 x2 x3 x4) (ix2 i 0) = I.ngb (I.mg i) 0 := by
  pointwise [k0_pay124, id_eq]
  simp only [k_193 x0 x1 x2 x3 x4 I h hg, k_157 x0 x1 x2 x3 x4 I h]
  exact pick I hg i hf fun j => I.ngb j 0
theorem k_125 (i : Fin 4096) (hf : I.fg i = true) :
    k0_pay125 (k0_pay158 (F := Ideal) x0 x1 x2 x3 x4) (k0_pay193 (F := Ideal) x0 x1 x2 x3 x4) (ix2 i 0) = I.ngb (I.mg i) 1 := by
  pointwise [k0_pay125, id_eq]
  simp only [k_193 x0 x1 x2 x3 x4 I h hg, k_158 x0 x1 x2 x3 x4 I h]
  exact pick I hg i hf fun j => I.ngb j 1
theorem k_126 (i : Fin 4096) (hf : I.fg i = true) :
    k0_pay126 (k0_pay159 (F := Ideal) x0 x1 x2 x3 x4) (k0_pay193 (F := Ideal) x0 x1 x2 x3 x4) (ix2 i 0) = I.ngb (I.mg i) 2 := by
  pointwise [k0_pay126, id_eq]
  simp only [k_193 x0 x1 x2 x3 x4 I h hg, k_159 x0 x1 x2 x3 x4 I h]
  exact pick I hg i hf fun j => I.ngb j 2
theorem k_127 (i : Fin 4096) (hf : I.fg i = true) :
    k0_pay127 (k0_pay160 (F := Ideal) x0 x1 x2 x3 x4) (k0_pay193 (F := Ideal) x0 x1 x2 x3 x4) (ix2 i 0) = I.ngb (I.mg i) 3 := by
  pointwise [k0_pay127, id_eq]
  simp only [k_193 x0 x1 x2 x3 x4 I h hg, k_160 x0 x1 x2 x3 x4 I h]
  exact pick I hg i hf fun j => I.ngb j 3

theorem k_l1 : k0_pay128 (k0_pay153 (F := Ideal) x0 x1 x2 x3 x4) (k0_pay154 (F := Ideal) x0 x1 x2 x3 x4) (k0_pay155 (F := Ideal) x0 x1 x2 x3 x4) (k0_pay156 (F := Ideal) x0 x1 x2 x3 x4)
    (k0_pay157 (F := Ideal) x0 x1 x2 x3 x4) (k0_pay158 (F := Ideal) x0 x1 x2 x3 x4) (k0_pay159 (F := Ideal) x0 x1 x2 x3 x4) (k0_pay160 (F := Ideal) x0 x1 x2 x3 x4)
    (k0_pay193 (F := Ideal) x0 x1 x2 x3 x4) (k0_pay194 (F := Ideal) x0 x1 x2 x3 x4) = I.l1Loss := by
  pointwise [k0_pay128, id_eq]
  unfold Img.l1Loss
  refine sum_congr rfl fun i _ => ?_
  rw [Fin.sum_univ_one, k_194 x0 x1 x2 x3 x4 I h hg]
  by_cases hf : I.fg i = true
  · rw [k_124 x0 x1 x2 x3 x4 I h hg i hf, k_125 x0 x1 x2 x3 x4 I h hg i hf, k_126 x0 x1 x2 x3 x4 I h hg i hf, k_127 x0 x1 x2 x3 x4 I h hg i hf,
      k_153 x0 x1 x2 x3 x4 I h, k_154 x0 x1 x2 x3 x4 I h, k_155 x0 x1 x2 x3 x4 I h, k_156 x0 x1 x2 x3 x4 I h]
    rfl
  · rw [fgf_zero I i hf, mul_zero, mul_zero]

theorem k_129 (i : Fin 4096) (hf : I.fg i = true) :
    k0_pay129 (k0_pay153 (F := Ideal) x0 x1 x2 x3 x4) (k0_pay154 (F := Ideal) x0 x1 x2 x3 x4) (k0_pay155 (F := Ideal) x0 x1 x2 x3 x4) (k0_pay156 (F := Ideal) x0 x1 x2 x3 x4)
    (k0_pay157 (F := Ideal) x0 x1 x2 x3 x4) (k0_pay158 (F := Ideal) x0 x1 x2 x3 x4) (k0_pay159 (F := Ideal) x0 x1 x2 x3 x4) (k0_pay160 (F := Ideal) x0 x1 x2 x3 x4)
    (k0_pay193 (F := Ideal) x0 x1 x2 x3 x4) (ix2 i 0) = interOf (I.nb i) (I.ngb (I.mg i)) := by
  pointwise [k0_pay129, id_eq]
  rw [k_124 x0 x1 x2 x3 x4 I h hg i hf, k_125 x0 x1 x2 x3 x4 I h hg i hf, k_126 x0 x1 x2 x3 x4 I h hg i hf, k_127 x0 x1 x2 x3 x4 I h hg i hf,
      k_153 x0 x1 x2 x3 x4 I h, k_154 x0 x1 x2 x3 x4 I h, k_155 x0 x1 x2 x3 x4 I h, k_156 x0 x1 x2 x3 x4 I h]
  rw [max_comm _ 0, max_comm _ 0]
  rfl

theorem k_130 (i : Fin 4096) (hf : I.fg i = true) :
    k0_pay130 (k0_pay153 (F := Ideal) x0 x1 x2 x3 x4) (k0_pay154 (F := Ideal) x0 x1 x2 x3 x4) (k0_pay155 (F := Ideal) x0 x1 x2 x3 x4) (k0_pay156 (F := Ideal) x0 x1 x2 x3 x4)
    (k0_pay157 (F := Ideal) x0 x1 x2 x3 x4) (k0_pay158 (F := Ideal) x0 x1 x2 x3 x4) (k0_pay159 (F := Ideal) x0 x1 x2 x3 x4) (k0_pay160 (F := Ideal) x0 x1 x2 x3 x4)
    (k0_pay161 (F := Ideal) x0 x1 x2 x3 x4) (k0_pay193 (F := Ideal) x0 x1 x2 x3 x4) (ix2 i 0) = unionOf (I.nb i) (I.ngb (I.mg i)) := by
  have e161 : k0_pay161 (F := Ideal) x0 x1 x2 x3 x4 (ix2 i 0) = areaOf (I.nb i) := by
    pointwise [k0_pay161, k0_pay36, id_eq]
    rw [k_153 x0 x1 x2 x3 x4 I h, k_154 x0 x1 x2 x3 x4 I h, k_155 x0 x1 x2 x3 x4 I h,
      show k0_pay30 (k0_pay141 (F := Ideal) x0 x1 x2 x3 x4) (Ideal.ofBits FTy.f32 1149239296#32) (ix2 i 0) = I.nb i 3 from k_156 x0 x1 x2 x3 x4 I h i]
    rfl
  pointwise [k0_pay130, id_eq]
  rw [k_129 x0 x1 x2 x3 x4 I h hg i hf, e161, k_124 x0 x1 x2 x3 x4 I h hg i hf, k_125 x0 x1 x2 x3 x4 I h hg i hf, k_126 x0 x1 x2 x3 x4 I h hg i hf, k_127 x0 x1 x2 x3 x4 I h hg i hf]
  rfl

theorem k_131 (i : Fin 4096) (hf : I.fg i = true) :
    k0_pay131 (k0_pay153 (F := Ideal) x0 x1 x2 x3 x4) (k0_pay154 (F := Ideal) x0 x1 x2 x3 x4) (k0_pay155 (F := Ideal) x0 x1 x2 x3 x4) (k0_pay156 (F := Ideal) x0 x1 x2 x3 x4)
    (k0_pay157 (F := Ideal) x0 x1 x2 x3 x4) (k0_pay158 (F := Ideal) x0 x1 x2 x3 x4) (k0_pay159 (F := Ideal) x0 x1 x2 x3 x4) (k0_pay160 (F := Ideal) x0 x1 x2 x3 x4)
    (k0_pay161 (F := Ideal) x0 x1 x2 x3 x4) (k0_pay193 (F := Ideal) x0 x1 x2 x3 x4) (ix2 i 0) = iouOf (I.nb i) (I.ngb (I.mg i)) := by
  pointwise [k0_pay131, id_eq]
  rw [k_129 x0 x1 x2 x3 x4 I h hg i hf, k_130 x0 x1 x2 x3 x4 I h hg i hf]
  rfl

theorem k_giou : k0_pay132 (k0_pay153 (F := Ideal) x0 x1 x2 x3 x4) (k0_pay154 (F := Ideal) x0 x1 x2 x3 x4) (k0_pay155 (F := Ideal) x0 x1 x2 x3 x4) (k0_pay156 (F := Ideal) x0 x1 x2 x3 x4)
    (k0_pay194 (F := Ideal) x0 x1 x2 x3 x4)
    (k0_pay124 (k0_pay157 (F := Ideal) x0 x1 x2 x3 x4) (k0_pay193 (F := Ideal) x0 x1 x2 x3 x4)) (k0_pay125 (k0_pay158 (F := Ideal) x0 x1 x2 x3 x4) (k0_pay193 (F := Ideal) x0 x1 x2 x3 x4))
    (k0_pay126 (k0_pay159 (F := Ideal) x0 x1 x2 x3 x4) (k0_pay193 (F := Ideal) x0 x1 x2 x3 x4)) (k0_pay127 (k0_pay160 (F := Ideal) x0 x1 x2 x3 x4) (k0_pay193 (F := Ideal) x0 x1 x2 x3 x4))
    (k0_pay130 (k0_pay153 (F := Ideal) x0 x1 x2 x3 x4) (k0_pay154 (F := Ideal) x0 x1 x2 x3 x4) (k0_pay155 (F := Ideal) x0 x1 x2 x3 x4) (k0_pay156 (F := Ideal) x0 x1 x2 x3 x4)
      (k0_pay157 (F := Ideal) x0 x1 x2 x3 x4) (k0_pay158 (F := Ideal) x0 x1 x2 x3 x4) (k0_pay159 (F := Ideal) x0 x1 x2 x3 x4) (k0_pay160 (F := Ideal) x0 x1 x2 x3 x4)
      (k0_pay161 (F := Ideal) x0 x1 x2 x3 x4) (k0_pay193 (F := Ideal) x0 x1 x2 x3 x4))
    (k0_pay131 (k0_pay153 (F := Ideal) x0 x1 x2 x3 x4) (k0_pay154 (F := Ideal) x0 x1 x2 x3 x4) (k0_pay155 (F := Ideal) x0 x1 x2 x3 x4) (k0_pay156 (F := Ideal) x0 x1 x2 x3 x4)
      (k0_pay157 (F := Ideal) x0 x1 x2 x3 x4) (k0_pay158 (F := Ideal) x0 x1 x2 x3 x4) (k0_pay159 (F := Ideal) x0 x1 x2 x3 x4) (k0_pay160 (F := Ideal) x0 x1 x2 x3 x4)
      (k0_pay161 (F := Ideal) x0 x1 x2 x3 x4) (k0_pay193 (F := Ideal) x0 x1 x2 x3 x4)) = I.giouLoss := by
  pointwise [k0_pay132, id_eq]
  unfold Img.giouLoss
  refine sum_congr rfl fun i _ => ?_
  rw [Fin.sum_univ_one, k_194 x0 x1 x2 x3 x4 I h hg]
  by_cases hf : I.fg i = true
  · rw [k_124 x0 x1 x2 x3 x4 I h hg i hf, k_125 x0 x1 x2 x3 x4 I h hg i hf, k_126 x0 x1 x2 x3 x4 I h hg i hf, k_127 x0 x1 x2 x3 x4 I h hg i hf,
      k_153 x0 x1 x2 x3 x4 I h, k_154 x0 x1 x2 x3 x4 I h, k_155 x0 x1 x2 x3 x4 I h, k_156 x0 x1 x2 x3 x4 I h,
      k_130 x0 x1 x2 x3 x4 I h hg i hf, k_131 x0 x1 x2 x3 x4 I h hg i hf]
    rw [max_comm (_ - _) 0, max_comm (_ - _) 0]
    rfl
  · rw [fgf_zero I i hf, mul_zero, mul_zero]

theorem k_nfg : k0_pay133 (k0_pay194 (F := Ideal) x0 x1 x2 x3 x4) = I.nfg := by
  pointwise [k0_pay133, id_eq]
  unfold Img.nfg
  refine sum_congr rfl fun i _ => ?_
  rw [Fin.sum_univ_one, k_194 x0 x1 x2 x3 x4 I h hg]

/-- The lanes of an image's row of sums. -/
theorem out5_apply (l : Fin 128) : out0_5 (F := Ideal) x0 x1 x2 x3 x4 (ix3 0 0 l)
    = if l.val = 0 then I.clsLoss else if l.val = 1 then I.l1Loss else if l.val = 2 then I.giouLoss else if l.val = 4 then I.nfg else 0 := by
  unfold out0_5
  rw [View.canon_unit_zero (by funext a; fin_cases a <;> rfl)]
  rw [k_cls x0 x1 x2 x3 x4 I h hg, k_l1 x0 x1 x2 x3 x4 I h hg, k_giou x0 x1 x2 x3 x4 I h hg, k_nfg x0 x1 x2 x3 x4 I h hg]
  pointwise [k0_pay1, k0_pay135, k0_pay136, id_eq]
  have key : ∀ (m : ℕ) (hm : m < 2 ^ 31), IntOp.cmpi .eq (BitVec.ofNat 32 l.val) (BitVec.ofNat 32 m) = BitVec.ofBool (decide (l.val = m)) := by
    intro m hm
    rw [cmpi_eq]
    refine congrArg BitVec.ofBool ?_
    rw [Bool.eq_iff_iff, beq_iff_eq, decide_eq_true_eq]
    constructor
    · intro e
      have e := congrArg BitVec.toInt e
      rw [toInt_pos (by decide), toInt_ofNat hm] at e
      exact_mod_cast e
    · intro e; rw [e]
  rw [key 0 (by decide), key 1 (by decide), key 2 (by decide), key 4 (by decide)]
  simp only [select_ofBool, decide_eq_true_eq]
  generalize l.val = n
  by_cases h0 : n = 0
  · subst h0; simp
  by_cases h1 : n = 1
  · subst h1; simp
  by_cases h2 : n = 2
  · subst h2; simp
  simp [h0, h1, h2]

/-- The kept marks of an image. -/
theorem out6_apply (i : Fin 4096) (j : Fin 128) :
    out0_6 (F := Ideal) x0 x1 x2 x3 x4 (ix3 0 i j) = (if I.m1 i j = true then 1 else 0) * I.fgf i := by
  unfold out0_6
  rw [View.canon_unit_zero (by funext a; fin_cases a <;> rfl)]
  pointwise [k0_pay134, id_eq]
  rw [k_193 x0 x1 x2 x3 x4 I h hg, k_194 x0 x1 x2 x3 x4 I h hg]

end

end Cert.KernelIdeal.Gen
-- ==== Proof.KerMask.lean ====
/-
  The mask kernel's addend of a chunk of predictions, and what its accumulator holds after each chunk.
-/
module

public import proofs.«01_k».proof.Proof.KerLoss
public import Idealize.ShloMosaic.Lib.Pipeline.ValueKit

@[expose] public section

noncomputable section

namespace Cert.KernelIdeal.Gen

open Cert.KernelIdeal Cert.KernelIdeal.Gen Cert.Loss Idealize.ShloMosaic Idealize.ShloMosaic.TcCoe Idealize.SL.Sem Idealize.ShloMosaic.StableHlo Finset

/-- The addend of one row: the row's matched weights against the mask products, over the union. -/
theorem chunk_form (x0 : Vec Ideal S1x1024x784 .f32) (x2 : Vec Ideal S1x784x128 .f32) (x1 : Vec Ideal S1x1024x128 .f32) :
    k1_pay3 (F := Ideal) x0 x2 x1 = ∑ r : Fin 1024, Ideal.div
      (∑ j : Fin 128, (∑ p : Fin 784, prob (x0 (ix3 0 r p)) * x2 (ix3 0 p j)) * x1 (ix3 0 r j))
      ((∑ p : Fin 784, prob (x0 (ix3 0 r p))) + (∑ j : Fin 128, x1 (ix3 0 r j) * ∑ p : Fin 784, x2 (ix3 0 p j)) + cEps) := by
  pointwise [k1_pay3, id_eq]
  simp only [prob, Fin.sum_univ_one, sub_eq_add_neg, zero_add, one_mul]

section
variable (I : Img) (hg : I.Good)
include hg

/-- The addend of a chunk whose row `r` is the image's prediction `row r`. -/
theorem chunk_apply (row : Fin 1024 → Fin 4096) (x0 : Vec Ideal S1x1024x784 .f32) (x2 : Vec Ideal S1x784x128 .f32) (x1 : Vec Ideal S1x1024x128 .f32)
    (h0 : ∀ r p, x0 (ix3 0 r p) = I.pm (row r) p) (h2 : ∀ p j, x2 (ix3 0 p j) = I.gm j p)
    (h1 : ∀ r j, x1 (ix3 0 r j) = (if I.m1 (row r) j = true then (1 : EReal) else 0) * I.fgf (row r)) :
    k1_pay3 (F := Ideal) x0 x2 x1
      = ∑ r : Fin 1024, if I.fg (row r) = true then Ideal.div (I.mInter (row r)) (I.mUnion (row r)) else 0 := by
  rw [chunk_form]
  refine Finset.sum_congr rfl fun r _ => ?_
  simp only [h0, h1, h2]
  by_cases hf : I.fg (row r) = true
  · rw [if_pos hf]
    simp only [fgf_one I (row r) hf, mul_one]
    simp only [mul_comm (∑ p : Fin 784, _ * _) (ite _ _ _)]
    rw [pick I hg (row r) hf fun j => ∑ p : Fin 784, prob (I.pm (row r) p) * I.gm j p,
      pick I hg (row r) hf fun j => ∑ p : Fin 784, I.gm j p]
    rfl
  · rw [if_neg hf]
    simp only [fgf_zero I (row r) hf, mul_zero, zero_mul, Finset.sum_const_zero, add_zero]
    have hp : (0 : EReal) ≤ ∑ p : Fin 784, prob (I.pm (row r) p) :=
      Finset.sum_nonneg fun p _ => by obtain ⟨q, h0, _, e⟩ := prob_real (I.pm (row r) p); rw [e]; exact_mod_cast h0
    unfold Ideal.div
    rw [if_neg (add_eps_pos hp).ne', zero_mul]

end

/-! ## The accumulator -/

/-- A chunk's addend goes to lane 3 of the accumulator. -/
theorem pay2_apply (v : EReal) (prev : Vec Ideal S1x1x128 .f32) (l : Fin 128) :
    k1_pay2 (F := Ideal) v (iota Kind.tc S1x1x128 32 [2] iota_S1x1x128_d2_w32) prev (ix3 0 0 l)
      = prev (ix3 0 0 l) + if l.val = 3 then v else 0 := by
  pointwise [k1_pay2, id_eq]
  have key : IntOp.cmpi .eq (BitVec.ofNat 32 l.val) (BitVec.ofNat 32 3) = BitVec.ofBool (decide (l.val = 3)) := by
    rw [cmpi_eq]
    refine congrArg BitVec.ofBool ?_
    rw [Bool.eq_iff_iff, beq_iff_eq, decide_eq_true_eq]
    constructor
    · intro e
      have e := congrArg BitVec.toInt e
      rw [toInt_pos (by decide), toInt_ofNat (by decide)] at e
      exact_mod_cast e
    · intro e; rw [e]
  rw [key, select_ofBool]
  simp only [decide_eq_true_eq]

theorem pay1_apply (l : Fin 128) : k1_pay1 (F := Ideal) (ix3 0 0 l) = 0 := by
  pointwise [k1_pay1, id_eq]

section
variable {F : FTy → Type} [FloatOps F]

theorem out_A (c : Dev nD) (i : grid1.Coords) (arg2 : Memref sig .tc .vmem S1x1024x784 .f32) (harg2 : arg2.IsWhole) (arg3 : Memref sig .tc .vmem S1x1024x128 .f32) (harg3 : arg3.IsWhole) (arg4 : Memref sig .tc .vmem S1x784x128 .f32) (harg4 : arg4.IsWhole) (arg5 : Memref sig .tc .vmem S1x1x128 .f32) (harg5 : arg5.IsWhole) (hc0)
    (x0 : Vec F S1x1024x784 .f32) (x1 : Vec F S1x1024x128 .f32) (x2 : Vec F S1x784x128 .f32) :
    out1_A_3 c i arg2 harg2 arg3 harg3 arg4 harg4 arg5 harg5 hc0 x0 x1 x2
      = k1_pay2 (k1_pay3 x0 x2 x1) (iota Kind.tc S1x1x128 32 [2] iota_S1x1x128_d2_w32) k1_pay1 := by
  frame_out

theorem out_B (c : Dev nD) (i : grid1.Coords) (arg2 : Memref sig .tc .vmem S1x1024x784 .f32) (harg2 : arg2.IsWhole) (arg3 : Memref sig .tc .vmem S1x1024x128 .f32) (harg3 : arg3.IsWhole) (arg4 : Memref sig .tc .vmem S1x784x128 .f32) (harg4 : arg4.IsWhole) (arg5 : Memref sig .tc .vmem S1x1x128 .f32) (harg5 : arg5.IsWhole) (hc0)
    (x0 : Vec F S1x1024x784 .f32) (x1 : Vec F S1x1024x128 .f32) (x2 : Vec F S1x784x128 .f32) (xo : Vec F S1x1x128 .f32) :
    out1_B_3 c i arg2 harg2 arg3 harg3 arg4 harg4 arg5 harg5 hc0 x0 x1 x2 xo
      = k1_pay2 (k1_pay3 x0 x2 x1) (iota Kind.tc S1x1x128 32 [2] iota_S1x1x128_d2_w32) xo := by
  frame_out

end

variable (V : (c : Dev nD) → (b : Ref sig .tc) → Buf (Elt Ideal) ((c : Thread nD τ).loc b)) (c : Dev nD)

/-- The addend of grid point `n`. -/
def addend (n : ℕ) : EReal :=
  if h : n < cfg1.N then k1_pay3 (F := Ideal) (iblk1 V c 0 ⟨n, h⟩) (iblk1 V c 2 ⟨n, h⟩) (iblk1 V c 1 ⟨n, h⟩) else 0

/-- After the chunk `k` of an image the accumulator holds the addends of the chunks up to it, in lane 3. -/
theorem acc_apply (b k : ℕ) (hk : k < 4) (h : 4 * b + k < cfg1.N) (l : Fin 128) :
    outsAt1 (F := Ideal) V c (4 * b + k) h (ix3 0 0 l) = if l.val = 3 then ∑ s ∈ range (k + 1), addend V c (4 * b + s) else 0 := by
  induction k with
  | zero =>
    rw [outsAt1_A V c ⟨4 * b + 0, h⟩ (by show (4 * b + 0) % 4 = 0; omega), out_A, pay2_apply, pay1_apply, zero_add]
    refine ite_congr rfl (fun _ => ?_) (fun _ => rfl)
    rw [Finset.sum_range_one, addend, dif_pos h]
  | succ k ih =>
    have e := ih (by omega) (by omega)
    rw [outsAt1_B V c ⟨4 * b + (k + 1), h⟩ (by show ¬ (4 * b + (k + 1)) % 4 = 0; omega), out_B, pay2_apply]
    have e' : outsAt1 (F := Ideal) V c ((⟨4 * b + (k + 1), h⟩ : Fin cfg1.N).val - 1) (Nat.lt_of_le_of_lt (Nat.sub_le _ _) h) (ix3 0 0 l)
        = if l.val = 3 then ∑ s ∈ range (k + 1), addend V c (4 * b + s) else 0 := e
    rw [e', Finset.sum_range_succ _ (k + 1)]
    by_cases hl : l.val = 3
    · simp only [if_pos hl]
      refine congrArg _ ?_
      rw [addend, dif_pos h]
    · simp only [if_neg hl, add_zero]

end Cert.KernelIdeal.Gen
-- ==== Proof.KerArr.lean ====
/-
  The two kernels' windows at coordinates, and the arrays their runs leave.
-/
module

public import proofs.«01_k».proof.Proof.KerMask

@[expose] public section

noncomputable section

namespace Cert.KernelIdeal.Gen

open Cert.KernelIdeal Cert.KernelIdeal.Gen Cert.Loss Idealize.ShloMosaic Idealize.ShloMosaic.TcCoe Idealize.SL.Sem Idealize.ShloMosaic.StableHlo Finset

/-! ## The block indices -/

theorem ix0_0 : ∀ t : Fin cfg0.N, win0_0.index t = ![t.val, 0, 0] := (by decide +kernel : ∀ t : Fin grid0.N, _)
theorem ix0_1 : ∀ t : Fin cfg0.N, win0_1.index t = ![t.val, 0, 0] := (by decide +kernel : ∀ t : Fin grid0.N, _)
theorem ix0_2 : ∀ t : Fin cfg0.N, win0_2.index t = ![t.val, 0, 0] := (by decide +kernel : ∀ t : Fin grid0.N, _)
theorem ix0_3 : ∀ t : Fin cfg0.N, win0_3.index t = ![t.val, 0, 0] := (by decide +kernel : ∀ t : Fin grid0.N, _)
theorem ix0_4 : ∀ t : Fin cfg0.N, win0_4.index t = ![t.val, 0, 0] := (by decide +kernel : ∀ t : Fin grid0.N, _)
theorem ix0_5 : ∀ t : Fin cfg0.N, win0_5.index t = ![t.val, 0, 0] := (by decide +kernel : ∀ t : Fin grid0.N, _)
theorem ix0_6 : ∀ t : Fin cfg0.N, win0_6.index t = ![t.val, 0, 0] := (by decide +kernel : ∀ t : Fin grid0.N, _)
theorem ix1_0 : ∀ t : Fin cfg1.N, win1_0.index t = ![t.val / 4, t.val % 4, 0] := (by decide +kernel : ∀ t : Fin grid1.N, _)
theorem ix1_1 : ∀ t : Fin cfg1.N, win1_1.index t = ![t.val / 4, t.val % 4, 0] := (by decide +kernel : ∀ t : Fin grid1.N, _)
theorem ix1_2 : ∀ t : Fin cfg1.N, win1_2.index t = ![t.val / 4, 0, 0] := (by decide +kernel : ∀ t : Fin grid1.N, _)
theorem ix1_3 : ∀ t : Fin cfg1.N, win1_3.index t = ![t.val / 4, 0, 0] := (by decide +kernel : ∀ t : Fin grid1.N, _)

section
variable (V : (c : Dev nD) → (b : Ref sig .tc) → Buf (Elt Ideal) ((c : Thread nD τ).loc b)) (c : Dev nD)

/-! ## The input blocks -/

theorem blk0_0 (t : Fin cfg0.N) (b : Fin 4) (hb : b.val = t.val) (i : Fin 4096) (k : Fin 80) :
    iblk0 V c 0 t (ix3 0 i k) = V c main_arg0 (ix3 b i k) := by blk_ext [iblk0, ix0_0]
theorem blk0_1 (t : Fin cfg0.N) (b : Fin 4) (hb : b.val = t.val) (i : Fin 4096) (k : Fin 4) :
    iblk0 V c 1 t (ix3 0 i k) = V c main_arg1 (ix3 b i k) := by blk_ext [iblk0, ix0_1]
theorem blk0_2 (t : Fin cfg0.N) (b : Fin 4) (hb : b.val = t.val) (k : Fin 4) (j : Fin 128) :
    iblk0 V c 2 t (ix3 0 k j) = V c main_v2 (ix3 b k j) := by blk_ext [iblk0, ix0_2]
theorem blk0_3 (t : Fin cfg0.N) (b : Fin 4) (hb : b.val = t.val) (k : Fin 80) (j : Fin 128) :
    iblk0 V c 3 t (ix3 0 k j) = V c main_v1 (ix3 b k j) := by blk_ext [iblk0, ix0_3]
theorem blk0_4 (t : Fin cfg0.N) (b : Fin 4) (hb : b.val = t.val) (j : Fin 128) (k : Fin 80) :
    iblk0 V c 4 t (ix3 0 j k) = V c main_v0 (ix3 b j k) := by blk_ext [iblk0, ix0_4]
theorem blk1_0 (t : Fin cfg1.N) (b : Fin 4) (hb : b.val = t.val / 4) (r : Fin 1024) (i : Fin 4096) (hi : i.val = t.val % 4 * 1024 + r.val) (p : Fin 784) :
    iblk1 V c 0 t (ix3 0 r p) = V c main_arg2 (ix3 b i p) := by blk_ext [iblk1, ix1_0]
theorem blk1_1 (t : Fin cfg1.N) (b : Fin 4) (hb : b.val = t.val / 4) (r : Fin 1024) (i : Fin 4096) (hi : i.val = t.val % 4 * 1024 + r.val) (j : Fin 128) :
    iblk1 V c 1 t (ix3 0 r j) = V c main_v4_1 (ix3 b i j) := by blk_ext [iblk1, ix1_1]
theorem blk1_2 (t : Fin cfg1.N) (b : Fin 4) (hb : b.val = t.val / 4) (p : Fin 784) (j : Fin 128) :
    iblk1 V c 2 t (ix3 0 p j) = V c main_v3 (ix3 b p j) := by blk_ext [iblk1, ix1_2]

/-! ## The matching kernel's arrays -/

variable (I : Fin 4 → Img) (hg : ∀ b, (I b).Good)

/-- What the matching kernel's arrays hold as it is entered. -/
structure Entry0 : Prop where
  h0 : ∀ b i k, V c main_arg0 (ix3 b i k) = (I b).lg i k
  h1 : ∀ b i k, V c main_arg1 (ix3 b i k) = (I b).bx i k
  h2 : ∀ b k j, V c main_v2 (ix3 b k j) = (I b).gb j k
  h3 : ∀ b k j, V c main_v1 (ix3 b k j) = if (I b).gc j = k then (1 : EReal) else 0
  h4 : ∀ b j k, V c main_v0 (ix3 b j k) = if (I b).gc j = k then (1 : EReal) else 0

/-- The four sums of an image by lane. -/
def lanes (J : Img) (l : ℕ) : EReal :=
  if l = 0 then J.clsLoss else if l = 1 then J.l1Loss else if l = 2 then J.giouLoss else if l = 4 then J.nfg else 0

/-- The first array's contents, by position. -/
def G5 (I : Fin 4 → Img) (i : S4x1x128.Idx) : EReal := lanes (I (i 0)) (i 2).val
/-- The second array's contents, by position. -/
def G6 (I : Fin 4 → Img) (i : S4x4096x128.Idx) : EReal := (if (I (i 0)).m1 (i 1) (i 2) = true then (1 : EReal) else 0) * (I (i 0)).fgf (i 1)
/-- The mask array's contents, by position. -/
def G3 (I : Fin 4 → Img) (i : S4x1x128.Idx) : EReal := if (i 2).val = 3 then (I (i 0)).maskSum else 0

variable {V c I}

theorem Entry0.blk (h : Entry0 V c I) (t : Fin cfg0.N) (b : Fin 4) (hb : b.val = t.val) :
    Blk (I b) (iblk0 V c 0 t) (iblk0 V c 1 t) (iblk0 V c 2 t) (iblk0 V c 3 t) (iblk0 V c 4 t) where
  h0 i k := (blk0_0 V c t b hb i k).trans (h.h0 b i k)
  h1 i k := (blk0_1 V c t b hb i k).trans (h.h1 b i k)
  h2 k j := (blk0_2 V c t b hb k j).trans (h.h2 b k j)
  h3 k j := (blk0_3 V c t b hb k j).trans (h.h3 b k j)
  h4 j k := (blk0_4 V c t b hb j k).trans (h.h4 b j k)

theorem N0 : cfg0.N = 4 := N_0
theorem N1 : cfg1.N = 16 := N_1

include hg in
theorem arr0_5 (h : Entry0 V c I) (b : Fin 4) (l : Fin 128) : (dat0 V c).arrAt 5 cfg0.N (ix3 b 0 l) = lanes (I b) l.val := by
  have e : (dat0 V c).arrAt 5 cfg0.N = G5 I := by
    refine (dat0 V c).arrAt_eq_of_covers 5 _ (by decide +kernel) fun t hf y => ?_
    blk_simp
    rw [after0_5]
    have ht : t.val < 4 := lt_of_lt_of_eq t.isLt N0
    have hy : y = ix3 0 0 (y 2) := by
      funext a; match a with | 0 => exact Subsingleton.elim (α := Fin 1) _ _ | 1 => exact Subsingleton.elim (α := Fin 1) _ _ | 2 => rfl
    rw [hy]
    have key : ∀ z : S4x1x128.Idx, (z 0).val = t.val → (z 2).val = (y 2).val →
        lanes (I ⟨t.val, ht⟩) (y 2).val = G5 I z := by
      intro z e0 e2
      unfold G5
      rw [e2, show z 0 = ⟨t.val, ht⟩ from Fin.ext e0]
      rfl
    refine (out5_apply _ _ _ _ _ (I ⟨t.val, ht⟩) (h.blk t ⟨t.val, ht⟩ rfl) (hg _) (y 2)).trans (key _ ?_ ?_)
    · blk_simp [ix0_5]; simp
    · blk_simp [ix0_5]
  rw [e]; rfl

include hg in
theorem arr0_6 (h : Entry0 V c I) (b : Fin 4) (i : Fin 4096) (j : Fin 128) :
    (dat0 V c).arrAt 6 cfg0.N (ix3 b i j) = (if (I b).m1 i j = true then (1 : EReal) else 0) * (I b).fgf i := by
  have e : (dat0 V c).arrAt 6 cfg0.N = G6 I := by
    refine (dat0 V c).arrAt_eq_of_covers 6 _ (by decide +kernel) fun t hf y => ?_
    blk_simp
    rw [after0_6]
    have ht : t.val < 4 := lt_of_lt_of_eq t.isLt N0
    have hy : y = ix3 0 (y 1) (y 2) := by
      funext a; match a with | 0 => exact Subsingleton.elim (α := Fin 1) _ _ | 1 => rfl | 2 => rfl
    rw [hy]
    have key : ∀ z : S4x4096x128.Idx, (z 0).val = t.val → (z 1).val = (y 1).val → (z 2).val = (y 2).val →
        (if (I ⟨t.val, ht⟩).m1 (y 1) (y 2) = true then (1 : EReal) else 0) * (I ⟨t.val, ht⟩).fgf (y 1) = G6 I z := by
      intro z e0 e1 e2
      unfold G6
      rw [show z 2 = y 2 from Fin.ext e2, show z 1 = y 1 from Fin.ext e1, show z 0 = ⟨t.val, ht⟩ from Fin.ext e0]
      rfl
    refine (out6_apply _ _ _ _ _ (I ⟨t.val, ht⟩) (h.blk t ⟨t.val, ht⟩ rfl) (hg _) (y 1) (y 2)).trans (key _ ?_ ?_ ?_)
    · blk_simp [ix0_6]; simp
    · blk_simp [ix0_6]
    · blk_simp [ix0_6]
  rw [e]; rfl

variable (V c I)

/-! ## The mask kernel's array -/

/-- What the mask kernel's arrays hold as it is entered. -/
structure Entry1 : Prop where
  h0 : ∀ b i p, V c main_arg2 (ix3 b i p) = (I b).pm i p
  h1 : ∀ b i j, V c main_v4_1 (ix3 b i j) = (if (I b).m1 i j = true then (1 : EReal) else 0) * (I b).fgf i
  h2 : ∀ b p j, V c main_v3 (ix3 b p j) = (I b).gm j p

variable {V c I}

/-- One prediction's share of the mask sum. -/
def share (J : Img) (i : Fin 4096) : EReal := if J.fg i = true then Ideal.div (J.mInter i) (J.mUnion i) else 0

include hg in
theorem addend_eq (h : Entry1 V c I) (b k : Fin 4) :
    addend V c (4 * b.val + k.val) = ∑ r : Fin 1024, share (I b) ⟨k.val * 1024 + r.val, by omega⟩ := by
  have hn : 4 * b.val + k.val < cfg1.N := lt_of_lt_of_eq (by omega) N1.symm
  rw [addend, dif_pos hn]
  have hb : b.val = (⟨4 * b.val + k.val, hn⟩ : Fin cfg1.N).val / 4 := by show b.val = (4 * b.val + k.val) / 4; omega
  have hk : ∀ r : Fin 1024, (⟨k.val * 1024 + r.val, by omega⟩ : Fin 4096).val = (⟨4 * b.val + k.val, hn⟩ : Fin cfg1.N).val % 4 * 1024 + r.val := by
    intro r; show k.val * 1024 + r.val = (4 * b.val + k.val) % 4 * 1024 + r.val; omega
  exact chunk_apply (I b) (hg b) (fun r => ⟨k.val * 1024 + r.val, by omega⟩) _ _ _
    (fun r p => (blk1_0 V c _ b hb r _ (hk r) p).trans (h.h0 b _ p))
    (fun p j => (blk1_2 V c _ b hb p j).trans (h.h2 b p j))
    (fun r j => (blk1_1 V c _ b hb r _ (hk r) j).trans (h.h1 b _ j))

/-- A sum over four chunks of a thousand and twenty-four rows. -/
theorem sum_chunks (f : Fin 4096 → EReal) : (∑ k : Fin 4, ∑ r : Fin 1024, f ⟨k.val * 1024 + r.val, by omega⟩) = ∑ i, f i := by
  rw [← Finset.sum_product', Finset.univ_product_univ]
  refine Fintype.sum_equiv (finProdFinEquiv (m := 4) (n := 1024)) _ f fun x => congrArg f (Fin.ext ?_)
  show x.1.val * 1024 + x.2.val = x.2.val + 1024 * x.1.val
  omega

include hg in
theorem arr1_3 (h : Entry1 V c I) (b : Fin 4) (l : Fin 128) :
    (dat1 V c).arrAt 3 cfg1.N (ix3 b 0 l) = if l.val = 3 then (I b).maskSum else 0 := by
  have e : (dat1 V c).arrAt 3 cfg1.N = G3 I := by
    refine (dat1 V c).arrAt_eq_of_covers 3 _ (by decide +kernel) fun t hf y => ?_
    blk_simp
    rw [after1_3]
    have ht : t.val < 16 := lt_of_lt_of_eq t.isLt N1
    have h3 : t.val % 4 = 3 := by have := (flush1_3 _).mp hf; omega
    have hq : 4 * (t.val / 4) + 3 = t.val := by omega
    have hy : y = ix3 0 0 (y 2) := by
      funext a; match a with | 0 => exact Subsingleton.elim (α := Fin 1) _ _ | 1 => exact Subsingleton.elim (α := Fin 1) _ _ | 2 => rfl
    rw [hy]
    have key : ∀ z : S4x1x128.Idx, (z 0).val = t.val / 4 → (z 2).val = (y 2).val →
        (if (y 2).val = 3 then ∑ s ∈ range (3 + 1), addend V c (4 * (t.val / 4) + s) else 0) = G3 I z := by
      intro z e0 e2
      unfold G3
      rw [e2]
      refine ite_congr rfl (fun _ => ?_) (fun _ => rfl)
      rw [← Fin.sum_univ_eq_sum_range (fun s => addend V c (4 * (t.val / 4) + s)) 4]
      refine (Finset.sum_congr rfl fun k _ => ?_).trans (sum_chunks fun i => share (I (z 0)) i)
      rw [← e0]
      exact addend_eq hg h (z 0) k
    have hacc := acc_apply V c (t.val / 4) 3 (by decide) (by rw [hq]; exact t.isLt) (y 2)
    have hsame : ∀ (n : ℕ) (hn : n < cfg1.N), n = t.val → outsAt1 (F := Ideal) V c t.val t.isLt = outsAt1 V c n hn := by
      intro n hn e; subst e; rfl
    rw [hsame _ _ hq]
    refine hacc.trans (key _ ?_ ?_)
    · blk_simp [ix1_3]; simp
    · blk_simp [ix1_3]
  rw [e]; rfl

end

end Cert.KernelIdeal.Gen
-- ==== Proof.KerHost.lean ====
/-
  The host operations around the two kernels, read at an element.
-/
module

public import proofs.«01_k».proof.Proof.KerArr
public import Idealize.ShloMosaic.Lib.StableHlo.ReadAt

@[expose] public section

noncomputable section

namespace Cert.KernelIdeal.Gen

open Cert.KernelIdeal Cert.KernelIdeal.Gen Cert.Loss Idealize.ShloMosaic Idealize.ShloMosaic.TcCoe Idealize.SL.Sem Idealize.ShloMosaic.StableHlo Finset

variable (W : Valuation τ sig (Elt Ideal))

theorem hot_read (b : Fin 4) (j : Fin 128) (k : Fin 80) (g : Fin 80)
    (h : (W (Proc.devRef .tc main_arg3) : IVec S4x128 32) (ix2 b j) = BitVec.ofNat 32 g.val) :
    (StableHlo.after hostOps0 W (Proc.devRef .tc main_v0) : Vec Ideal S4x128x80 .f32) (ix3 b j k)
      = if g = k then (1 : EReal) else 0 := by
  after_reads_at
  rw [h, cmpi_eq, uitofp_ofBool]
  refine ite_congr (propext ?_) (fun _ => rfl) (fun _ => rfl)
  rw [word_inj (by decide) g k, decide_eq_true_eq]

theorem hotT_read (b : Fin 4) (j : Fin 128) (k : Fin 80) :
    (StableHlo.after hostOps0_1 W (Proc.devRef .tc main_v1) : Vec Ideal S4x80x128 .f32) (ix3 b k j)
      = (W (Proc.devRef .tc main_v0) : Vec Ideal S4x128x80 .f32) (ix3 b j k) := by
  after_reads_at

theorem gtb_read (b : Fin 4) (j : Fin 128) (k : Fin 4) :
    (StableHlo.after hostOps0_1 W (Proc.devRef .tc main_v2) : Vec Ideal S4x4x128 .f32) (ix3 b k j)
      = (W (Proc.devRef .tc main_arg4) : Vec Ideal S4x128x4 .f32) (ix3 b j k) := by
  after_reads_at

theorem gtm_read (b : Fin 4) (j : Fin 128) (k : Fin 784) :
    (StableHlo.after hostOps0_1 W (Proc.devRef .tc main_v3) : Vec Ideal S4x784x128 .f32) (ix3 b k j)
      = (W (Proc.devRef .tc main_arg5) : Vec Ideal S4x128x784 .f32) (ix3 b j k) := by
  after_reads_at

/-- The total of one lane over the images and the two kernels. -/
def tot (A B : Vec Ideal S4x1x128 .f32) (l : Fin 128) : EReal := (∑ b : Fin 4, A (ix3 b 0 l)) + ∑ b : Fin 4, B (ix3 b 0 l)

/-- The four results from the totals. -/
def tail (T : Fin 128 → EReal) : Fin 4 → EReal
  | 0 => Ideal.div (cTwo * T 0) (max (T 4) 1)
  | 1 => Ideal.div (cFive * T 1) (max (T 4) 1)
  | 2 => Ideal.div (cTwo * T 2) (max (T 4) 1)
  | 3 => Ideal.div (cFive * (T 4 - cTwo * T 3)) (max (T 4) 1)

theorem tail_read (n : Fin 4) :
    (StableHlo.after hostOps2 W (Proc.devRef .tc main_v40) : Vec Ideal S4 .f32) (ix1 n)
      = tail (tot (W (Proc.devRef .tc main_v4_0)) (W (Proc.devRef .tc main_v5))) n := by
  match n with
  | 0 =>
    after_reads_at
    after_reads_at
    rfl
  | 1 =>
    after_reads_at
    after_reads_at
    rfl
  | 2 =>
    after_reads_at
    after_reads_at
    rfl
  | 3 =>
    after_reads_at
    after_reads_at
    rfl

/-! ## From the arguments to the result -/

variable (m : (ℓ : Loc nD τ sig) → Buf (Elt Ideal) ℓ) (ρ : Dev nD → PrngReg) (c : Dev nD)

/-- The arguments hold the images' inputs. -/
structure Args (I : Fin 4 → Img) : Prop where
  h0 : ∀ b i k, (m ((c : Thread nD τ).loc main_arg0) : Vec Ideal S4x4096x80 .f32) (ix3 b i k) = (I b).lg i k
  h1 : ∀ b i k, (m ((c : Thread nD τ).loc main_arg1) : Vec Ideal S4x4096x4 .f32) (ix3 b i k) = (I b).bx i k
  h2 : ∀ b i p, (m ((c : Thread nD τ).loc main_arg2) : Vec Ideal S4x4096x784 .f32) (ix3 b i p) = (I b).pm i p
  h3 : ∀ b j, (m ((c : Thread nD τ).loc main_arg3) : IVec S4x128 32) (ix2 b j) = BitVec.ofNat 32 ((I b).gc j).val
  h4 : ∀ b j k, (m ((c : Thread nD τ).loc main_arg4) : Vec Ideal S4x128x4 .f32) (ix3 b j k) = (I b).gb j k
  h5 : ∀ b j p, (m ((c : Thread nD τ).loc main_arg5) : Vec Ideal S4x128x784 .f32) (ix3 b j p) = (I b).gm j p

variable {m c} {I : Fin 4 → Img}

theorem hot_W1 (h : Args m c I) (b : Fin 4) (j : Fin 128) (k : Fin 80) :
    (W1 m ρ c (Proc.devRef .tc main_v0) : Vec Ideal S4x128x80 .f32) (ix3 b j k) = if (I b).gc j = k then (1 : EReal) else 0 :=
  hot_read (W0 m ρ c) b j k ((I b).gc j) (h.h3 b j)

theorem entry0 (h : Args m c I) : Entry0 (V2 m ρ) c I where
  h0 b i k := (congrFun (W2_args m ρ c main_arg0 (by decide)) _).trans (h.h0 b i k)
  h1 b i k := (congrFun (W2_args m ρ c main_arg1 (by decide)) _).trans (h.h1 b i k)
  h2 b k j := (gtb_read (W1 m ρ c) b j k).trans ((congrFun (W1_args m ρ c main_arg4 (by decide)) _).trans (h.h4 b j k))
  h3 b k j := (hotT_read (W1 m ρ c) b j k).trans (hot_W1 ρ h b j k)
  h4 b j k := (congrFun (W2_of m ρ c main_v0 (by decide)) _).trans (hot_W1 ρ h b j k)

theorem entry1 (hg : ∀ b, (I b).Good) (h : Args m c I) : Entry1 (V3 m ρ) c I where
  h0 b i p := (congrFun (W3_args m ρ c main_arg2 (by decide)) _).trans (h.h2 b i p)
  h1 b i j := (congrFun (W3_arr m ρ c 6) _).trans (arr0_6 hg (entry0 ρ h) b i j)
  h2 b p j := (congrFun (W3_of m ρ c main_v3 (by decide)) _).trans
    ((gtm_read (W1 m ρ c) b j p).trans ((congrFun (W1_args m ρ c main_arg5 (by decide)) _).trans (h.h5 b j p)))

theorem lanes_W4 (hg : ∀ b, (I b).Good) (h : Args m c I) (b : Fin 4) (l : Fin 128) :
    (W4 m ρ c (Proc.devRef .tc main_v4_0) : Vec Ideal S4x1x128 .f32) (ix3 b 0 l) = lanes (I b) l.val :=
  (congrFun (W4_of m ρ c main_v4_0 (by decide)) _).trans ((congrFun (W3_arr m ρ c 5) _).trans (arr0_5 hg (entry0 ρ h) b l))

theorem mask_W4 (hg : ∀ b, (I b).Good) (h : Args m c I) (b : Fin 4) (l : Fin 128) :
    (W4 m ρ c (Proc.devRef .tc main_v5) : Vec Ideal S4x1x128 .f32) (ix3 b 0 l) = if l.val = 3 then (I b).maskSum else 0 :=
  (congrFun (W4_arr m ρ c 3) _).trans (arr1_3 hg (entry1 ρ hg h) b l)

/-- The result's four entries. -/
theorem result_at (hg : ∀ b, (I b).Good) (h : Args m c I) (n : Fin 4) :
    (W5 m ρ c (Proc.devRef .tc main_v40) : Vec Ideal S4 .f32) (ix1 n)
      = tail (fun l => ∑ b, (lanes (I b) l.val + if l.val = 3 then (I b).maskSum else 0)) n := by
  refine (tail_read (W4 m ρ c) n).trans (congrArg (fun T => tail T n) (funext fun l => ?_))
  unfold tot
  rw [Finset.sum_add_distrib]
  exact congrArg₂ (· + ·) (Finset.sum_congr rfl fun b _ => lanes_W4 ρ hg h b l) (Finset.sum_congr rfl fun b _ => mask_W4 ρ hg h b l)

end Cert.KernelIdeal.Gen
-- ==== Proof.KerRun.lean ====
/-
  Every run of the two kernels' program ends with each buffer outside the kernels at the last boundary's contents.
-/
module

public import proofs.«01_k».proof.Proof.KerHost

@[expose] public section

set_option maxRecDepth 16384
noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's own ghost state splits into the pipelines' and nothing else. -/
theorem start_ghost : (ownU (initOf (Pipeline.cells cfgs cellOf_inj) (Pipeline.launchToks cfgs cellOf_inj)) : sProp 𝕄)
    ⊢ iprop(BI.own (emb₁ (initOf (Pipeline.cells cfgs cellOf_inj) (Pipeline.launchToks cfgs cellOf_inj)))
        ∗ bigSep Finset.univ (fun _ : Dev nD => (BI.emp : sProp 𝕄))) := by
  rw [BI.bigSep_emp_const]
  iintro Hu
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iempintro

set_option backward.isDefEq.respectTransparency.types false in
/-- The end of every run, buffer by buffer. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      iapply start_ghost
      iexact Hu)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hbufs, Hreg, Howe⟩
      isplitl [Hbufs Hreg]
      · isplitl [Hbufs]
        · iexact Hbufs
        · iexact Hreg
      · iexact Howe⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howe, -, Hreg, -⟩, -⟩
      imodintro
      isplitl [Hbufs]
      · iexact Hbufs
      · isplitl [Hreg]
        · iexists _; iexact Hreg
        · iexists ∅; iexact Howe)
    (QY := fun c s => ∀ b ∈ Pipeline.ucRefs τ sig, s.mem (((c : Thread nD τ)).1, b) = W5 m ρ c b)
    (hfin := fun c s' => by
      iintro ⟨⟨Hbufs, -⟩, Hst⟩
      unfold StableHlo.held
      imodintro
      iapply (pointsTo_read_all (Pipeline.ucRefs τ sig) (fun b => (((c : Thread nD τ)).1, b)) (W5 m ρ c) s')
      isplitl [Hbufs] <;> iassumption)
    (hQ := fun s h _ => h)

/-- The result and the arguments at the end of every run. -/
theorem value_run : θ_run defs (onTc (τ := τ) (main (F := F))) ⟨m, fun _ => 0, ρ⟩ (fun r => ∀ c : Dev nD,
      r.2.mem ((c.tc : Thread nD τ).loc main_v40) = W5 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v40 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (ends m ρ)

end Cert.KernelIdeal.Gen
-- ==== Proof.RefGather.lean ====
/-
  The reference's gathers, entry by entry: an entry of a column named by its word, and a row named by its word.
-/
module

public import proofs.«01_k».proof.Proof.Gen.ReferenceIdeal.Read
public import proofs.«01_k».proof.Proof.Bits

@[expose] public section

noncomputable section

namespace Cert.ReferenceIdeal.Read

open Cert.ReferenceIdeal Cert.ReferenceIdeal.Gen Cert.Loss Idealize.ShloMosaic Idealize.ShloMosaic.TcCoe Idealize.SL.Sem Idealize.ShloMosaic.StableHlo

theorem clamp_word {m n : ℕ} (hm : m ≤ n) (hn : n < 2 ^ 31) : min (BitVec.ofNat 32 m).toInt.toNat n = m := by
  rw [toInt_ofNat (by omega)]; simp [hm]

/-- Entry `(b, i, j)` is the operand's at the class the word of `(b, j)` names. -/
theorem gather_cols {α : Type} (x : S4x4096x80.Idx → α) (idx : IVec S4x128x1 32) (b : Fin 4) (i : Fin 4096) (j : Fin 128)
    (c : Fin 80) (h : idx (ix3 b j 0) = BitVec.ofNat 32 c.val) :
    Host.gather gather_S4x4096x80_S4x128x1_S4x4096x128_1_2_0_0_2_2_140961 x idx (ix3 b i j) = x (ix3 b i c) := by
  unfold Host.gather
  congr 1
  funext a
  apply Fin.ext
  match a with
  | ⟨0, _⟩ =>
    show 0 + _ + 0 = b.val
    simp only [Nat.zero_add, Nat.add_zero]; rfl
  | ⟨1, _⟩ =>
    show 0 + 0 + _ = i.val
    simp only [Nat.zero_add]; rfl
  | ⟨2, _⟩ =>
    show min (idx _).toInt.toNat 79 + 0 + 0 = c.val
    refine (congrArg (fun k => min (idx k).toInt.toNat 79 + 0 + 0) (?_ : _ = ix3 b j 0)).trans ?_
    · funext a
      match a with
      | ⟨0, _⟩ => rfl
      | ⟨1, _⟩ => rfl
      | ⟨2, _⟩ => rfl
    · simp only [Nat.add_zero, h]
      exact clamp_word (by have := c.isLt; omega) (by norm_num)

/-- Entry `(b, i, c)` is the operand's in the row the word of `(b, i)` names. -/
theorem gather_rows80 {α : Type} (x : S4x128x80.Idx → α) (idx : IVec S4x4096x1 32) (b : Fin 4) (i : Fin 4096) (c : Fin 80)
    (j : Fin 128) (h : idx (ix3 b i 0) = BitVec.ofNat 32 j.val) :
    Host.gather gather_S4x128x80_S4x4096x1_S4x4096x80_2_1_0_0_1_2_1180 x idx (ix3 b i c) = x (ix3 b j c) := by
  unfold Host.gather
  congr 1
  funext a
  apply Fin.ext
  match a with
  | ⟨0, _⟩ =>
    show 0 + _ + 0 = b.val
    simp only [Nat.zero_add, Nat.add_zero]; rfl
  | ⟨2, _⟩ =>
    show 0 + 0 + _ = c.val
    simp only [Nat.zero_add]; rfl
  | ⟨1, _⟩ =>
    show min (idx _).toInt.toNat 127 + 0 + 0 = j.val
    refine (congrArg (fun k => min (idx k).toInt.toNat 127 + 0 + 0) (?_ : _ = ix3 b i 0)).trans ?_
    · funext a
      match a with
      | ⟨0, _⟩ => rfl
      | ⟨1, _⟩ => rfl
      | ⟨2, _⟩ => rfl
    · simp only [Nat.add_zero, h]
      exact clamp_word (by have := j.isLt; omega) (by norm_num)

/-- Entry `(b, i, c)` is the operand's in the row the word of `(b, i)` names. -/
theorem gather_rows4 {α : Type} (x : S4x128x4.Idx → α) (idx : IVec S4x4096x1 32) (b : Fin 4) (i : Fin 4096) (c : Fin 4)
    (j : Fin 128) (h : idx (ix3 b i 0) = BitVec.ofNat 32 j.val) :
    Host.gather gather_S4x128x4_S4x4096x1_S4x4096x4_2_1_0_0_1_2_114 x idx (ix3 b i c) = x (ix3 b j c) := by
  unfold Host.gather
  congr 1
  funext a
  apply Fin.ext
  match a with
  | ⟨0, _⟩ =>
    show 0 + _ + 0 = b.val
    simp only [Nat.zero_add, Nat.add_zero]; rfl
  | ⟨2, _⟩ =>
    show 0 + 0 + _ = c.val
    simp only [Nat.zero_add]; rfl
  | ⟨1, _⟩ =>
    show min (idx _).toInt.toNat 127 + 0 + 0 = j.val
    refine (congrArg (fun k => min (idx k).toInt.toNat 127 + 0 + 0) (?_ : _ = ix3 b i 0)).trans ?_
    · funext a
      match a with
      | ⟨0, _⟩ => rfl
      | ⟨1, _⟩ => rfl
      | ⟨2, _⟩ => rfl
    · simp only [Nat.add_zero, h]
      exact clamp_word (by have := j.isLt; omega) (by norm_num)

/-- Entry `(b, i, c)` is the operand's in the row the word of `(b, i)` names. -/
theorem gather_rows784 {α : Type} (x : S4x128x784.Idx → α) (idx : IVec S4x4096x1 32) (b : Fin 4) (i : Fin 4096) (c : Fin 784)
    (j : Fin 128) (h : idx (ix3 b i 0) = BitVec.ofNat 32 j.val) :
    Host.gather gather_S4x128x784_S4x4096x1_S4x4096x784_2_1_0_0_1_2_11784 x idx (ix3 b i c) = x (ix3 b j c) := by
  unfold Host.gather
  congr 1
  funext a
  apply Fin.ext
  match a with
  | ⟨0, _⟩ =>
    show 0 + _ + 0 = b.val
    simp only [Nat.zero_add, Nat.add_zero]; rfl
  | ⟨2, _⟩ =>
    show 0 + 0 + _ = c.val
    simp only [Nat.zero_add]; rfl
  | ⟨1, _⟩ =>
    show min (idx _).toInt.toNat 127 + 0 + 0 = j.val
    refine (congrArg (fun k => min (idx k).toInt.toNat 127 + 0 + 0) (?_ : _ = ix3 b i 0)).trans ?_
    · funext a
      match a with
      | ⟨0, _⟩ => rfl
      | ⟨1, _⟩ => rfl
      | ⟨2, _⟩ => rfl
    · simp only [Nat.add_zero, h]
      exact clamp_word (by have := j.isLt; omega) (by norm_num)

end Cert.ReferenceIdeal.Read
-- ==== Proof.RefCost.lean ====
/-
  The reference's centres, costs, overlaps and validity, entry by entry, as the plain functions of the image.
-/
module

public import proofs.«01_k».proof.Proof.Gen.ReferenceIdeal.Read
public import proofs.«01_k».proof.Proof.RefGather
public import proofs.«01_k».proof.Proof.RealVals

@[expose] public section

noncomputable section

namespace Cert.ReferenceIdeal.Read

open Cert.ReferenceIdeal Cert.ReferenceIdeal.Gen Cert.Loss Idealize.ShloMosaic Idealize.ShloMosaic.TcCoe Idealize.SL.Sem Idealize.ShloMosaic.StableHlo

theorem r_v6 (x1 : (⟨S4x4096x4, .f32⟩ : BufTy).Contents (Elt Ideal)) (I : Fin 4 → Img) (h1 : ∀ b i k, x1 (ix3 b i k) = (I b).bx i k)  (b : Fin 4) (i : Fin 4096) :
    val_main_v6 (F := Ideal) x1 (ix2 b i) = (I b).cx i := by
  pointwise [val_main_v6, val_main_v5, val_main_cst, val_main_v4, val_main_v3, val_main_v2, val_main_v1, val_main_v0, id_eq]
  simp only [h1]
  rfl

theorem r_v13 (x1 : (⟨S4x4096x4, .f32⟩ : BufTy).Contents (Elt Ideal)) (I : Fin 4 → Img) (h1 : ∀ b i k, x1 (ix3 b i k) = (I b).bx i k)  (b : Fin 4) (i : Fin 4096) :
    val_main_v13 (F := Ideal) x1 (ix2 b i) = (I b).cy i := by
  pointwise [val_main_v13, val_main_v12, val_main_cst_0, val_main_v11, val_main_v10, val_main_v9, val_main_v8, val_main_v7, id_eq]
  simp only [h1]
  rfl

theorem r_v20 (x1 : (⟨S4x4096x4, .f32⟩ : BufTy).Contents (Elt Ideal)) (I : Fin 4 → Img) (h1 : ∀ b i k, x1 (ix3 b i k) = (I b).bx i k)  (b : Fin 4) (i : Fin 4096) :
    val_main_v20 (F := Ideal) x1 (ix2 b i) = (I b).sx i := by
  pointwise [val_main_v20, val_main_v19, val_main_cst_1, val_main_v18, val_main_v17, val_main_v16, val_main_v15, val_main_v14, id_eq]
  simp only [h1]
  rfl

theorem r_v27 (x1 : (⟨S4x4096x4, .f32⟩ : BufTy).Contents (Elt Ideal)) (I : Fin 4 → Img) (h1 : ∀ b i k, x1 (ix3 b i k) = (I b).bx i k)  (b : Fin 4) (i : Fin 4096) :
    val_main_v27 (F := Ideal) x1 (ix2 b i) = (I b).sy i := by
  pointwise [val_main_v27, val_main_v26, val_main_cst_2, val_main_v25, val_main_v24, val_main_v23, val_main_v22, val_main_v21, id_eq]
  simp only [h1]
  rfl

theorem r_v58 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (i : Fin 4096) (j : Fin 128) :
    val_main_v58 (F := Ideal) x1 x4 (ix3 b i j) = BitVec.ofBool ((I b).inGt i j) := by
  pointwise [val_main_v58, val_main_v57, val_main_v56, val_main_v54, val_main_v53, val_main_v52, val_main_v55, val_main_v51, val_main_v50, val_main_v49, val_main_v48, val_main_v46, val_main_v45, val_main_v44, val_main_v47, val_main_v43, val_main_v42, val_main_v41, val_main_v40, val_main_v38, val_main_v37, val_main_v36, val_main_v39, val_main_v35, val_main_v34, val_main_v33, val_main_v31, val_main_v30, val_main_v29, val_main_v32, val_main_v28, id_eq]
  simp only [r_v6 x1 I h1, r_v13 x1 I h1, h4, andi_ofBool]
  rfl

theorem r_v115 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (i : Fin 4096) (j : Fin 128) :
    val_main_v115 (F := Ideal) x1 x4 (ix3 b i j) = BitVec.ofBool ((I b).inCt i j) := by
  pointwise [val_main_v115, val_main_v114, val_main_v112, val_main_v111, val_main_v109, val_main_v107, val_main_v108, val_main_cst_8, val_main_v110, val_main_v106, val_main_v72, val_main_v71, val_main_cst_4, val_main_v70, val_main_v69, val_main_v68, val_main_v67, val_main_v66, val_main_v113, val_main_v105, val_main_v104, val_main_v103, val_main_v101, val_main_v100, val_main_v98, val_main_v96, val_main_v97, val_main_cst_7, val_main_v99, val_main_v95, val_main_v102, val_main_v94, val_main_v93, val_main_v92, val_main_v90, val_main_v89, val_main_v87, val_main_v85, val_main_v86, val_main_cst_6, val_main_v88, val_main_v84, val_main_v65, val_main_v64, val_main_cst_3, val_main_v63, val_main_v62, val_main_v61, val_main_v60, val_main_v59, val_main_v91, val_main_v83, val_main_v82, val_main_v80, val_main_v79, val_main_v77, val_main_v75, val_main_v76, val_main_cst_5, val_main_v78, val_main_v74, val_main_v81, val_main_v73, id_eq]
  simp only [r_v6 x1 I h1, r_v13 x1 I h1, r_v20 x1 I h1, r_v27 x1 I h1, h4, andi_ofBool]
  rfl

theorem r_v119 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (i : Fin 4096) (j : Fin 128) :
    val_main_v119 (F := Ideal) x1 x4 (ix3 b i j) = BitVec.ofBool ((I b).inGt i j && (I b).inCt i j) := by
  pointwise [val_main_v119, id_eq]
  simp only [r_v58 x1 x4 I h1 h4, r_v115 x1 x4 I h1 h4, andi_ofBool]

theorem r_v116 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (i : Fin 4096) :
    val_main_v116 (F := Ideal) x1 x4 (ix2 b i) = BitVec.ofBool (decide (∃ j, (I b).inGt i j = true)) := by
  unfold val_main_v116
  rw [Host.reduce_eq_fold]
  pointwise [val_main_c, id_eq]
  simp only [r_v58 x1 x4 I h1 h4]
  exact fold_ori (ι := Fin 128) _

theorem r_v117 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (i : Fin 4096) :
    val_main_v117 (F := Ideal) x1 x4 (ix2 b i) = BitVec.ofBool (decide (∃ j, (I b).inCt i j = true)) := by
  unfold val_main_v117
  rw [Host.reduce_eq_fold]
  pointwise [val_main_c_9, id_eq]
  simp only [r_v115 x1 x4 I h1 h4]
  exact fold_ori (ι := Fin 128) _

theorem r_v118 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (i : Fin 4096) :
    val_main_v118 (F := Ideal) x1 x4 (ix2 b i) = BitVec.ofBool ((I b).valid i) := by
  pointwise [val_main_v118, id_eq]
  simp only [r_v116 x1 x4 I h1 h4, r_v117 x1 x4 I h1 h4, ori_ofBool]
  congr 1
  unfold Img.valid
  rw [Bool.eq_iff_iff]
  simp [exists_or]

theorem r_v166 (x1 : (⟨S4x4096x4, .f32⟩ : BufTy).Contents (Elt Ideal)) (I : Fin 4 → Img) (h1 : ∀ b i k, x1 (ix3 b i k) = (I b).bx i k)  (b : Fin 4) (i : Fin 4096) (k : Fin 4) :
    val_main_v166 (F := Ideal) x1 (ix3 b i k) = (I b).nb i k := by
  pointwise [val_main_v166, val_main_v165, val_main_cst_25, id_eq]
  simp only [h1]
  rfl

theorem r_v168 (x4 : (⟨S4x128x4, .f32⟩ : BufTy).Contents (Elt Ideal)) (I : Fin 4 → Img) (h4 : ∀ b j k, x4 (ix3 b j k) = (I b).gb j k)  (b : Fin 4) (j : Fin 128) (k : Fin 4) :
    val_main_v168 (F := Ideal) x4 (ix3 b j k) = (I b).ngb j k := by
  pointwise [val_main_v168, val_main_v167, val_main_cst_26, id_eq]
  simp only [h4]
  rfl

theorem r_v177 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (i : Fin 4096) (j : Fin 128) :
    val_main_v177 (F := Ideal) x1 x4 (ix3 b i j) = cFive * l1Of ((I b).nb i) ((I b).ngb j) := by
  pointwise [val_main_v177, val_main_v175, val_main_cst_27, val_main_v174, val_main_v173, val_main_v172, val_main_v170, val_main_v171, val_main_v169, val_main_v176, val_main_cst_28, id_eq]
  simp only [r_v166 x1 I h1, r_v168 x4 I h4, Fin.sum_univ_four]
  rfl

theorem r_v220 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (i : Fin 4096) (j : Fin 128) :
    val_main_v220 (F := Ideal) x1 x4 (ix3 b i j) = interOf ((I b).nb i) ((I b).ngb j) := by
  pointwise [val_main_v220, val_main_v219, val_main_v218, val_main_v215, val_main_v214, val_main_v206, val_main_v205, val_main_v203, val_main_v202, val_main_v204, val_main_v201, val_main_v200, val_main_v213, val_main_v212, val_main_v210, val_main_v209, val_main_v211, val_main_v208, val_main_v207, val_main_call0_v1, val_main_call0_v0, val_main_cst_29, val_main_v217, val_main_v216, id_eq]
  simp only [r_v166 x1 I h1, r_v168 x4 I h4]
  rfl

theorem r_v226 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (i : Fin 4096) (j : Fin 128) :
    val_main_v226 (F := Ideal) x1 x4 (ix3 b i j) = unionOf ((I b).nb i) ((I b).ngb j) := by
  pointwise [val_main_v226, val_main_v225, val_main_v224, val_main_v222, val_main_v199, val_main_v198, val_main_v197, val_main_v196, val_main_v195, val_main_v194, val_main_v193, val_main_v192, val_main_v191, val_main_v190, val_main_v189, val_main_v223, val_main_v221, val_main_v188, val_main_v187, val_main_v186, val_main_v185, val_main_v184, val_main_v183, val_main_v182, val_main_v181, val_main_v180, val_main_v179, val_main_v178, id_eq]
  simp only [r_v166 x1 I h1, r_v168 x4 I h4, r_v220 x1 x4 I h1 h4]
  rfl

theorem r_v229 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (i : Fin 4096) (j : Fin 128) :
    val_main_v229 (F := Ideal) x1 x4 (ix3 b i j) = iouOf ((I b).nb i) ((I b).ngb j) := by
  pointwise [val_main_v229, val_main_v228, val_main_v227, val_main_cst_30, id_eq]
  simp only [r_v226 x1 x4 I h1 h4, r_v220 x1 x4 I h1 h4]
  rfl

theorem r_v255 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (i : Fin 4096) (j : Fin 128) :
    val_main_v255 (F := Ideal) x1 x4 (ix3 b i j) = giouOf ((I b).nb i) ((I b).ngb j) := by
  pointwise [val_main_v255, val_main_v254, val_main_v253, val_main_v252, val_main_cst_32, val_main_v250, val_main_v249, val_main_v248, val_main_v245, val_main_v244, val_main_v236, val_main_v235, val_main_v233, val_main_v232, val_main_v234, val_main_v231, val_main_v230, val_main_v243, val_main_v242, val_main_v240, val_main_v239, val_main_v241, val_main_v238, val_main_v237, val_main_call1_v1, val_main_call1_v0, val_main_cst_31, val_main_v247, val_main_v246, val_main_v251, id_eq]
  simp only [r_v166 x1 I h1, r_v168 x4 I h4, r_v226 x1 x4 I h1 h4, r_v229 x1 x4 I h1 h4]
  rfl

theorem r_v331 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (i : Fin 4096) (j : Fin 128) :
    val_main_v331 (F := Ideal) x1 x4 (ix3 b i j) = (I b).iou i j := by
  pointwise [val_main_v331, val_main_v330, val_main_v329, val_main_v328, val_main_v327, val_main_v326, val_main_v325, val_main_cst_38, val_main_v324, val_main_v318, val_main_v317, val_main_v316, val_main_v313, val_main_v312, val_main_v304, val_main_v303, val_main_v301, val_main_v300, val_main_v302, val_main_v299, val_main_v298, val_main_v311, val_main_v310, val_main_v308, val_main_v307, val_main_v309, val_main_v306, val_main_v305, val_main_call2_v1, val_main_call2_v0, val_main_cst_37, val_main_v315, val_main_v314, val_main_v323, val_main_v322, val_main_v320, val_main_v297, val_main_v296, val_main_v295, val_main_v294, val_main_v293, val_main_v292, val_main_v291, val_main_v290, val_main_v289, val_main_v288, val_main_v287, val_main_v321, val_main_v319, val_main_v286, val_main_v285, val_main_v284, val_main_v283, val_main_v282, val_main_v281, val_main_v280, val_main_v279, val_main_v278, val_main_v277, val_main_v276, id_eq]
  simp only [r_v118 x1 x4 I h1 h4, h1, h4, uitofp_ofBool]
  unfold Img.iou
  by_cases hv : (I b).valid i = true
  · rw [if_pos hv, if_pos hv, mul_one]; rfl
  · rw [if_neg hv, if_neg hv, mul_zero]

theorem r_v332 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (j : Fin 128) (i : Fin 4096) :
    val_main_v332 (F := Ideal) x1 x4 (ix3 b j i) = (I b).iou i j := by
  pointwise [val_main_v332, id_eq]
  simp only [r_v331 x1 x4 I h1 h4]

theorem r_v136 (x0 : (⟨S4x4096x80, .f32⟩ : BufTy).Contents (Elt Ideal)) (I : Fin 4 → Img) (h0 : ∀ b i c, x0 (ix3 b i c) = (I b).lg i c)  (b : Fin 4) (i : Fin 4096) (c : Fin 80) :
    val_main_v136 (F := Ideal) x0 (ix3 b i c) = negC (prob ((I b).lg i c)) := by
  pointwise [val_main_v136, val_main_v135, val_main_v134, val_main_cst_15, val_main_v125, val_main_v123, val_main_v121, val_main_v120, val_main_v122, val_main_cst_10, val_main_v124, val_main_cst_11, val_main_v133, val_main_v132, val_main_cst_14, val_main_v131, val_main_v130, val_main_v129, val_main_v128, val_main_cst_13, val_main_v127, val_main_v126, val_main_cst_12, id_eq]
  simp only [h0]
  unfold negC
  rw [← pow_two_eq (prob_isR _)]
  rfl

theorem r_v147 (x0 : (⟨S4x4096x80, .f32⟩ : BufTy).Contents (Elt Ideal)) (I : Fin 4 → Img) (h0 : ∀ b i c, x0 (ix3 b i c) = (I b).lg i c)  (b : Fin 4) (i : Fin 4096) (c : Fin 80) :
    val_main_v147 (F := Ideal) x0 (ix3 b i c) = posC (prob ((I b).lg i c)) := by
  pointwise [val_main_v147, val_main_v146, val_main_v145, val_main_cst_19, val_main_v144, val_main_v125, val_main_v123, val_main_v121, val_main_v120, val_main_v122, val_main_cst_10, val_main_v124, val_main_cst_11, val_main_v143, val_main_cst_18, val_main_v142, val_main_v141, val_main_cst_17, val_main_v140, val_main_v139, val_main_v138, val_main_v137, val_main_cst_16, id_eq]
  simp only [h0]
  unfold posC
  rw [← pow_two_eq (IsR.one.sub (prob_isR _))]
  rfl

/-- A word below the middle is not negative, so the wrap of negative words leaves it. -/
theorem wrap_word (m : ℕ) (hm : m < 2 ^ 31) (w : BitVec 32) :
    Scalar.select (IntOp.cmpi .slt (BitVec.ofNat 32 m) 0#32) w (BitVec.ofNat 32 m) = BitVec.ofNat 32 m := by
  unfold IntOp.cmpi
  simp only [slt_iff, toInt_ofNat hm, select_ofBool]
  rw [if_neg]
  simp

theorem r_v164 (x0 : (⟨S4x4096x80, .f32⟩ : BufTy).Contents (Elt Ideal)) (x3 : (⟨S4x128, .i32⟩ : BufTy).Contents (Elt Ideal)) (I : Fin 4 → Img) (h0 : ∀ b i c, x0 (ix3 b i c) = (I b).lg i c) (h3 : ∀ b j, x3 (ix2 b j) = BitVec.ofNat 32 ((I b).gc j).val)  (b : Fin 4) (i : Fin 4096) (j : Fin 128) :
    val_main_v164 (F := Ideal) x0 x3 (ix3 b i j) = (I b).clsCost i j := by
  pointwise [val_main_v164, val_main_v162, val_main_v161, val_main_v160, val_main_v159, val_main_v158, val_main_v157, val_main_c_23, val_main_v156, val_main_v155, val_main_c_22, val_main_v154, val_main_v153, val_main_v152, val_main_v151, val_main_v150, val_main_c_21, val_main_v149, val_main_v148, val_main_c_20, val_main_v163, val_main_cst_24, id_eq]
  have hi : (broadcastInDim S4x128x1 ![0, 1] bcast_S4x128_S4x128x1_0_1
      (select (cmpi CmpIPredicate.slt x3 (broadcastInDim S4x128 ![] bcast_S_S4x128 (constantI S_ 32 0#32)))
        (addi x3 (broadcastInDim S4x128 ![] bcast_S_S4x128 (constantI S_ 32 80#32))) x3)) (ix3 b j 0) = BitVec.ofNat 32 ((I b).gc j).val := by
    pointwise []
    simp only [h3]
    exact wrap_word _ (by have := ((I b).gc j).isLt; omega) _
  rw [gather_cols _ _ b i j _ hi, gather_cols _ _ b i j _ hi]
  simp only [r_v136 x0 I h0, r_v147 x0 I h0]
  rfl

theorem r_v275 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) (j : Fin 128) :
    val_main_v275 (F := Ideal) x0 x1 x3 x4 (ix3 b i j) = (I b).cost i j := by
  pointwise [val_main_v275, val_main_v274, val_main_v273, val_main_v272, val_main_v271, val_main_cst_36, val_main_v270, val_main_v269, val_main_v268, val_main_v267, val_main_v266, val_main_v265, val_main_v264, val_main_cst_35, val_main_v263, val_main_v262, val_main_v261, val_main_v259, val_main_v257, val_main_v256, val_main_cst_33, val_main_v258, val_main_cst_34, val_main_v260, id_eq]
  simp only [r_v164 x0 x3 I h0 h3, r_v177 x1 x4 I h1 h4, r_v255 x1 x4 I h1 h4, r_v118 x1 x4 I h1 h4, r_v119 x1 x4 I h1 h4, compl_ofBool, uitofp_ofBool]
  unfold Img.cost
  by_cases hb : ((I b).inGt i j && (I b).inCt i j) = true <;> by_cases hv : (I b).valid i = true <;> simp [hb, hv]

end Cert.ReferenceIdeal.Read
-- ==== Proof.RefMatch.lean ====
/-
  The reference's matching, entry by entry: the two sorts that rank the rows of a column, the column's count, the rows it
  takes, and the columns kept where several take one row.
-/
module

public import proofs.«01_k».proof.Proof.RefCost

@[expose] public section

noncomputable section

namespace Cert.ReferenceIdeal.Read

open Cert.ReferenceIdeal Cert.ReferenceIdeal.Gen Cert.Loss Idealize.ShloMosaic Idealize.ShloMosaic.TcCoe Idealize.SL.Sem Idealize.ShloMosaic.StableHlo

/-- The key order a float sort compares by: less, the two zeros one value. -/
theorem cmp_d1 (l r : EReal × BitVec 32) : (comparator_f32_i32_d1 (F := Ideal) l r == 1#1) = decide (l.1 < r.1) := by
  have h : comparator_f32_i32_d1 (F := Ideal) l r = BitVec.ofBool (decide (l.1 < r.1)) := by
    unfold comparator_f32_i32_d1
    simp only [Ideal.cmpf_def, Ideal.cmpfTotal_def, Ideal.cmp, CmpDirection.ordered, select_ofBool]
    have e : ∀ x : EReal, (if decide (x = FloatOps.ofBits (F := Ideal) FTy.f32 0#32) = true then FloatOps.ofBits (F := Ideal) FTy.f32 0#32 else x) = x := by
      intro x
      split_ifs with h
      · exact (of_decide_eq_true h).symm
      · rfl
    simp only [ne_eq, not_true_eq_false, decide_false, Bool.false_eq_true, if_false]
    erw [e, e]
  rw [h]
  cases decide (l.1 < r.1) <;> rfl

theorem cmp_d2 (l r : EReal × BitVec 32) : (comparator_f32_i32_d2 (F := Ideal) l r == 1#1) = decide (l.1 < r.1) := cmp_d1 l r

theorem cmp_i1 (l r : BitVec 32 × BitVec 32) : (comparator_i32_i32_d1 l r == 1#1) = decide (l.1.toInt < r.1.toInt) := by
  unfold comparator_i32_i32_d1 IntOp.cmpi
  simp only [slt_iff]
  cases decide (l.1.toInt < r.1.toInt) <;> rfl

theorem lt13 : 1 < 3 := by decide
theorem lt23 : 2 < 3 := by decide

theorem along1 (b : Fin 4) (t k : Fin 4096) (j : Fin 128) : (ix3 b t j : S4x4096x128.Idx).along ⟨1, lt13⟩ k = ix3 b k j := by
  funext a
  match a with
  | ⟨0, _⟩ => rfl
  | ⟨1, _⟩ => rfl
  | ⟨2, _⟩ => rfl

theorem along2 (b : Fin 4) (i : Fin 4096) (t k : Fin 128) : (ix3 b i t : S4x4096x128.Idx).along ⟨2, lt23⟩ k = ix3 b i k := by
  funext a
  match a with
  | ⟨0, _⟩ => rfl
  | ⟨1, _⟩ => rfl
  | ⟨2, _⟩ => rfl

theorem along2' (b : Fin 4) (j : Fin 128) (t k : Fin 4096) : (ix3 b j t : S4x128x4096.Idx).along ⟨2, lt23⟩ k = ix3 b j k := by
  funext a
  match a with
  | ⟨0, _⟩ => rfl
  | ⟨1, _⟩ => rfl
  | ⟨2, _⟩ => rfl

/-- The payload of a sort, at one entry. -/
theorem sort2_snd {s : Shape} {d : ℕ} (hd : d < s.rank) {α β : Type} (cmp : α × β → α × β → BitVec 1) (x : s.Idx → α) (y : s.Idx → β) (i : s.Idx)
    (B : Fin (s.size ⟨d, hd⟩) → Fin (s.size ⟨d, hd⟩) → Bool)
    (hB : ∀ k k', (cmp (x (i.along ⟨d, hd⟩ k), y (i.along ⟨d, hd⟩ k)) (x (i.along ⟨d, hd⟩ k'), y (i.along ⟨d, hd⟩ k')) == 1#1) = B k k') :
    (Host.sort2 s d cmp x y).2 i = y (i.along ⟨d, hd⟩ (sortedFrom B (i ⟨d, hd⟩))) := by
  have e : (fun k k' => cmp (x (i.along ⟨d, hd⟩ k), y (i.along ⟨d, hd⟩ k)) (x (i.along ⟨d, hd⟩ k'), y (i.along ⟨d, hd⟩ k')) == 1#1) = B := by
    funext k k'; exact hB k k'
  unfold Host.sort2
  rw [dif_pos hd]
  simp only [e]

/-- The keys of a sort, at one entry. -/
theorem sort2_fst {s : Shape} {d : ℕ} (hd : d < s.rank) {α β : Type} (cmp : α × β → α × β → BitVec 1) (x : s.Idx → α) (y : s.Idx → β) (i : s.Idx)
    (B : Fin (s.size ⟨d, hd⟩) → Fin (s.size ⟨d, hd⟩) → Bool)
    (hB : ∀ k k', (cmp (x (i.along ⟨d, hd⟩ k), y (i.along ⟨d, hd⟩ k)) (x (i.along ⟨d, hd⟩ k'), y (i.along ⟨d, hd⟩ k')) == 1#1) = B k k') :
    (Host.sort2 s d cmp x y).1 i = x (i.along ⟨d, hd⟩ (sortedFrom B (i ⟨d, hd⟩))) := by
  have e : (fun k k' => cmp (x (i.along ⟨d, hd⟩ k), y (i.along ⟨d, hd⟩ k)) (x (i.along ⟨d, hd⟩ k'), y (i.along ⟨d, hd⟩ k')) == 1#1) = B := by
    funext k k'; exact hB k k'
  unfold Host.sort2
  rw [dif_pos hd]
  simp only [e]

/-- The payload of a sort down the rows, at one entry. -/
theorem sort_rows {α : Type} (cmp : α × BitVec 32 → α × BitVec 32 → BitVec 1) (x : S4x4096x128.Idx → α) (y : IVec S4x4096x128 32)
    (b : Fin 4) (t : Fin 4096) (j : Fin 128) (B : Fin 4096 → Fin 4096 → Bool)
    (hB : ∀ k k', (cmp (x (ix3 b k j), y (ix3 b k j)) (x (ix3 b k' j), y (ix3 b k' j)) == 1#1) = B k k') :
    (Host.sort2 S4x4096x128 1 cmp x y).2 (ix3 b t j) = y (ix3 b (sortedFrom B t) j) := by
  refine (sort2_snd (s := S4x4096x128) (d := 1) lt13 cmp x y (ix3 b t j) B fun k k' => ?_).trans (congrArg y (along1 b t (sortedFrom B t) j))
  rw [along1 b t k j, along1 b t k' j]; exact hB k k'

/-- The payload of a sort along the columns, at one entry. -/
theorem sort_cols {α : Type} (cmp : α × BitVec 32 → α × BitVec 32 → BitVec 1) (x : S4x4096x128.Idx → α) (y : IVec S4x4096x128 32)
    (b : Fin 4) (i : Fin 4096) (t : Fin 128) (B : Fin 128 → Fin 128 → Bool)
    (hB : ∀ k k', (cmp (x (ix3 b i k), y (ix3 b i k)) (x (ix3 b i k'), y (ix3 b i k')) == 1#1) = B k k') :
    (Host.sort2 S4x4096x128 2 cmp x y).2 (ix3 b i t) = y (ix3 b i (sortedFrom B t)) := by
  refine (sort2_snd (s := S4x4096x128) (d := 2) lt23 cmp x y (ix3 b i t) B fun k k' => ?_).trans (congrArg y (along2 b i t (sortedFrom B t)))
  rw [along2 b i t k, along2 b i t k']; exact hB k k'

/-- The keys of a sort along the last axis of the transposed array, at one entry. -/
theorem sort_vals {α : Type} (cmp : α × BitVec 32 → α × BitVec 32 → BitVec 1) (x : S4x128x4096.Idx → α) (y : IVec S4x128x4096 32)
    (b : Fin 4) (j : Fin 128) (t : Fin 4096) (B : Fin 4096 → Fin 4096 → Bool)
    (hB : ∀ k k', (cmp (x (ix3 b j k), y (ix3 b j k)) (x (ix3 b j k'), y (ix3 b j k')) == 1#1) = B k k') :
    (Host.sort2 S4x128x4096 2 cmp x y).1 (ix3 b j t) = x (ix3 b j (sortedFrom B t)) := by
  refine (sort2_fst (s := S4x128x4096) (d := 2) lt23 cmp x y (ix3 b j t) B fun k k' => ?_).trans (congrArg x (along2' b j t (sortedFrom B t)))
  rw [along2' b j t k, along2' b j t k']; exact hB k k'

theorem cmpi_slt (x y : BitVec 32) : IntOp.cmpi .slt x y = BitVec.ofBool (decide (x.toInt < y.toInt)) := by
  rw [← slt_iff]; rfl
theorem cmpi_sgt (x y : BitVec 32) : IntOp.cmpi .sgt x y = BitVec.ofBool (decide (y.toInt < x.toInt)) := by
  rw [← slt_iff]; rfl
theorem cmpi_eq (x y : BitVec 32) : IntOp.cmpi .eq x y = BitVec.ofBool (x == y) := rfl

theorem iota_rows (b : Fin 4) (i : Fin 4096) (j : Fin 128) : val_main_call4_v1 (F := Ideal) (ix3 b i j) = BitVec.ofNat 32 i.val := rfl
theorem iota_rows' (b : Fin 4) (i : Fin 4096) (j : Fin 128) : val_main_call5_v1 (F := Ideal) (ix3 b i j) = BitVec.ofNat 32 i.val := rfl
theorem iota_cols (b : Fin 4) (i : Fin 4096) (j : Fin 128) : val_main_call7_v1 (F := Ideal) (ix3 b i j) = BitVec.ofNat 32 j.val := rfl
theorem iota_cols' (b : Fin 4) (i : Fin 4096) (j : Fin 128) : val_main_call11_v1 (F := Ideal) (ix3 b i j) = BitVec.ofNat 32 j.val := rfl

/-- The stable order of the rows of column `j` by cost. -/
abbrev byCost (I : Img) (j : Fin 128) : Fin 4096 → Fin 4096 → Bool := fun k k' => decide (I.cost k j < I.cost k' j)

theorem r_v336 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) (j : Fin 128) :
    val_main_v336 (F := Ideal) x0 x1 x3 x4 (ix3 b i j) = BitVec.ofNat 32 (sortedFrom (byCost (I b) j) i).val := by
  unfold val_main_v336
  rw [sort_rows _ _ _ b i j (byCost (I b) j) ?_]
  · exact iota_rows b _ j
  · intro k k'
    rw [cmp_d1, r_v275 x0 x1 x3 x4 I h0 h1 h3 h4 b k j, r_v275 x0 x1 x3 x4 I h0 h1 h3 h4 b k' j]

theorem r_v337 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) (j : Fin 128) :
    val_main_v337 (F := Ideal) x0 x1 x3 x4 (ix3 b i j) = BitVec.ofNat 32 (rk (fun k => (I b).cost k j) i) := by
  unfold val_main_v337
  rw [sort_rows _ _ _ b i j (fun k k' => decide (sortedFrom (byCost (I b) j) k < sortedFrom (byCost (I b) j) k')) ?_]
  · rw [iota_rows' b _ j]
    exact congrArg (BitVec.ofNat 32) (argsort_argsort (fun k => (I b).cost k j) _ _ (fun _ _ => rfl) (fun _ _ => rfl) i)
  · intro k k'
    have hk : ∀ t : Fin 4096, t.val < 2 ^ 31 := fun t => by have := t.isLt; omega
    rw [cmp_i1, r_v336 x0 x1 x3 x4 I h0 h1 h3 h4 b k j, r_v336 x0 x1 x3 x4 I h0 h1 h3 h4 b k' j]
    simp only [toInt_ofNat (hk _), Fin.lt_def, Nat.cast_lt]

theorem r_values (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (j : Fin 128) (t : Fin 10) :
    val_main_values (F := Ideal) x1 x4 (ix3 b j t) = (I b).iou (sortedFrom (fun k k' => decide ((I b).iou k' j < (I b).iou k j)) ⟨t.val, by omega⟩) j := by
  unfold val_main_values Host.topK
  have hs : ∀ (x : S4x128x4096.Idx → EReal), extractStridedSlice S4x128x10 (fun _ => 0) x sliceFits_S4x128x4096_S4x128x10 (ix3 b j t) = x (ix3 b j ⟨t.val, by omega⟩) := by
    intro x
    show x _ = x _
    congr 1
    funext a
    match a with
    | ⟨0, _⟩ => exact Fin.ext (Nat.zero_add _)
    | ⟨1, _⟩ => exact Fin.ext (Nat.zero_add _)
    | ⟨2, _⟩ => exact Fin.ext (Nat.zero_add _)
  dsimp only
  rw [hs, sort_vals _ _ _ b j _ (fun k k' => decide ((I b).iou k' j < (I b).iou k j)) ?_]
  · exact r_v332 x1 x4 I h1 h4 b j _
  · intro k k'
    rw [Ideal.cmpfTotal_def]
    simp only [Ideal.cmp, CmpDirection.ordered, r_v332 x1 x4 I h1 h4]
    cases decide ((I b).iou k' j < (I b).iou k j) <;> rfl

theorem r_v333 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (j : Fin 128) :
    val_main_v333 (F := Ideal) x1 x4 (ix2 b j) = topSum fun i => (I b).iou i j := by
  pointwise [val_main_v333, val_main_cst_39, id_eq]
  simp only [r_values x1 x4 I h1 h4]
  try rw [zero_add]
  exact topSum_sorted (fun i => (I b).iou i j) _ (fun _ _ => rfl) (by norm_num)

theorem r_v335 (x1 : (⟨S4x4096x4, .f32⟩ : BufTy).Contents (Elt Ideal)) (x4 : (⟨S4x128x4, .f32⟩ : BufTy).Contents (Elt Ideal)) (I : Fin 4 → Img) (h1 : ∀ b i k, x1 (ix3 b i k) = (I b).bx i k) (h4 : ∀ b j k, x4 (ix3 b j k) = (I b).gb j k)  (b : Fin 4) (j : Fin 128) :
    val_main_v335 (F := Ideal) x1 x4 (ix2 b j) = (I b).ks j := by
  pointwise [val_main_v335, val_main_call3_v2, val_main_v334, val_main_call3_v1, val_main_call3_v0, val_main_c_40, val_main_call3_v4, val_main_call3_v3, val_main_c_41, id_eq]
  simp only [r_v333 x1 x4 I h1 h4]
  rfl

theorem r_v340 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) (j : Fin 128) :
    val_main_v340 (F := Ideal) x0 x1 x3 x4 (ix3 b i j) = BitVec.ofBool ((I b).m0 i j) := by
  pointwise [val_main_v340, val_main_v339, val_main_v338, id_eq]
  simp only [r_v337 x0 x1 x3 x4 I h0 h1 h3 h4, r_v335 x1 x4 I h1 h4, cmpi_slt]
  rw [toInt_ofNat (by have := rk_lt_n (fun k => (I b).cost k j) i; omega)]
  rfl

theorem r_v342 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v342 (F := Ideal) x0 x1 x3 x4 (ix2 b i) = BitVec.ofNat 32 (Finset.univ.filter fun j => (I b).m0 i j = true).card := by
  unfold val_main_v342
  rw [Host.reduce_eq_fold]
  pointwise [val_main_c_42, val_main_v341, id_eq]
  simp only [r_v340 x0 x1 x3 x4 I h0 h1 h3 h4]
  exact fold_addi (ι := Fin 128) _

theorem r_v344 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v344 (F := Ideal) x0 x1 x3 x4 (ix2 b i) = BitVec.ofBool ((I b).multi i) := by
  pointwise [val_main_v344, val_main_v343, val_main_c_43, id_eq]
  simp only [r_v342 x0 x1 x3 x4 I h0 h1 h3 h4, cmpi_sgt]
  have hc : (Finset.univ.filter fun j => (I b).m0 i j = true).card ≤ 128 := (Finset.card_le_univ _).trans (by simp)
  unfold Img.multi
  generalize (Finset.univ.filter fun j => (I b).m0 i j = true).card = n at hc ⊢
  have e1 : (1#32).toInt = 1 := by decide
  rw [e1, toInt_ofNat (by omega)]
  refine congrArg BitVec.ofBool (decide_eq_decide.mpr ?_)
  omega

theorem r_v345 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) (j : Fin 128) :
    val_main_v345 (F := Ideal) x0 x1 x3 x4 (ix3 b i j) = if (I b).m0 i j = true then (I b).cost i j else ⊤ := by
  pointwise [val_main_v345, val_main_call6_v2, val_main_call6_v1, val_main_call6_v0, val_main_cst_44, id_eq]
  simp only [r_v340 x0 x1 x3 x4 I h0 h1 h3 h4, r_v275 x0 x1 x3 x4 I h0 h1 h3 h4, select_ofBool, cInf_eq]

theorem r_v346 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v346 (F := Ideal) x0 x1 x3 x4 (ix3 b i 0) = BitVec.ofNat 32 ((I b).best i).val := by
  unfold val_main_v346
  refine (sort_cols _ _ _ b i 0 (fun k k' => decide ((fun j => if (I b).m0 i j = true then (I b).cost i j else ⊤) k < (fun j => if (I b).m0 i j = true then (I b).cost i j else ⊤) k')) (fun k k' => ?_)).trans ?_
  · rw [cmp_d2, r_v345 x0 x1 x3 x4 I h0 h1 h3 h4 b i k, r_v345 x0 x1 x3 x4 I h0 h1 h3 h4 b i k']
  · refine (iota_cols b i _).trans ?_
    refine congrArg (fun t : Fin 128 => BitVec.ofNat 32 t.val) ?_
    apply rk_inj (c := (fun j => if (I b).m0 i j = true then (I b).cost i j else ⊤))
    rw [rk_sortedFrom (fun j => if (I b).m0 i j = true then (I b).cost i j else ⊤) _ (fun _ _ => rfl)]
    exact (rk_amin _).symm

theorem r_v348 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v348 (F := Ideal) x0 x1 x3 x4 (ix2 b i) = BitVec.ofNat 32 ((I b).best i).val := by
  pointwise [val_main_v348, val_main_v347, id_eq]
  exact r_v346 x0 x1 x3 x4 I h0 h1 h3 h4 b i

theorem eq_word {n : ℕ} (hn : n < 2 ^ 31) (a b : Fin n) : (BitVec.ofNat 32 a.val == BitVec.ofNat 32 b.val) = decide (a = b) := by
  rw [Bool.eq_iff_iff]
  simp only [beq_iff_eq, decide_eq_true_eq]
  constructor
  · intro h
    have := congrArg BitVec.toInt h
    rw [toInt_ofNat (by have := a.isLt; omega), toInt_ofNat (by have := b.isLt; omega)] at this
    exact Fin.ext (by exact_mod_cast this)
  · rintro rfl; rfl

theorem r_v350 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) (j : Fin 128) :
    val_main_v350 (F := Ideal) x0 x1 x3 x4 (ix3 b i j) = BitVec.ofBool (decide (j = (I b).best i)) := by
  pointwise [val_main_v350, val_main_call8_v4, val_main_call8_v2, val_main_call8_v1, val_main_call8_v3, val_main_call8_v0, id_eq]
  simp only [r_v348 x0 x1 x3 x4 I h0 h1 h3 h4, cmpi_eq, eq_word (show 128 < 2 ^ 31 by norm_num), eq_comm]

theorem r_v351 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) (j : Fin 128) :
    val_main_v351 (F := Ideal) x0 x1 x3 x4 (ix3 b i j) = BitVec.ofBool ((I b).m1 i j) := by
  pointwise [val_main_v351, val_main_call9_v0, val_main_v349, id_eq]
  simp only [r_v350 x0 x1 x3 x4 I h0 h1 h3 h4, r_v344 x0 x1 x3 x4 I h0 h1 h3 h4, r_v340 x0 x1 x3 x4 I h0 h1 h3 h4, select_ofBool]
  unfold Img.m1
  split_ifs <;> rfl

theorem r_v352 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v352 (F := Ideal) x0 x1 x3 x4 (ix2 b i) = BitVec.ofBool (decide (∃ j, (I b).m1 i j = true)) := by
  unfold val_main_v352
  rw [Host.reduce_eq_fold]
  pointwise [val_main_c_45, id_eq]
  simp only [r_v351 x0 x1 x3 x4 I h0 h1 h3 h4]
  exact fold_ori (ι := Fin 128) _

theorem r_v353 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v353 (F := Ideal) x0 x1 x3 x4 (ix2 b i) = BitVec.ofBool ((I b).fg i) := by
  pointwise [val_main_v353, id_eq]
  simp only [r_v352 x0 x1 x3 x4 I h0 h1 h3 h4, r_v118 x1 x4 I h1 h4, andi_ofBool]
  rfl

theorem r_v354 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) (j : Fin 128) :
    val_main_v354 (F := Ideal) x0 x1 x3 x4 (ix3 b i j) = if (I b).m1 i j = true then (I b).cost i j else ⊤ := by
  pointwise [val_main_v354, val_main_call10_v2, val_main_call10_v1, val_main_call10_v0, val_main_cst_46, id_eq]
  simp only [r_v351 x0 x1 x3 x4 I h0 h1 h3 h4, r_v275 x0 x1 x3 x4 I h0 h1 h3 h4, select_ofBool, cInf_eq]

theorem r_v355 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v355 (F := Ideal) x0 x1 x3 x4 (ix3 b i 0) = BitVec.ofNat 32 ((I b).mg i).val := by
  unfold val_main_v355
  refine (sort_cols _ _ _ b i 0 (fun k k' => decide ((fun j => if (I b).m1 i j = true then (I b).cost i j else ⊤) k < (fun j => if (I b).m1 i j = true then (I b).cost i j else ⊤) k')) (fun k k' => ?_)).trans ?_
  · rw [cmp_d2, r_v354 x0 x1 x3 x4 I h0 h1 h3 h4 b i k, r_v354 x0 x1 x3 x4 I h0 h1 h3 h4 b i k']
  · refine (iota_cols' b i _).trans ?_
    refine congrArg (fun t : Fin 128 => BitVec.ofNat 32 t.val) ?_
    apply rk_inj (c := (fun j => if (I b).m1 i j = true then (I b).cost i j else ⊤))
    rw [rk_sortedFrom (fun j => if (I b).m1 i j = true then (I b).cost i j else ⊤) _ (fun _ _ => rfl)]
    exact (rk_amin _).symm

theorem r_v357 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v357 (F := Ideal) x0 x1 x3 x4 (ix2 b i) = BitVec.ofNat 32 ((I b).mg i).val := by
  pointwise [val_main_v357, val_main_v356, id_eq]
  exact r_v355 x0 x1 x3 x4 I h0 h1 h3 h4 b i

theorem r_v358 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v358 (F := Ideal) x0 x1 x3 x4 (ix2 b i) = (I b).fgf i := by
  pointwise [val_main_v358, id_eq]
  simp only [r_v353 x0 x1 x3 x4 I h0 h1 h3 h4, uitofp_ofBool]
  rfl

end Cert.ReferenceIdeal.Read
-- ==== Proof.RefLoss.lean ====
/-
  The reference's losses, image by image, and its four results.
-/
module

public import proofs.«01_k».proof.Proof.RefMatch

@[expose] public section

noncomputable section

namespace Cert.ReferenceIdeal.Read

open Cert.ReferenceIdeal Cert.ReferenceIdeal.Gen Cert.Loss Idealize.ShloMosaic Idealize.ShloMosaic.TcCoe Idealize.SL.Sem Idealize.ShloMosaic.StableHlo

theorem r_v359 (x3 : (⟨S4x128, .i32⟩ : BufTy).Contents (Elt Ideal)) (I : Fin 4 → Img) (h3 : ∀ b j, x3 (ix2 b j) = BitVec.ofNat 32 ((I b).gc j).val)  (b : Fin 4) (j : Fin 128) (c : Fin 80) :
    val_main_v359 (F := Ideal) x3 (ix3 b j c) = if (I b).gc j = c then 1 else 0 := by
  pointwise [val_main_v359, val_main_call12_v5, val_main_call12_v4, val_main_call12_v2, val_main_call12_v1, val_main_call12_v3, val_main_call12_v0, id_eq]
  simp only [h3, cmpi_eq, uitofp_ofBool, eq_word (show 80 < 2 ^ 31 by norm_num)]
  simp only [decide_eq_true_eq]

theorem r_v366 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) (c : Fin 80) :
    val_main_v366 (F := Ideal) x0 x1 x3 x4 (ix3 b i c) = if (I b).gc ((I b).mg i) = c then 1 else 0 := by
  have hi : val_main_v365 (F := Ideal) x0 x1 x3 x4 (ix3 b i 0) = BitVec.ofNat 32 ((I b).mg i).val := by
    pointwise [val_main_v365, val_main_v364, val_main_v363, val_main_v362, val_main_v361, val_main_v360, val_main_c_47, val_main_c_48, id_eq]
    simp only [r_v357 x0 x1 x3 x4 I h0 h1 h3 h4]
    exact wrap_word _ (by have := ((I b).mg i).isLt; omega) _
  unfold val_main_v366
  rw [gather_rows80 _ _ b i c _ hi]
  exact r_v359 x3 I h3 b _ c

theorem r_v369 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) (c : Fin 80) :
    val_main_v369 (F := Ideal) x0 x1 x3 x4 (ix3 b i c) = (I b).lab i c := by
  pointwise [val_main_v369, val_main_v368, val_main_v367, id_eq]
  simp only [r_v366 x0 x1 x3 x4 I h0 h1 h3 h4, r_v358 x0 x1 x3 x4 I h0 h1 h3 h4]
  rfl

/-- A label is 0 or 1. -/
theorem lab_isR (J : Img) (i : Fin 4096) (c : Fin 80) : IsR (J.lab i c) := by
  unfold Img.lab Img.fgf
  refine IsR.mul ?_ ?_ <;> split_ifs <;> first | exact IsR.one | exact IsR.zero

theorem r_v404 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) (c : Fin 80) :
    val_main_v404 (F := Ideal) x0 x1 x3 x4 (ix3 b i c) = Img.focal ((I b).lg i c) ((I b).lab i c) := by
  pointwise [val_main_v404, val_main_v403, val_main_v402, val_main_cst_58, val_main_v401, val_main_v391, val_main_v390, val_main_v389, val_main_v388, val_main_cst_53, val_main_v387, val_main_v375, val_main_v373, val_main_v371, val_main_v370, val_main_v372, val_main_cst_49, val_main_v374, val_main_cst_50, val_main_v386, val_main_cst_52, val_main_v385, val_main_v400, val_main_cst_57, val_main_v399, val_main_v384, val_main_v383, val_main_v382, val_main_v381, val_main_v380, val_main_v379, val_main_v378, val_main_v377, val_main_v376, val_main_cst_51, val_main_v398, val_main_v397, val_main_v395, val_main_v394, val_main_cst_55, val_main_v396, val_main_cst_56, val_main_v393, val_main_v392, val_main_cst_54, id_eq]
  simp only [r_v369 x0 x1 x3 x4 I h0 h1 h3 h4, h0]
  unfold Img.focal
  have hl := lab_isR (I b) i c
  have hp := prob_isR ((I b).lg i c)
  rw [← pow_two_eq (IsR.one.sub ((hp.mul hl).add ((IsR.one.sub hp).mul (IsR.one.sub hl))))]
  rfl

/-- A sum over the entries whose first coordinate is kept. -/
theorem sum_rows (v : S4x4096x80.Idx → EReal) (b : Fin 4) :
    Ideal.hostReduceAdd reducesTo_S4x4096x80_S4_d1_2 v 0 (ix1 b) = ∑ i : Fin 4096, ∑ c : Fin 80, v (ix3 b i c) := by
  show 0 + (∑ i ∈ Finset.univ.filter (fun i => Shape.ReducesTo.drop reducesTo_S4x4096x80_S4_d1_2 i = ix1 b), v i) = _
  rw [zero_add, Finset.sum_filter, sum_idx3]
  have hd : ∀ (a : Fin 4) (i : Fin 4096) (c : Fin 80), Shape.ReducesTo.drop reducesTo_S4x4096x80_S4_d1_2 (ix3 a i c) = ix1 a := by
    intro a i c
    funext k
    match k with
    | ⟨0, _⟩ => rfl
  simp only [hd]
  have he : ∀ a : Fin 4, ((ix1 a : S4.Idx) = ix1 b) = (a = b) := by
    intro a
    apply propext
    constructor
    · intro h; exact congrFun h 0
    · rintro rfl; rfl
  simp only [he]
  rw [Finset.sum_eq_single b]
  · simp
  · intro a _ h; simp [h]
  · intro h; exact absurd (Finset.mem_univ _) h

theorem r_v405 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) :
    val_main_v405 (F := Ideal) x0 x1 x3 x4 (ix1 b) = (I b).clsLoss := by
  unfold val_main_v405
  refine (ValueIdx.hostReduceAdd_apply _ _ _ _ _).trans ?_
  have h0' : val_main_cst_59 (F := Ideal) (Shape.Idx.first h_S_) = 0 := Ideal.ofBits_zero .f32
  rw [h0', sum_rows]
  simp only [r_v404 x0 x1 x3 x4 I h0 h1 h3 h4]
  rfl

theorem r_v407 (x1 : (⟨S4x4096x4, .f32⟩ : BufTy).Contents (Elt Ideal)) (I : Fin 4 → Img) (h1 : ∀ b i k, x1 (ix3 b i k) = (I b).bx i k)  (b : Fin 4) (i : Fin 4096) (k : Fin 4) :
    val_main_v407 (F := Ideal) x1 (ix3 b i k) = (I b).nb i k := by
  pointwise [val_main_v407, val_main_v406, val_main_cst_60, id_eq]
  simp only [h1]
  rfl

theorem r_v414 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) (k : Fin 4) :
    val_main_v414 (F := Ideal) x0 x1 x3 x4 (ix3 b i k) = (I b).gb ((I b).mg i) k := by
  have hi : val_main_v413 (F := Ideal) x0 x1 x3 x4 (ix3 b i 0) = BitVec.ofNat 32 ((I b).mg i).val := by
    pointwise [val_main_v413, val_main_v412, val_main_v411, val_main_v410, val_main_v409, val_main_v408, val_main_c_61, val_main_c_62, id_eq]
    simp only [r_v357 x0 x1 x3 x4 I h0 h1 h3 h4]
    exact wrap_word _ (by have := ((I b).mg i).isLt; omega) _
  unfold val_main_v414
  rw [gather_rows4 _ _ b i k _ hi]
  exact h4 b _ k

theorem r_v416 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) (k : Fin 4) :
    val_main_v416 (F := Ideal) x0 x1 x3 x4 (ix3 b i k) = (I b).ngb ((I b).mg i) k := by
  pointwise [val_main_v416, val_main_v415, val_main_cst_63, id_eq]
  simp only [r_v414 x0 x1 x3 x4 I h0 h1 h3 h4]
  rfl

theorem r_v420 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v420 (F := Ideal) x0 x1 x3 x4 (ix2 b i) = l1Of ((I b).nb i) ((I b).ngb ((I b).mg i)) * (I b).fgf i := by
  pointwise [val_main_v420, val_main_v419, val_main_cst_64, val_main_v418, val_main_v417, id_eq]
  simp only [r_v407 x1 I h1, r_v416 x0 x1 x3 x4 I h0 h1 h3 h4, r_v358 x0 x1 x3 x4 I h0 h1 h3 h4, Fin.sum_univ_four]
  try rw [zero_add]
  rfl

theorem r_v421 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) :
    val_main_v421 (F := Ideal) x0 x1 x3 x4 (ix1 b) = (I b).l1Loss := by
  pointwise [val_main_v421, val_main_cst_65, id_eq]
  simp only [r_v420 x0 x1 x3 x4 I h0 h1 h3 h4]
  try rw [zero_add]
  rfl

theorem r_v456 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v456 (F := Ideal) x0 x1 x3 x4 (ix2 b i) = interOf ((I b).nb i) ((I b).ngb ((I b).mg i)) := by
  pointwise [val_main_v456, val_main_v455, val_main_v454, val_main_v451, val_main_v450, val_main_v446, val_main_v445, val_main_v444, val_main_v449, val_main_v448, val_main_v447, val_main_call13_v1, val_main_call13_v0, val_main_cst_66, val_main_v453, val_main_v452, id_eq]
  simp only [r_v407 x1 I h1, r_v416 x0 x1 x3 x4 I h0 h1 h3 h4]
  rfl

theorem r_v458 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v458 (F := Ideal) x0 x1 x3 x4 (ix2 b i) = unionOf ((I b).nb i) ((I b).ngb ((I b).mg i)) := by
  pointwise [val_main_v458, val_main_v457, val_main_v443, val_main_v442, val_main_v441, val_main_v440, val_main_v439, val_main_v438, val_main_v437, val_main_v436, val_main_v435, val_main_v434, val_main_v433, val_main_v432, val_main_v431, val_main_v430, val_main_v429, val_main_v428, val_main_v427, val_main_v426, val_main_v425, val_main_v424, val_main_v423, val_main_v422, id_eq]
  simp only [r_v407 x1 I h1, r_v416 x0 x1 x3 x4 I h0 h1 h3 h4, r_v456 x0 x1 x3 x4 I h0 h1 h3 h4]
  rfl

theorem r_v474 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v474 (F := Ideal) x0 x1 x3 x4 (ix2 b i) = hullOf ((I b).nb i) ((I b).ngb ((I b).mg i)) := by
  pointwise [val_main_v474, val_main_v473, val_main_v472, val_main_v469, val_main_v468, val_main_v464, val_main_v463, val_main_v462, val_main_v467, val_main_v466, val_main_v465, val_main_call14_v1, val_main_call14_v0, val_main_cst_68, val_main_v471, val_main_v470, id_eq]
  simp only [r_v407 x1 I h1, r_v416 x0 x1 x3 x4 I h0 h1 h3 h4]
  rfl

theorem r_v479 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) (i : Fin 4096) :
    val_main_v479 (F := Ideal) x0 x1 x3 x4 (ix2 b i) = giouOf ((I b).nb i) ((I b).ngb ((I b).mg i)) := by
  pointwise [val_main_v479, val_main_v478, val_main_v477, val_main_v476, val_main_cst_69, val_main_v475, val_main_v461, val_main_v460, val_main_v459, val_main_cst_67, id_eq]
  simp only [r_v456 x0 x1 x3 x4 I h0 h1 h3 h4, r_v458 x0 x1 x3 x4 I h0 h1 h3 h4, r_v474 x0 x1 x3 x4 I h0 h1 h3 h4]
  rfl

theorem r_v483 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) :
    val_main_v483 (F := Ideal) x0 x1 x3 x4 (ix1 b) = (I b).giouLoss := by
  pointwise [val_main_v483, val_main_cst_71, val_main_v482, val_main_v481, val_main_v480, val_main_cst_70, id_eq]
  simp only [r_v479 x0 x1 x3 x4 I h0 h1 h3 h4, r_v358 x0 x1 x3 x4 I h0 h1 h3 h4]
  try rw [zero_add]
  rfl

theorem r_v489 (x2 : (⟨S4x4096x784, .f32⟩ : BufTy).Contents (Elt Ideal)) (I : Fin 4 → Img) (h2 : ∀ b i p, x2 (ix3 b i p) = (I b).pm i p)  (b : Fin 4) (i : Fin 4096) (p : Fin 784) :
    val_main_v489 (F := Ideal) x2 (ix3 b i p) = prob ((I b).pm i p) := by
  pointwise [val_main_v489, val_main_v487, val_main_v485, val_main_v484, val_main_v486, val_main_cst_72, val_main_v488, val_main_cst_73, id_eq]
  simp only [h2]
  rfl

theorem r_v496 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (x5 : (⟨S4x128x784, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k) (h5 : ∀ b j p, x5 (ix3 b j p) = (I b).gm j p)  (b : Fin 4) (i : Fin 4096) (p : Fin 784) :
    val_main_v496 (F := Ideal) x0 x1 x3 x4 x5 (ix3 b i p) = (I b).gm ((I b).mg i) p := by
  have hi : val_main_v495 (F := Ideal) x0 x1 x3 x4 (ix3 b i 0) = BitVec.ofNat 32 ((I b).mg i).val := by
    pointwise [val_main_v495, val_main_v494, val_main_v493, val_main_v492, val_main_v491, val_main_v490, val_main_c_74, val_main_c_75, id_eq]
    simp only [r_v357 x0 x1 x3 x4 I h0 h1 h3 h4]
    exact wrap_word _ (by have := ((I b).mg i).isLt; omega) _
  unfold val_main_v496
  rw [gather_rows784 _ _ b i p _ hi]
  exact h5 b _ p

theorem r_v498 (x0 : (⟨S4x4096x80, .f32⟩ : BufTy).Contents (Elt Ideal)) (x1 : (⟨S4x4096x4, .f32⟩ : BufTy).Contents (Elt Ideal)) (x2 : (⟨S4x4096x784, .f32⟩ : BufTy).Contents (Elt Ideal)) (x3 : (⟨S4x128, .i32⟩ : BufTy).Contents (Elt Ideal)) (x4 : (⟨S4x128x4, .f32⟩ : BufTy).Contents (Elt Ideal)) (x5 : (⟨S4x128x784, .f32⟩ : BufTy).Contents (Elt Ideal)) (I : Fin 4 → Img) (h0 : ∀ b i c, x0 (ix3 b i c) = (I b).lg i c) (h1 : ∀ b i k, x1 (ix3 b i k) = (I b).bx i k) (h2 : ∀ b i p, x2 (ix3 b i p) = (I b).pm i p) (h3 : ∀ b j, x3 (ix2 b j) = BitVec.ofNat 32 ((I b).gc j).val) (h4 : ∀ b j k, x4 (ix3 b j k) = (I b).gb j k) (h5 : ∀ b j p, x5 (ix3 b j p) = (I b).gm j p)  (b : Fin 4) (i : Fin 4096) :
    val_main_v498 (F := Ideal) x0 x1 x2 x3 x4 x5 (ix2 b i) = (I b).mInter i := by
  pointwise [val_main_v498, val_main_cst_76, val_main_v497, id_eq]
  simp only [r_v489 x2 I h2, r_v496 x0 x1 x3 x4 x5 I h0 h1 h3 h4 h5]
  try rw [zero_add]
  rfl

theorem r_v503 (x0 : (⟨S4x4096x80, .f32⟩ : BufTy).Contents (Elt Ideal)) (x1 : (⟨S4x4096x4, .f32⟩ : BufTy).Contents (Elt Ideal)) (x2 : (⟨S4x4096x784, .f32⟩ : BufTy).Contents (Elt Ideal)) (x3 : (⟨S4x128, .i32⟩ : BufTy).Contents (Elt Ideal)) (x4 : (⟨S4x128x4, .f32⟩ : BufTy).Contents (Elt Ideal)) (x5 : (⟨S4x128x784, .f32⟩ : BufTy).Contents (Elt Ideal)) (I : Fin 4 → Img) (h0 : ∀ b i c, x0 (ix3 b i c) = (I b).lg i c) (h1 : ∀ b i k, x1 (ix3 b i k) = (I b).bx i k) (h2 : ∀ b i p, x2 (ix3 b i p) = (I b).pm i p) (h3 : ∀ b j, x3 (ix2 b j) = BitVec.ofNat 32 ((I b).gc j).val) (h4 : ∀ b j k, x4 (ix3 b j k) = (I b).gb j k) (h5 : ∀ b j p, x5 (ix3 b j p) = (I b).gm j p)  (b : Fin 4) (i : Fin 4096) :
    val_main_v503 (F := Ideal) x0 x1 x2 x3 x4 x5 (ix2 b i) = (I b).mUnion i := by
  pointwise [val_main_v503, val_main_v502, val_main_cst_79, val_main_v501, val_main_v500, val_main_cst_78, val_main_v499, val_main_cst_77, id_eq]
  simp only [r_v489 x2 I h2, r_v496 x0 x1 x3 x4 x5 I h0 h1 h3 h4 h5]
  try simp only [zero_add]
  rfl

theorem r_v510 (x0 : (⟨S4x4096x80, .f32⟩ : BufTy).Contents (Elt Ideal)) (x1 : (⟨S4x4096x4, .f32⟩ : BufTy).Contents (Elt Ideal)) (x2 : (⟨S4x4096x784, .f32⟩ : BufTy).Contents (Elt Ideal)) (x3 : (⟨S4x128, .i32⟩ : BufTy).Contents (Elt Ideal)) (x4 : (⟨S4x128x4, .f32⟩ : BufTy).Contents (Elt Ideal)) (x5 : (⟨S4x128x784, .f32⟩ : BufTy).Contents (Elt Ideal)) (I : Fin 4 → Img) (h0 : ∀ b i c, x0 (ix3 b i c) = (I b).lg i c) (h1 : ∀ b i k, x1 (ix3 b i k) = (I b).bx i k) (h2 : ∀ b i p, x2 (ix3 b i p) = (I b).pm i p) (h3 : ∀ b j, x3 (ix2 b j) = BitVec.ofNat 32 ((I b).gc j).val) (h4 : ∀ b j k, x4 (ix3 b j k) = (I b).gb j k) (h5 : ∀ b j p, x5 (ix3 b j p) = (I b).gm j p)  (b : Fin 4) :
    val_main_v510 (F := Ideal) x0 x1 x2 x3 x4 x5 (ix1 b) = ∑ i, (1 - Ideal.div (cTwo * (I b).mInter i) ((I b).mUnion i)) * (I b).fgf i := by
  pointwise [val_main_v510, val_main_cst_82, val_main_v509, val_main_v508, val_main_v506, val_main_v505, val_main_v504, val_main_cst_80, val_main_v507, val_main_cst_81, id_eq]
  simp only [r_v498 x0 x1 x2 x3 x4 x5 I h0 h1 h2 h3 h4 h5, r_v503 x0 x1 x2 x3 x4 x5 I h0 h1 h2 h3 h4 h5, r_v358 x0 x1 x3 x4 I h0 h1 h3 h4]
  try rw [zero_add]

theorem r_v512 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)  (b : Fin 4) :
    val_main_v512 (F := Ideal) x0 x1 x3 x4 (ix1 b) = BitVec.ofNat 32 (Finset.univ.filter fun i => (I b).fg i = true).card := by
  unfold val_main_v512
  rw [Host.reduce_eq_fold]
  pointwise [val_main_c_83, val_main_v511, id_eq]
  simp only [r_v353 x0 x1 x3 x4 I h0 h1 h3 h4]
  exact fold_addi (ι := Fin 4096) _

/-- A fold of words by addition is the word of the sum. -/
theorem fold_addi_nat {ι : Type} [Fintype ι] (n : ι → ℕ) :
    (Finset.univ : Finset ι).fold IntOp.addi (0#32) (fun k => BitVec.ofNat 32 (n k)) = BitVec.ofNat 32 (∑ k, n k) := by
  classical
  have h : ∀ S : Finset ι, S.fold IntOp.addi (0#32) (fun k => BitVec.ofNat 32 (n k)) = BitVec.ofNat 32 (∑ k ∈ S, n k) := by
    intro S
    induction S using Finset.induction_on with
    | empty => simp
    | insert a S ha ih =>
      rw [Finset.fold_insert ha, ih, Finset.sum_insert ha]
      show BitVec.ofNat 32 _ + BitVec.ofNat 32 _ = _
      rw [BitVec.ofNat_add]
  exact h _

/-- The count of the kept rows of an image. -/
theorem nfg_card (J : Img) : J.nfg = (((Finset.univ.filter fun i => J.fg i = true).card : ℝ) : EReal) := by
  have h : ∀ S : Finset (Fin 4096), ∑ i ∈ S, J.fgf i = (((S.filter fun i => J.fg i = true).card : ℝ) : EReal) := by
    intro S
    induction S using Finset.induction_on with
    | empty => simp
    | insert a S ha ih =>
      rw [Finset.sum_insert ha, ih, Finset.filter_insert]
      unfold Img.fgf
      split_ifs with hf
      · rw [Finset.card_insert_of_notMem (by simp [ha])]
        push_cast
        rw [add_comm]
      · rw [zero_add]
  exact h _

theorem r_v514 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)   :
    val_main_v514 (F := Ideal) x0 x1 x3 x4 (ix0) = ∑ b, (I b).nfg := by
  have hc : ∀ b, (Finset.univ.filter fun i => (I b).fg i = true).card ≤ 4096 := fun b => (Finset.card_le_univ _).trans (by simp)
  have e : val_main_v513 (F := Ideal) x0 x1 x3 x4 ix0 = BitVec.ofNat 32 (∑ b, (Finset.univ.filter fun i => (I b).fg i = true).card) := by
    unfold val_main_v513
    rw [Host.reduce_eq_fold]
    pointwise [val_main_c_84, id_eq]
    simp only [r_v512 x0 x1 x3 x4 I h0 h1 h3 h4]
    exact fold_addi_nat (ι := Fin 4) _
  show ((((val_main_v513 (F := Ideal) x0 x1 x3 x4 ix0).toInt : ℝ)) : EReal) = _
  rw [e, toInt_ofNat (by have := hc 0; have := hc 1; have := hc 2; have := hc 3; rw [Fin.sum_univ_four]; omega)]
  simp only [nfg_card, Fin.sum_univ_four]
  push_cast
  rfl

/-- The four results from the batch's sums: classes, corners, overlaps, masks. -/
def four (cl l1 gi mk nf : EReal) : Fin 4 → EReal
  | 0 => Ideal.div (cTwo * cl) (max nf 1)
  | 1 => Ideal.div (cFive * l1) (max nf 1)
  | 2 => Ideal.div (cTwo * gi) (max nf 1)
  | 3 => Ideal.div (cFive * mk) (max nf 1)

theorem r_v515 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)   :
    val_main_v515 (F := Ideal) x0 x1 x3 x4 (ix0) = max (∑ b, (I b).nfg) 1 := by
  pointwise [val_main_v515, val_main_cst_85, id_eq]
  simp only [r_v514 x0 x1 x3 x4 I h0 h1 h3 h4]

theorem r_v518 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)   :
    val_main_v518 (F := Ideal) x0 x1 x3 x4 (ix0) = Ideal.div (cTwo * ∑ b, (I b).clsLoss) (max (∑ b, (I b).nfg) 1) := by
  pointwise [val_main_v518, val_main_v517, val_main_v516, val_main_cst_86, val_main_cst_87, id_eq]
  simp only [r_v405 x0 x1 x3 x4 I h0 h1 h3 h4, r_v515 x0 x1 x3 x4 I h0 h1 h3 h4]
  try simp only [zero_add]

theorem r_v521 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)   :
    val_main_v521 (F := Ideal) x0 x1 x3 x4 (ix0) = Ideal.div (cFive * ∑ b, (I b).l1Loss) (max (∑ b, (I b).nfg) 1) := by
  pointwise [val_main_v521, val_main_v520, val_main_v519, val_main_cst_88, val_main_cst_89, id_eq]
  simp only [r_v421 x0 x1 x3 x4 I h0 h1 h3 h4, r_v515 x0 x1 x3 x4 I h0 h1 h3 h4]
  try simp only [zero_add]

theorem r_v524 (x0 : (⟨S4x4096x80, .f32⟩ : BufTy).Contents (Elt Ideal)) (x1 : (⟨S4x4096x4, .f32⟩ : BufTy).Contents (Elt Ideal)) (x3 : (⟨S4x128, .i32⟩ : BufTy).Contents (Elt Ideal)) (x4 : (⟨S4x128x4, .f32⟩ : BufTy).Contents (Elt Ideal)) (I : Fin 4 → Img) (h0 : ∀ b i c, x0 (ix3 b i c) = (I b).lg i c) (h1 : ∀ b i k, x1 (ix3 b i k) = (I b).bx i k) (h3 : ∀ b j, x3 (ix2 b j) = BitVec.ofNat 32 ((I b).gc j).val) (h4 : ∀ b j k, x4 (ix3 b j k) = (I b).gb j k)   :
    val_main_v524 (F := Ideal) x0 x1 x3 x4 (ix0) = Ideal.div (cTwo * ∑ b, (I b).giouLoss) (max (∑ b, (I b).nfg) 1) := by
  pointwise [val_main_v524, val_main_v523, val_main_v522, val_main_cst_90, val_main_cst_91, id_eq]
  simp only [r_v483 x0 x1 x3 x4 I h0 h1 h3 h4, r_v515 x0 x1 x3 x4 I h0 h1 h3 h4]
  try simp only [zero_add]

theorem r_v527 (x0 : (⟨S4x4096x80, .f32⟩ : BufTy).Contents (Elt Ideal)) (x1 : (⟨S4x4096x4, .f32⟩ : BufTy).Contents (Elt Ideal)) (x2 : (⟨S4x4096x784, .f32⟩ : BufTy).Contents (Elt Ideal)) (x3 : (⟨S4x128, .i32⟩ : BufTy).Contents (Elt Ideal)) (x4 : (⟨S4x128x4, .f32⟩ : BufTy).Contents (Elt Ideal)) (x5 : (⟨S4x128x784, .f32⟩ : BufTy).Contents (Elt Ideal)) (I : Fin 4 → Img) (h0 : ∀ b i c, x0 (ix3 b i c) = (I b).lg i c) (h1 : ∀ b i k, x1 (ix3 b i k) = (I b).bx i k) (h2 : ∀ b i p, x2 (ix3 b i p) = (I b).pm i p) (h3 : ∀ b j, x3 (ix2 b j) = BitVec.ofNat 32 ((I b).gc j).val) (h4 : ∀ b j k, x4 (ix3 b j k) = (I b).gb j k) (h5 : ∀ b j p, x5 (ix3 b j p) = (I b).gm j p)   :
    val_main_v527 (F := Ideal) x0 x1 x2 x3 x4 x5 (ix0) = Ideal.div (cFive * ∑ b, ∑ i, (1 - Ideal.div (cTwo * (I b).mInter i) ((I b).mUnion i)) * (I b).fgf i) (max (∑ b, (I b).nfg) 1) := by
  pointwise [val_main_v527, val_main_v526, val_main_v525, val_main_cst_92, val_main_cst_93, id_eq]
  simp only [r_v510 x0 x1 x2 x3 x4 x5 I h0 h1 h2 h3 h4 h5, r_v515 x0 x1 x3 x4 I h0 h1 h3 h4]
  try simp only [zero_add]

theorem r_v532 (x0 : (⟨S4x4096x80, .f32⟩ : BufTy).Contents (Elt Ideal)) (x1 : (⟨S4x4096x4, .f32⟩ : BufTy).Contents (Elt Ideal)) (x2 : (⟨S4x4096x784, .f32⟩ : BufTy).Contents (Elt Ideal)) (x3 : (⟨S4x128, .i32⟩ : BufTy).Contents (Elt Ideal)) (x4 : (⟨S4x128x4, .f32⟩ : BufTy).Contents (Elt Ideal)) (x5 : (⟨S4x128x784, .f32⟩ : BufTy).Contents (Elt Ideal)) (I : Fin 4 → Img) (h0 : ∀ b i c, x0 (ix3 b i c) = (I b).lg i c) (h1 : ∀ b i k, x1 (ix3 b i k) = (I b).bx i k) (h2 : ∀ b i p, x2 (ix3 b i p) = (I b).pm i p) (h3 : ∀ b j, x3 (ix2 b j) = BitVec.ofNat 32 ((I b).gc j).val) (h4 : ∀ b j k, x4 (ix3 b j k) = (I b).gb j k) (h5 : ∀ b j p, x5 (ix3 b j p) = (I b).gm j p)  (b : Fin 4) :
    val_main_v532 (F := Ideal) x0 x1 x2 x3 x4 x5 (ix1 b) = four (∑ b, (I b).clsLoss) (∑ b, (I b).l1Loss) (∑ b, (I b).giouLoss) (∑ b, ∑ i, (1 - Ideal.div (cTwo * (I b).mInter i) ((I b).mUnion i)) * (I b).fgf i) (∑ b, (I b).nfg) b := by
  unfold val_main_v532
  match b with
  | 0 => exact r_v518 x0 x1 x3 x4 I h0 h1 h3 h4
  | 1 => exact r_v521 x0 x1 x3 x4 I h0 h1 h3 h4
  | 2 => exact r_v524 x0 x1 x3 x4 I h0 h1 h3 h4
  | 3 => exact r_v527 x0 x1 x2 x3 x4 x5 I h0 h1 h2 h3 h4 h5

end Cert.ReferenceIdeal.Read
-- ==== Proof.Main.lean ====
/-
  The two programs agree: the closing algebra over the batch's sums.
-/
module

public import proofs.«01_k».proof.Proof.KerRun
public import proofs.«01_k».proof.Proof.RefLoss

@[expose] public section

noncomputable section

namespace Cert.Loss

open Idealize.ShloMosaic Cert.KernelIdeal.Gen Cert.ReferenceIdeal.Read

/-- One prediction's dice ratio, and the mask loss it carries, as real numbers. -/
theorem mask_pred (I : Img) (hI : I.Good) (i : Fin 4096) :
    ∃ s f : ℝ, (if I.fg i = true then Ideal.div (I.mInter i) (I.mUnion i) else 0) = (s : EReal) ∧ I.fgf i = (f : EReal) ∧
      (1 - Ideal.div (cTwo * I.mInter i) (I.mUnion i)) * I.fgf i = ((f - 2 * s : ℝ) : EReal) := by
  have hp0 : 0 ≤ ∑ x, prob (I.pm i x) := Finset.sum_nonneg fun x _ => by
    obtain ⟨r, h, _, e⟩ := prob_real (I.pm i x)
    rw [e]; exact_mod_cast h
  have hq0 : 0 ≤ ∑ x, I.gm (I.mg i) x := Finset.sum_nonneg fun x _ => hI.gm _ x
  have h0 : 0 < I.mUnion i := add_eps_pos (add_nonneg hp0 hq0)
  by_cases ht : I.mUnion i = ⊤
  · have hz : ∀ x, Ideal.div x (I.mUnion i) = 0 := fun x => by
      unfold Ideal.div
      rw [if_neg h0.ne', ht, EReal.inv_top, mul_zero]
    by_cases hf : I.fg i = true
    · refine ⟨0, 1, by rw [if_pos hf, hz, EReal.coe_zero], by rw [fgf_one I i hf, EReal.coe_one], ?_⟩
      rw [hz, fgf_one I i hf, mul_one, mul_zero, EReal.coe_sub, EReal.coe_one, EReal.coe_zero]
    · refine ⟨0, 0, by rw [if_neg hf, EReal.coe_zero], by rw [fgf_zero I i (by simpa using hf), EReal.coe_zero], ?_⟩
      rw [fgf_zero I i (by simpa using hf), mul_zero, mul_zero, sub_zero, EReal.coe_zero]
  have hu : IsR (I.mUnion i) := IsR.of_ne (lt_of_lt_of_le EReal.bot_lt_zero h0.le).ne' ht
  have hn : IsR (I.mInter i) := by
    refine IsR.sum _ _ fun x _ => (prob_isR _).mul (IsR.of_ne (lt_of_lt_of_le EReal.bot_lt_zero (hI.gm _ x)).ne' fun e => ht ?_)
    have hx : (⊤ : EReal) ≤ ∑ x, I.gm (I.mg i) x := e ▸ Finset.single_le_sum (f := fun x => I.gm (I.mg i) x) (fun x _ => hI.gm _ x) (Finset.mem_univ x)
    unfold Img.mUnion
    obtain ⟨p, ep⟩ : IsR (∑ x, prob (I.pm i x)) := IsR.sum _ _ fun x _ => prob_isR _
    obtain ⟨ε, eε⟩ := cEps_isR
    rw [top_le_iff.mp hx, ep, eε, EReal.coe_add_top, EReal.top_add_coe]
  obtain ⟨n, en⟩ := hn
  obtain ⟨u, eu⟩ := hu
  have hu0 : u ≠ 0 := by rw [eu] at h0; exact (by exact_mod_cast h0 : (0 : ℝ) < u).ne'
  rw [en, eu, cTwo_eq, ← EReal.coe_mul, div_coe hu0, div_coe hu0]
  by_cases hf : I.fg i = true
  · refine ⟨n / u, 1, by rw [if_pos hf], by rw [fgf_one I i hf]; norm_num, ?_⟩
    rw [fgf_one I i hf, mul_one, mul_div_assoc, EReal.coe_sub, EReal.coe_one]
  · refine ⟨0, 0, by rw [if_neg hf]; norm_num, by rw [fgf_zero I i (by simpa using hf)]; norm_num, ?_⟩
    rw [fgf_zero I i (by simpa using hf), mul_zero]
    norm_num

/-- A finite sum of reals is the real sum. -/
theorem sum_real {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The batch's mask loss: the matches counted, less twice the dice ratios. -/
theorem mask_batch (I : Fin 4 → Img) (hI : ∀ b, (I b).Good) :
    ∑ b, ∑ i, (1 - Ideal.div (cTwo * (I b).mInter i) ((I b).mUnion i)) * (I b).fgf i = (∑ b, (I b).nfg) - cTwo * ∑ b, (I b).maskSum := by
  choose s f hs hf h using fun b i => mask_pred (I b) (hI b) i
  simp only [h]
  simp only [Img.nfg, Img.maskSum, hs, hf, sum_real, cTwo_eq]
  rw [← EReal.coe_mul, ← EReal.coe_sub]
  congr 1
  simp only [Finset.sum_sub_distrib, Finset.mul_sum]

/-- The kernel's four results from the lane sums are the reference's four from the images. -/
theorem tail_eq_four (I : Fin 4 → Img) (hI : ∀ b, (I b).Good) (n : Fin 4) :
    tail (fun l => ∑ b, (lanes (I b) l.val + if l.val = 3 then (I b).maskSum else 0)) n
      = four (∑ b, (I b).clsLoss) (∑ b, (I b).l1Loss) (∑ b, (I b).giouLoss) (∑ b, ∑ i, (1 - Ideal.div (cTwo * (I b).mInter i) ((I b).mUnion i)) * (I b).fgf i) (∑ b, (I b).nfg) n := by
  rw [mask_batch I hI]
  have e0 : ∀ b, (lanes (I b) ((0 : Fin 128)).val + if ((0 : Fin 128)).val = 3 then (I b).maskSum else 0) = (I b).clsLoss := fun b => add_zero _
  have e1 : ∀ b, (lanes (I b) ((1 : Fin 128)).val + if ((1 : Fin 128)).val = 3 then (I b).maskSum else 0) = (I b).l1Loss := fun b => add_zero _
  have e2 : ∀ b, (lanes (I b) ((2 : Fin 128)).val + if ((2 : Fin 128)).val = 3 then (I b).maskSum else 0) = (I b).giouLoss := fun b => add_zero _
  have e3 : ∀ b, (lanes (I b) ((3 : Fin 128)).val + if ((3 : Fin 128)).val = 3 then (I b).maskSum else 0) = (I b).maskSum := fun b => zero_add _
  have e4 : ∀ b, (lanes (I b) ((4 : Fin 128)).val + if ((4 : Fin 128)).val = 3 then (I b).maskSum else 0) = (I b).nfg := fun b => add_zero _
  match n with
  | 0 => simp only [tail, four, e0, e4]
  | 1 => simp only [tail, four, e1, e4]
  | 2 => simp only [tail, four, e2, e4]
  | 3 => simp only [tail, four, e3, e4]

end Cert.Loss
-- ==== Proof.lean ====
/- The kernel's and the reference's frames, and their equality over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Read
public import proofs.«01_k».proof.Proof.Pre
public import proofs.«01_k».proof.Proof.Main
public import Idealize.ShloMosaic.Lib.Quiescent
public import Idealize.ShloMosaic.Adequacy
public import Idealize.ShloMosaic.Init

@[expose] public section

noncomputable section

namespace Cert.Proof

open Idealize.ShloMosaic Idealize.SL.Sem Cert.Loss

/-- The reference runs, leaves its arguments alone and declares no counter. -/
theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩)
    (Cert.ReferenceIdeal.Value.run (F := Ideal) m g)

/-- On memories that agree, both programs end holding the same four losses. -/
theorem algebraic : Cert.algebraic_KernelIdeal_ReferenceIdeal_pre_proper_inputs
    (hKernelIdeal := Cert.KernelIdeal.Gen.facts) (hReferenceIdeal := Cert.ReferenceIdeal.Gen.facts) (hPre_proper_inputs := Cert.Pre_proper_inputs.facts) := by
  intro m g m' g' hpre hagree
  refine ⟨fun c => Cert.KernelIdeal.Gen.W5 m g c (Proc.devRef .tc Cert.KernelIdeal.main_v40), Cert.KernelIdeal.Gen.value_run m g, ?_⟩
  refine (θ_run (Cert.ReferenceIdeal.defs (F := Ideal)) _ _).mono (fun r h c => ⟨?_, (h c).2⟩) (Cert.ReferenceIdeal.Value.run (F := Ideal) m' g')
  rw [(h c).1, Cert.ReferenceIdeal.Read.val_main_v532_eq]
  obtain ⟨a0, a1, a2, a3, a4, a5⟩ := hagree c
  obtain ⟨e0, e1, e2, e3, e4, e5⟩ := hpre c
  have hc := Cert.Pre_proper_inputs.class_lt _ _ _ _ _ _ e4
  have hg := Cert.Pre_proper_inputs.img_good _ _ _ _ _ _ hc e0 e1 e2 e3 e5
  have hA : Cert.KernelIdeal.Gen.Args m c (Cert.Pre_proper_inputs.img _ _ _ _ _ _ hc) :=
    ⟨fun _ _ _ => rfl, fun _ _ _ => rfl, fun _ _ _ => rfl, Cert.Pre_proper_inputs.img_class _ _ _ _ _ _ hc, fun _ _ _ => rfl, fun _ _ _ => rfl⟩
  refine funext fun j => ?_
  rw [← ix1_eta j]
  refine Eq.trans ?_ ((Cert.KernelIdeal.Gen.result_at g hg hA (j 0)).trans (tail_eq_four _ hg (j 0))).symm
  refine Cert.ReferenceIdeal.Read.r_v532 _ _ _ _ _ _ _ ?_ ?_ ?_ ?_ ?_ ?_ _
  · exact fun b i k => congrFun a0 (ix3 b i k)
  · exact fun b i k => congrFun a1 (ix3 b i k)
  · exact fun b i k => congrFun a2 (ix3 b i k)
  · exact fun b j => (congrFun a3 (ix2 b j)).trans (hA.h3 b j)
  · exact fun b i k => congrFun a4 (ix3 b i k)
  · exact fun b i k => congrFun a5 (ix3 b i k)

theorem claim : Cert.Claim := ⟨Cert.Kernel.Gen.facts, Cert.KernelIdeal.Gen.facts, Cert.ReferenceIdeal.Gen.facts, Cert.Pre_proper_inputs.facts,
  fun m g _ => Cert.Kernel.Gen.frame m g, fun m g _ => Cert.KernelIdeal.Gen.frame m g, fun m g _ => Cert.KernelIdeal.Gen.frame m g,
  frame_reference, fun m g _ => frame_reference m g trivial, trivial, algebraic⟩

end Cert.Proof

end
